-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S24x1024x2880 : Shape := ⟨3, ![24, 1024, 2880]⟩
abbrev S1440x5120 : Shape := ⟨2, ![1440, 5120]⟩
abbrev S90x5120 : Shape := ⟨2, ![90, 5120]⟩
abbrev S90x16 : Shape := ⟨2, ![90, 16]⟩
abbrev S16x5120 : Shape := ⟨2, ![16, 5120]⟩
abbrev S24x2880x1024 : Shape := ⟨3, ![24, 2880, 1024]⟩
abbrev S16x90 : Shape := ⟨2, ![16, 90]⟩
abbrev S24576x5120 : Shape := ⟨2, ![24576, 5120]⟩
abbrev S1x2880x512 : Shape := ⟨3, ![1, 2880, 512]⟩
abbrev S512x5120 : Shape := ⟨2, ![512, 5120]⟩
abbrev S2816x5120 : Shape := ⟨2, ![2816, 5120]⟩
abbrev S256x5120 : Shape := ⟨2, ![256, 5120]⟩
abbrev S2880x128 : Shape := ⟨2, ![2880, 128]⟩
abbrev S128x256 : Shape := ⟨2, ![128, 256]⟩
abbrev S16x512 : Shape := ⟨2, ![16, 512]⟩
abbrev S32x512 : Shape := ⟨2, ![32, 512]⟩
abbrev S1x512 : Shape := ⟨2, ![1, 512]⟩
abbrev S176x512 : Shape := ⟨2, ![176, 512]⟩
abbrev S2880x512 : Shape := ⟨2, ![2880, 512]⟩
abbrev S512x2880 : Shape := ⟨2, ![512, 2880]⟩
abbrev S512x128 : Shape := ⟨2, ![512, 128]⟩
abbrev S512x256 : Shape := ⟨2, ![512, 256]⟩
abbrev S512x64 : Shape := ⟨2, ![512, 64]⟩
abbrev S512x192 : Shape := ⟨2, ![512, 192]⟩
abbrev S512x2816 : Shape := ⟨2, ![512, 2816]⟩
abbrev S2816x512 : Shape := ⟨2, ![2816, 512]⟩
abbrev S512x512 : Shape := ⟨2, ![512, 512]⟩
abbrev S256x512 : Shape := ⟨2, ![256, 512]⟩
abbrev S24x1024x5120 : Shape := ⟨3, ![24, 1024, 5120]⟩

abbrev nBuf : Space → Nat
  | .hbm => 10
  | .vmem => 13
  | .smem => 0
  | _ => 0

abbrev bufTy : (tb : Table) → Fin (tcTables nBuf tb) → BufTy
  | .hbm, ⟨0, _⟩ => ⟨S24x1024x2880, .bf16⟩
  | .hbm, ⟨1, _⟩ => ⟨S1440x5120, .i8⟩
  | .hbm, ⟨2, _⟩ => ⟨S90x5120, .bf16⟩
  | .hbm, ⟨3, _⟩ => ⟨S90x5120, .i8⟩
  | .hbm, ⟨4, _⟩ => ⟨S90x16, .bf16⟩
  | .hbm, ⟨5, _⟩ => ⟨S16x5120, .bf16⟩
  | .hbm, ⟨6, _⟩ => ⟨S24x2880x1024, .bf16⟩
  | .hbm, ⟨7, _⟩ => ⟨S16x90, .bf16⟩
  | .hbm, ⟨8, _⟩ => ⟨S24576x5120, .bf16⟩
  | .hbm, ⟨9, _⟩ => ⟨S24x1024x5120, .bf16⟩
  | .local _ .vmem, ⟨0, _⟩ => ⟨S1x2880x512, .bf16⟩
  | .local _ .vmem, ⟨1, _⟩ => ⟨S1x2880x512, .bf16⟩
  | .local _ .vmem, ⟨2, _⟩ => ⟨S1440x5120, .i8⟩
  | .local _ .vmem, ⟨3, _⟩ => ⟨S90x5120, .bf16⟩
  | .local _ .vmem, ⟨4, _⟩ => ⟨S90x5120, .i8⟩
  | .local _ .vmem, ⟨5, _⟩ => ⟨S16x90, .bf16⟩
  | .local _ .vmem, ⟨6, _⟩ => ⟨S16x5120, .bf16⟩
  | .local _ .vmem, ⟨7, _⟩ => ⟨S512x5120, .bf16⟩
  | .local _ .vmem, ⟨8, _⟩ => ⟨S512x5120, .bf16⟩
  | .local _ .vmem, ⟨9, _⟩ => ⟨S2816x5120, .bf16⟩
  | .local _ .vmem, ⟨10, _⟩ => ⟨S256x5120, .bf16⟩
  | .local _ .vmem, ⟨11, _⟩ => ⟨S2880x128, .bf16⟩
  | .local _ .vmem, ⟨12, _⟩ => ⟨S128x256, .bf16⟩
  | _, _ => ⟨S24x1024x2880, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_scratch3 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![48], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_81 : BitVec 32 := 0#32
  let c10_i32 : BitVec 32 := 10#32
  let v99 : BitVec 32 := Scalar.addi c0_i32_81 c10_i32
  let c1_i32 : BitVec 32 := 1#32
  ⟨c0_i32_81, v99, c1_i32⟩
def k0_mult1 (k0_t1 : Fin k0_t1_loop.trips) : BitVec 32 :=
  let c0_i32_101 : BitVec 32 := 0#32
  let c0_i32_81 : BitVec 32 := 0#32
  let c1_i32 : BitVec 32 := 1#32
  let arg12 : BitVec 32 := Scf.iv c0_i32_81 c1_i32 k0_t1
  let c1_i32_100 : BitVec 32 := 1#32
  let v144 : BitVec 32 := Scalar.muli arg12 c1_i32_100
  let v145 : BitVec 32 := Scalar.addi c0_i32_101 v144
  let c512_i32 : BitVec 32 := 512#32
  let v146 : BitVec 32 := Scalar.muli v145 c512_i32
  v146
def k0_off1 (k0_t1 : Fin k0_t1_loop.trips) : Fin 2 → Nat :=
  let c0_102 : Index := 0#32
  let c0_i32_101 : BitVec 32 := 0#32
  let c0_i32_81 : BitVec 32 := 0#32
  let c1_i32 : BitVec 32 := 1#32
  let arg12 : BitVec 32 := Scf.iv c0_i32_81 c1_i32 k0_t1
  let c1_i32_100 : BitVec 32 := 1#32
  let v144 : BitVec 32 := Scalar.muli arg12 c1_i32_100
  let v145 : BitVec 32 := Scalar.addi c0_i32_101 v144
  let c512_i32 : BitVec 32 := 512#32
  let v146 : BitVec 32 := Scalar.muli v145 c512_i32
  let v147 : BitVec 32 := v146
  let v148 : Index := Scalar.indexCast v147
  ![0, v148.toNat]
def k0_off2 (k0_t1 : Fin k0_t1_loop.trips) : Fin 2 → Nat :=
  let c0_104 : Index := 0#32
  let c0_i32_101 : BitVec 32 := 0#32
  let c0_i32_81 : BitVec 32 := 0#32
  let c1_i32 : BitVec 32 := 1#32
  let arg12 : BitVec 32 := Scf.iv c0_i32_81 c1_i32 k0_t1
  let c1_i32_100 : BitVec 32 := 1#32
  let v144 : BitVec 32 := Scalar.muli arg12 c1_i32_100
  let v145 : BitVec 32 := Scalar.addi c0_i32_101 v144
  let c512_i32 : BitVec 32 := 512#32
  let v146 : BitVec 32 := Scalar.muli v145 c512_i32
  let v147 : BitVec 32 := v146
  let v163 : Index := Scalar.indexCast v147
  ![0, v163.toNat]
def k0_off3 (k0_t1 : Fin k0_t1_loop.trips) : Fin 2 → Nat :=
  let c0_106 : Index := 0#32
  let c0_i32_101 : BitVec 32 := 0#32
  let c0_i32_81 : BitVec 32 := 0#32
  let c1_i32 : BitVec 32 := 1#32
  let arg12 : BitVec 32 := Scf.iv c0_i32_81 c1_i32 k0_t1
  let c1_i32_100 : BitVec 32 := 1#32
  let v144 : BitVec 32 := Scalar.muli arg12 c1_i32_100
  let v145 : BitVec 32 := Scalar.addi c0_i32_101 v144
  let c512_i32 : BitVec 32 := 512#32
  let v146 : BitVec 32 := Scalar.muli v145 c512_i32
  let v147 : BitVec 32 := v146
  let v174 : Index := Scalar.indexCast v147
  ![0, v174.toNat]
def k0_off4 (k0_t1 : Fin k0_t1_loop.trips) : Fin 2 → Nat :=
  let c16 : Index := 16#32
  let c0_i32_101 : BitVec 32 := 0#32
  let c0_i32_81 : BitVec 32 := 0#32
  let c1_i32 : BitVec 32 := 1#32
  let arg12 : BitVec 32 := Scf.iv c0_i32_81 c1_i32 k0_t1
  let c1_i32_100 : BitVec 32 := 1#32
  let v144 : BitVec 32 := Scalar.muli arg12 c1_i32_100
  let v145 : BitVec 32 := Scalar.addi c0_i32_101 v144
  let c512_i32 : BitVec 32 := 512#32
  let v146 : BitVec 32 := Scalar.muli v145 c512_i32
  let v147 : BitVec 32 := v146
  let v178 : Index := Scalar.indexCast v147
  ![16, v178.toNat]
def k0_off5 (k0_t1 : Fin k0_t1_loop.trips) : Fin 2 → Nat :=
  let c1 : Index := 1#32
  let c0_i32_101 : BitVec 32 := 0#32
  let c0_i32_81 : BitVec 32 := 0#32
  let c1_i32 : BitVec 32 := 1#32
  let arg12 : BitVec 32 := Scf.iv c0_i32_81 c1_i32 k0_t1
  let c1_i32_100 : BitVec 32 := 1#32
  let v144 : BitVec 32 := Scalar.muli arg12 c1_i32_100
  let v145 : BitVec 32 := Scalar.addi c0_i32_101 v144
  let c512_i32 : BitVec 32 := 512#32
  let v146 : BitVec 32 := Scalar.muli v145 c512_i32
  let v147 : BitVec 32 := v146
  let v193 : Index := Scalar.indexCast v147
  ![1, v193.toNat]
def k0_off6 (k0_t1 : Fin k0_t1_loop.trips) : Fin 2 → Nat :=
  let c32 : Index := 32#32
  let c0_i32_101 : BitVec 32 := 0#32
  let c0_i32_81 : BitVec 32 := 0#32
  let c1_i32 : BitVec 32 := 1#32
  let arg12 : BitVec 32 := Scf.iv c0_i32_81 c1_i32 k0_t1
  let c1_i32_100 : BitVec 32 := 1#32
  let v144 : BitVec 32 := Scalar.muli arg12 c1_i32_100
  let v145 : BitVec 32 := Scalar.addi c0_i32_101 v144
  let c512_i32 : BitVec 32 := 512#32
  let v146 : BitVec 32 := Scalar.muli v145 c512_i32
  let v147 : BitVec 32 := v146
  let v204 : Index := Scalar.indexCast v147
  ![32, v204.toNat]
def k0_off7 (k0_t1 : Fin k0_t1_loop.trips) : Fin 2 → Nat :=
  let c32_113 : Index := 32#32
  let c0_i32_101 : BitVec 32 := 0#32
  let c0_i32_81 : BitVec 32 := 0#32
  let c1_i32 : BitVec 32 := 1#32
  let arg12 : BitVec 32 := Scf.iv c0_i32_81 c1_i32 k0_t1
  let c1_i32_100 : BitVec 32 := 1#32
  let v144 : BitVec 32 := Scalar.muli arg12 c1_i32_100
  let v145 : BitVec 32 := Scalar.addi c0_i32_101 v144
  let c512_i32 : BitVec 32 := 512#32
  let v146 : BitVec 32 := Scalar.muli v145 c512_i32
  let v147 : BitVec 32 := v146
  let v208 : Index := Scalar.indexCast v147
  ![32, v208.toNat]
def k0_off8 (k0_t1 : Fin k0_t1_loop.trips) : Fin 2 → Nat :=
  let c2 : Index := 2#32
  let c0_i32_101 : BitVec 32 := 0#32
  let c0_i32_81 : BitVec 32 := 0#32
  let c1_i32 : BitVec 32 := 1#32
  let arg12 : BitVec 32 := Scf.iv c0_i32_81 c1_i32 k0_t1
  let c1_i32_100 : BitVec 32 := 1#32
  let v144 : BitVec 32 := Scalar.muli arg12 c1_i32_100
  let v145 : BitVec 32 := Scalar.addi c0_i32_101 v144
  let c512_i32 : BitVec 32 := 512#32
  let v146 : BitVec 32 := Scalar.muli v145 c512_i32
  let v147 : BitVec 32 := v146
  let v223 : Index := Scalar.indexCast v147
  ![2, v223.toNat]
def k0_off9 (k0_t1 : Fin k0_t1_loop.trips) : Fin 2 → Nat :=
  let c64 : Index := 64#32
  let c0_i32_101 : BitVec 32 := 0#32
  let c0_i32_81 : BitVec 32 := 0#32
  let c1_i32 : BitVec 32 := 1#32
  let arg12 : BitVec 32 := Scf.iv c0_i32_81 c1_i32 k0_t1
  let c1_i32_100 : BitVec 32 := 1#32
  let v144 : BitVec 32 := Scalar.muli arg12 c1_i32_100
  let v145 : BitVec 32 := Scalar.addi c0_i32_101 v144
  let c512_i32 : BitVec 32 := 512#32
  let v146 : BitVec 32 := Scalar.muli v145 c512_i32
  let v147 : BitVec 32 := v146
  let v234 : Index := Scalar.indexCast v147
  ![64, v234.toNat]
def k0_off10 (k0_t1 : Fin k0_t1_loop.trips) : Fin 2 → Nat :=
  let c48 : Index := 48#32
  let c0_i32_101 : BitVec 32 := 0#32
  let c0_i32_81 : BitVec 32 := 0#32
  let c1_i32 : BitVec 32 := 1#32
  let arg12 : BitVec 32 := Scf.iv c0_i32_81 c1_i32 k0_t1
  let c1_i32_100 : BitVec 32 := 1#32
  let v144 : BitVec 32 := Scalar.muli arg12 c1_i32_100
  let v145 : BitVec 32 := Scalar.addi c0_i32_101 v144
  let c512_i32 : BitVec 32 := 512#32
  let v146 : BitVec 32 := Scalar.muli v145 c512_i32
  let v147 : BitVec 32 := v146
  let v238 : Index := Scalar.indexCast v147
  ![48, v238.toNat]
def k0_off11 (k0_t1 : Fin k0_t1_loop.trips) : Fin 2 → Nat :=
  let c3 : Index := 3#32
  let c0_i32_101 : BitVec 32 := 0#32
  let c0_i32_81 : BitVec 32 := 0#32
  let c1_i32 : BitVec 32 := 1#32
  let arg12 : BitVec 32 := Scf.iv c0_i32_81 c1_i32 k0_t1
  let c1_i32_100 : BitVec 32 := 1#32
  let v144 : BitVec 32 := Scalar.muli arg12 c1_i32_100
  let v145 : BitVec 32 := Scalar.addi c0_i32_101 v144
  let c512_i32 : BitVec 32 := 512#32
  let v146 : BitVec 32 := Scalar.muli v145 c512_i32
  let v147 : BitVec 32 := v146
  let v253 : Index := Scalar.indexCast v147
  ![3, v253.toNat]
def k0_off12 (k0_t1 : Fin k0_t1_loop.trips) : Fin 2 → Nat :=
  let c96 : Index := 96#32
  let c0_i32_101 : BitVec 32 := 0#32
  let c0_i32_81 : BitVec 32 := 0#32
  let c1_i32 : BitVec 32 := 1#32
  let arg12 : BitVec 32 := Scf.iv c0_i32_81 c1_i32 k0_t1
  let c1_i32_100 : BitVec 32 := 1#32
  let v144 : BitVec 32 := Scalar.muli arg12 c1_i32_100
  let v145 : BitVec 32 := Scalar.addi c0_i32_101 v144
  let c512_i32 : BitVec 32 := 512#32
  let v146 : BitVec 32 := Scalar.muli v145 c512_i32
  let v147 : BitVec 32 := v146
  let v264 : Index := Scalar.indexCast v147
  ![96, v264.toNat]
def k0_off13 (k0_t1 : Fin k0_t1_loop.trips) : Fin 2 → Nat :=
  let c64_126 : Index := 64#32
  let c0_i32_101 : BitVec 32 := 0#32
  let c0_i32_81 : BitVec 32 := 0#32
  let c1_i32 : BitVec 32 := 1#32
  let arg12 : BitVec 32 := Scf.iv c0_i32_81 c1_i32 k0_t1
  let c1_i32_100 : BitVec 32 := 1#32
  let v144 : BitVec 32 := Scalar.muli arg12 c1_i32_100
  let v145 : BitVec 32 := Scalar.addi c0_i32_101 v144
  let c512_i32 : BitVec 32 := 512#32
  let v146 : BitVec 32 := Scalar.muli v145 c512_i32
  let v147 : BitVec 32 := v146
  let v268 : Index := Scalar.indexCast v147
  ![64, v268.toNat]
def k0_off14 (k0_t1 : Fin k0_t1_loop.trips) : Fin 2 → Nat :=
  let c4 : Index := 4#32
  let c0_i32_101 : BitVec 32 := 0#32
  let c0_i32_81 : BitVec 32 := 0#32
  let c1_i32 : BitVec 32 := 1#32
  let arg12 : BitVec 32 := Scf.iv c0_i32_81 c1_i32 k0_t1
  let c1_i32_100 : BitVec 32 := 1#32
  let v144 : BitVec 32 := Scalar.muli arg12 c1_i32_100
  let v145 : BitVec 32 := Scalar.addi c0_i32_101 v144
  let c512_i32 : BitVec 32 := 512#32
  let v146 : BitVec 32 := Scalar.muli v145 c512_i32
  let v147 : BitVec 32 := v146
  let v283 : Index := Scalar.indexCast v147
  ![4, v283.toNat]
def k0_off15 (k0_t1 : Fin k0_t1_loop.trips) : Fin 2 → Nat :=
  let c128 : Index := 128#32
  let c0_i32_101 : BitVec 32 := 0#32
  let c0_i32_81 : BitVec 32 := 0#32
  let c1_i32 : BitVec 32 := 1#32
  let arg12 : BitVec 32 := Scf.iv c0_i32_81 c1_i32 k0_t1
  let c1_i32_100 : BitVec 32 := 1#32
  let v144 : BitVec 32 := Scalar.muli arg12 c1_i32_100
  let v145 : BitVec 32 := Scalar.addi c0_i32_101 v144
  let c512_i32 : BitVec 32 := 512#32
  let v146 : BitVec 32 := Scalar.muli v145 c512_i32
  let v147 : BitVec 32 := v146
  let v294 : Index := Scalar.indexCast v147
  ![128, v294.toNat]
def k0_off16 (k0_t1 : Fin k0_t1_loop.trips) : Fin 2 → Nat :=
  let c80 : Index := 80#32
  let c0_i32_101 : BitVec 32 := 0#32
  let c0_i32_81 : BitVec 32 := 0#32
  let c1_i32 : BitVec 32 := 1#32
  let arg12 : BitVec 32 := Scf.iv c0_i32_81 c1_i32 k0_t1
  let c1_i32_100 : BitVec 32 := 1#32
  let v144 : BitVec 32 := Scalar.muli arg12 c1_i32_100
  let v145 : BitVec 32 := Scalar.addi c0_i32_101 v144
  let c512_i32 : BitVec 32 := 512#32
  let v146 : BitVec 32 := Scalar.muli v145 c512_i32
  let v147 : BitVec 32 := v146
  let v298 : Index := Scalar.indexCast v147
  ![80, v298.toNat]
def k0_off17 (k0_t1 : Fin k0_t1_loop.trips) : Fin 2 → Nat :=
  let c5 : Index := 5#32
  let c0_i32_101 : BitVec 32 := 0#32
  let c0_i32_81 : BitVec 32 := 0#32
  let c1_i32 : BitVec 32 := 1#32
  let arg12 : BitVec 32 := Scf.iv c0_i32_81 c1_i32 k0_t1
  let c1_i32_100 : BitVec 32 := 1#32
  let v144 : BitVec 32 := Scalar.muli arg12 c1_i32_100
  let v145 : BitVec 32 := Scalar.addi c0_i32_101 v144
  let c512_i32 : BitVec 32 := 512#32
  let v146 : BitVec 32 := Scalar.muli v145 c512_i32
  let v147 : BitVec 32 := v146
  let v313 : Index := Scalar.indexCast v147
  ![5, v313.toNat]
def k0_off18 (k0_t1 : Fin k0_t1_loop.trips) : Fin 2 → Nat :=
  let c160 : Index := 160#32
  let c0_i32_101 : BitVec 32 := 0#32
  let c0_i32_81 : BitVec 32 := 0#32
  let c1_i32 : BitVec 32 := 1#32
  let arg12 : BitVec 32 := Scf.iv c0_i32_81 c1_i32 k0_t1
  let c1_i32_100 : BitVec 32 := 1#32
  let v144 : BitVec 32 := Scalar.muli arg12 c1_i32_100
  let v145 : BitVec 32 := Scalar.addi c0_i32_101 v144
  let c512_i32 : BitVec 32 := 512#32
  let v146 : BitVec 32 := Scalar.muli v145 c512_i32
  let v147 : BitVec 32 := v146
  let v324 : Index := Scalar.indexCast v147
  ![160, v324.toNat]
def k0_off19 (k0_t1 : Fin k0_t1_loop.trips) : Fin 2 → Nat :=
  let c96_139 : Index := 96#32
  let c0_i32_101 : BitVec 32 := 0#32
  let c0_i32_81 : BitVec 32 := 0#32
  let c1_i32 : BitVec 32 := 1#32
  let arg12 : BitVec 32 := Scf.iv c0_i32_81 c1_i32 k0_t1
  let c1_i32_100 : BitVec 32 := 1#32
  let v144 : BitVec 32 := Scalar.muli arg12 c1_i32_100
  let v145 : BitVec 32 := Scalar.addi c0_i32_101 v144
  let c512_i32 : BitVec 32 := 512#32
  let v146 : BitVec 32 := Scalar.muli v145 c512_i32
  let v147 : BitVec 32 := v146
  let v328 : Index := Scalar.indexCast v147
  ![96, v328.toNat]
def k0_off20 (k0_t1 : Fin k0_t1_loop.trips) : Fin 2 → Nat :=
  let c6 : Index := 6#32
  let c0_i32_101 : BitVec 32 := 0#32
  let c0_i32_81 : BitVec 32 := 0#32
  let c1_i32 : BitVec 32 := 1#32
  let arg12 : BitVec 32 := Scf.iv c0_i32_81 c1_i32 k0_t1
  let c1_i32_100 : BitVec 32 := 1#32
  let v144 : BitVec 32 := Scalar.muli arg12 c1_i32_100
  let v145 : BitVec 32 := Scalar.addi c0_i32_101 v144
  let c512_i32 : BitVec 32 := 512#32
  let v146 : BitVec 32 := Scalar.muli v145 c512_i32
  let v147 : BitVec 32 := v146
  let v343 : Index := Scalar.indexCast v147
  ![6, v343.toNat]
def k0_off21 (k0_t1 : Fin k0_t1_loop.trips) : Fin 2 → Nat :=
  let c192 : Index := 192#32
  let c0_i32_101 : BitVec 32 := 0#32
  let c0_i32_81 : BitVec 32 := 0#32
  let c1_i32 : BitVec 32 := 1#32
  let arg12 : BitVec 32 := Scf.iv c0_i32_81 c1_i32 k0_t1
  let c1_i32_100 : BitVec 32 := 1#32
  let v144 : BitVec 32 := Scalar.muli arg12 c1_i32_100
  let v145 : BitVec 32 := Scalar.addi c0_i32_101 v144
  let c512_i32 : BitVec 32 := 512#32
  let v146 : BitVec 32 := Scalar.muli v145 c512_i32
  let v147 : BitVec 32 := v146
  let v354 : Index := Scalar.indexCast v147
  ![192, v354.toNat]
def k0_off22 (k0_t1 : Fin k0_t1_loop.trips) : Fin 2 → Nat :=
  let c112 : Index := 112#32
  let c0_i32_101 : BitVec 32 := 0#32
  let c0_i32_81 : BitVec 32 := 0#32
  let c1_i32 : BitVec 32 := 1#32
  let arg12 : BitVec 32 := Scf.iv c0_i32_81 c1_i32 k0_t1
  let c1_i32_100 : BitVec 32 := 1#32
  let v144 : BitVec 32 := Scalar.muli arg12 c1_i32_100
  let v145 : BitVec 32 := Scalar.addi c0_i32_101 v144
  let c512_i32 : BitVec 32 := 512#32
  let v146 : BitVec 32 := Scalar.muli v145 c512_i32
  let v147 : BitVec 32 := v146
  let v358 : Index := Scalar.indexCast v147
  ![112, v358.toNat]
def k0_off23 (k0_t1 : Fin k0_t1_loop.trips) : Fin 2 → Nat :=
  let c7 : Index := 7#32
  let c0_i32_101 : BitVec 32 := 0#32
  let c0_i32_81 : BitVec 32 := 0#32
  let c1_i32 : BitVec 32 := 1#32
  let arg12 : BitVec 32 := Scf.iv c0_i32_81 c1_i32 k0_t1
  let c1_i32_100 : BitVec 32 := 1#32
  let v144 : BitVec 32 := Scalar.muli arg12 c1_i32_100
  let v145 : BitVec 32 := Scalar.addi c0_i32_101 v144
  let c512_i32 : BitVec 32 := 512#32
  let v146 : BitVec 32 := Scalar.muli v145 c512_i32
  let v147 : BitVec 32 := v146
  let v373 : Index := Scalar.indexCast v147
  ![7, v373.toNat]
def k0_off24 (k0_t1 : Fin k0_t1_loop.trips) : Fin 2 → Nat :=
  let c224 : Index := 224#32
  let c0_i32_101 : BitVec 32 := 0#32
  let c0_i32_81 : BitVec 32 := 0#32
  let c1_i32 : BitVec 32 := 1#32
  let arg12 : BitVec 32 := Scf.iv c0_i32_81 c1_i32 k0_t1
  let c1_i32_100 : BitVec 32 := 1#32
  let v144 : BitVec 32 := Scalar.muli arg12 c1_i32_100
  let v145 : BitVec 32 := Scalar.addi c0_i32_101 v144
  let c512_i32 : BitVec 32 := 512#32
  let v146 : BitVec 32 := Scalar.muli v145 c512_i32
  let v147 : BitVec 32 := v146
  let v384 : Index := Scalar.indexCast v147
  ![224, v384.toNat]
def k0_off25 (k0_t1 : Fin k0_t1_loop.trips) : Fin 2 → Nat :=
  let c128_152 : Index := 128#32
  let c0_i32_101 : BitVec 32 := 0#32
  let c0_i32_81 : BitVec 32 := 0#32
  let c1_i32 : BitVec 32 := 1#32
  let arg12 : BitVec 32 := Scf.iv c0_i32_81 c1_i32 k0_t1
  let c1_i32_100 : BitVec 32 := 1#32
  let v144 : BitVec 32 := Scalar.muli arg12 c1_i32_100
  let v145 : BitVec 32 := Scalar.addi c0_i32_101 v144
  let c512_i32 : BitVec 32 := 512#32
  let v146 : BitVec 32 := Scalar.muli v145 c512_i32
  let v147 : BitVec 32 := v146
  let v388 : Index := Scalar.indexCast v147
  ![128, v388.toNat]
def k0_off26 (k0_t1 : Fin k0_t1_loop.trips) : Fin 2 → Nat :=
  let c8 : Index := 8#32
  let c0_i32_101 : BitVec 32 := 0#32
  let c0_i32_81 : BitVec 32 := 0#32
  let c1_i32 : BitVec 32 := 1#32
  let arg12 : BitVec 32 := Scf.iv c0_i32_81 c1_i32 k0_t1
  let c1_i32_100 : BitVec 32 := 1#32
  let v144 : BitVec 32 := Scalar.muli arg12 c1_i32_100
  let v145 : BitVec 32 := Scalar.addi c0_i32_101 v144
  let c512_i32 : BitVec 32 := 512#32
  let v146 : BitVec 32 := Scalar.muli v145 c512_i32
  let v147 : BitVec 32 := v146
  let v403 : Index := Scalar.indexCast v147
  ![8, v403.toNat]
def k0_off27 (k0_t1 : Fin k0_t1_loop.trips) : Fin 2 → Nat :=
  let c256 : Index := 256#32
  let c0_i32_101 : BitVec 32 := 0#32
  let c0_i32_81 : BitVec 32 := 0#32
  let c1_i32 : BitVec 32 := 1#32
  let arg12 : BitVec 32 := Scf.iv c0_i32_81 c1_i32 k0_t1
  let c1_i32_100 : BitVec 32 := 1#32
  let v144 : BitVec 32 := Scalar.muli arg12 c1_i32_100
  let v145 : BitVec 32 := Scalar.addi c0_i32_101 v144
  let c512_i32 : BitVec 32 := 512#32
  let v146 : BitVec 32 := Scalar.muli v145 c512_i32
  let v147 : BitVec 32 := v146
  let v414 : Index := Scalar.indexCast v147
  ![256, v414.toNat]
def k0_off28 (k0_t1 : Fin k0_t1_loop.trips) : Fin 2 → Nat :=
  let c144 : Index := 144#32
  let c0_i32_101 : BitVec 32 := 0#32
  let c0_i32_81 : BitVec 32 := 0#32
  let c1_i32 : BitVec 32 := 1#32
  let arg12 : BitVec 32 := Scf.iv c0_i32_81 c1_i32 k0_t1
  let c1_i32_100 : BitVec 32 := 1#32
  let v144 : BitVec 32 := Scalar.muli arg12 c1_i32_100
  let v145 : BitVec 32 := Scalar.addi c0_i32_101 v144
  let c512_i32 : BitVec 32 := 512#32
  let v146 : BitVec 32 := Scalar.muli v145 c512_i32
  let v147 : BitVec 32 := v146
  let v418 : Index := Scalar.indexCast v147
  ![144, v418.toNat]
def k0_off29 (k0_t1 : Fin k0_t1_loop.trips) : Fin 2 → Nat :=
  let c9 : Index := 9#32
  let c0_i32_101 : BitVec 32 := 0#32
  let c0_i32_81 : BitVec 32 := 0#32
  let c1_i32 : BitVec 32 := 1#32
  let arg12 : BitVec 32 := Scf.iv c0_i32_81 c1_i32 k0_t1
  let c1_i32_100 : BitVec 32 := 1#32
  let v144 : BitVec 32 := Scalar.muli arg12 c1_i32_100
  let v145 : BitVec 32 := Scalar.addi c0_i32_101 v144
  let c512_i32 : BitVec 32 := 512#32
  let v146 : BitVec 32 := Scalar.muli v145 c512_i32
  let v147 : BitVec 32 := v146
  let v433 : Index := Scalar.indexCast v147
  ![9, v433.toNat]
def k0_off30 (k0_t1 : Fin k0_t1_loop.trips) : Fin 2 → Nat :=
  let c288 : Index := 288#32
  let c0_i32_101 : BitVec 32 := 0#32
  let c0_i32_81 : BitVec 32 := 0#32
  let c1_i32 : BitVec 32 := 1#32
  let arg12 : BitVec 32 := Scf.iv c0_i32_81 c1_i32 k0_t1
  let c1_i32_100 : BitVec 32 := 1#32
  let v144 : BitVec 32 := Scalar.muli arg12 c1_i32_100
  let v145 : BitVec 32 := Scalar.addi c0_i32_101 v144
  let c512_i32 : BitVec 32 := 512#32
  let v146 : BitVec 32 := Scalar.muli v145 c512_i32
  let v147 : BitVec 32 := v146
  let v444 : Index := Scalar.indexCast v147
  ![288, v444.toNat]
def k0_off31 (k0_t1 : Fin k0_t1_loop.trips) : Fin 2 → Nat :=
  let c160_165 : Index := 160#32
  let c0_i32_101 : BitVec 32 := 0#32
  let c0_i32_81 : BitVec 32 := 0#32
  let c1_i32 : BitVec 32 := 1#32
  let arg12 : BitVec 32 := Scf.iv c0_i32_81 c1_i32 k0_t1
  let c1_i32_100 : BitVec 32 := 1#32
  let v144 : BitVec 32 := Scalar.muli arg12 c1_i32_100
  let v145 : BitVec 32 := Scalar.addi c0_i32_101 v144
  let c512_i32 : BitVec 32 := 512#32
  let v146 : BitVec 32 := Scalar.muli v145 c512_i32
  let v147 : BitVec 32 := v146
  let v448 : Index := Scalar.indexCast v147
  ![160, v448.toNat]
def k0_off32 (k0_t1 : Fin k0_t1_loop.trips) : Fin 2 → Nat :=
  let c10 : Index := 10#32
  let c0_i32_101 : BitVec 32 := 0#32
  let c0_i32_81 : BitVec 32 := 0#32
  let c1_i32 : BitVec 32 := 1#32
  let arg12 : BitVec 32 := Scf.iv c0_i32_81 c1_i32 k0_t1
  let c1_i32_100 : BitVec 32 := 1#32
  let v144 : BitVec 32 := Scalar.muli arg12 c1_i32_100
  let v145 : BitVec 32 := Scalar.addi c0_i32_101 v144
  let c512_i32 : BitVec 32 := 512#32
  let v146 : BitVec 32 := Scalar.muli v145 c512_i32
  let v147 : BitVec 32 := v146
  let v463 : Index := Scalar.indexCast v147
  ![10, v463.toNat]
def k0_off33 (k0_t1 : Fin k0_t1_loop.trips) : Fin 2 → Nat :=
  let c320 : Index := 320#32
  let c0_i32_101 : BitVec 32 := 0#32
  let c0_i32_81 : BitVec 32 := 0#32
  let c1_i32 : BitVec 32 := 1#32
  let arg12 : BitVec 32 := Scf.iv c0_i32_81 c1_i32 k0_t1
  let c1_i32_100 : BitVec 32 := 1#32
  let v144 : BitVec 32 := Scalar.muli arg12 c1_i32_100
  let v145 : BitVec 32 := Scalar.addi c0_i32_101 v144
  let c512_i32 : BitVec 32 := 512#32
  let v146 : BitVec 32 := Scalar.muli v145 c512_i32
  let v147 : BitVec 32 := v146
  let v474 : Index := Scalar.indexCast v147
  ![320, v474.toNat]
def k0_off34 (k0_t1 : Fin k0_t1_loop.trips) : Fin 2 → Nat :=
  let c176 : Index := 176#32
  let c0_i32_101 : BitVec 32 := 0#32
  let c0_i32_81 : BitVec 32 := 0#32
  let c1_i32 : BitVec 32 := 1#32
  let arg12 : BitVec 32 := Scf.iv c0_i32_81 c1_i32 k0_t1
  let c1_i32_100 : BitVec 32 := 1#32
  let v144 : BitVec 32 := Scalar.muli arg12 c1_i32_100
  let v145 : BitVec 32 := Scalar.addi c0_i32_101 v144
  let c512_i32 : BitVec 32 := 512#32
  let v146 : BitVec 32 := Scalar.muli v145 c512_i32
  let v147 : BitVec 32 := v146
  let v478 : Index := Scalar.indexCast v147
  ![176, v478.toNat]
def k0_off35 (k0_t1 : Fin k0_t1_loop.trips) : Fin 2 → Nat :=
  let c11 : Index := 11#32
  let c0_i32_101 : BitVec 32 := 0#32
  let c0_i32_81 : BitVec 32 := 0#32
  let c1_i32 : BitVec 32 := 1#32
  let arg12 : BitVec 32 := Scf.iv c0_i32_81 c1_i32 k0_t1
  let c1_i32_100 : BitVec 32 := 1#32
  let v144 : BitVec 32 := Scalar.muli arg12 c1_i32_100
  let v145 : BitVec 32 := Scalar.addi c0_i32_101 v144
  let c512_i32 : BitVec 32 := 512#32
  let v146 : BitVec 32 := Scalar.muli v145 c512_i32
  let v147 : BitVec 32 := v146
  let v493 : Index := Scalar.indexCast v147
  ![11, v493.toNat]
def k0_off36 (k0_t1 : Fin k0_t1_loop.trips) : Fin 2 → Nat :=
  let c352 : Index := 352#32
  let c0_i32_101 : BitVec 32 := 0#32
  let c0_i32_81 : BitVec 32 := 0#32
  let c1_i32 : BitVec 32 := 1#32
  let arg12 : BitVec 32 := Scf.iv c0_i32_81 c1_i32 k0_t1
  let c1_i32_100 : BitVec 32 := 1#32
  let v144 : BitVec 32 := Scalar.muli arg12 c1_i32_100
  let v145 : BitVec 32 := Scalar.addi c0_i32_101 v144
  let c512_i32 : BitVec 32 := 512#32
  let v146 : BitVec 32 := Scalar.muli v145 c512_i32
  let v147 : BitVec 32 := v146
  let v504 : Index := Scalar.indexCast v147
  ![352, v504.toNat]
def k0_off37 (k0_t1 : Fin k0_t1_loop.trips) : Fin 2 → Nat :=
  let c192_178 : Index := 192#32
  let c0_i32_101 : BitVec 32 := 0#32
  let c0_i32_81 : BitVec 32 := 0#32
  let c1_i32 : BitVec 32 := 1#32
  let arg12 : BitVec 32 := Scf.iv c0_i32_81 c1_i32 k0_t1
  let c1_i32_100 : BitVec 32 := 1#32
  let v144 : BitVec 32 := Scalar.muli arg12 c1_i32_100
  let v145 : BitVec 32 := Scalar.addi c0_i32_101 v144
  let c512_i32 : BitVec 32 := 512#32
  let v146 : BitVec 32 := Scalar.muli v145 c512_i32
  let v147 : BitVec 32 := v146
  let v508 : Index := Scalar.indexCast v147
  ![192, v508.toNat]
def k0_off38 (k0_t1 : Fin k0_t1_loop.trips) : Fin 2 → Nat :=
  let c12 : Index := 12#32
  let c0_i32_101 : BitVec 32 := 0#32
  let c0_i32_81 : BitVec 32 := 0#32
  let c1_i32 : BitVec 32 := 1#32
  let arg12 : BitVec 32 := Scf.iv c0_i32_81 c1_i32 k0_t1
  let c1_i32_100 : BitVec 32 := 1#32
  let v144 : BitVec 32 := Scalar.muli arg12 c1_i32_100
  let v145 : BitVec 32 := Scalar.addi c0_i32_101 v144
  let c512_i32 : BitVec 32 := 512#32
  let v146 : BitVec 32 := Scalar.muli v145 c512_i32
  let v147 : BitVec 32 := v146
  let v523 : Index := Scalar.indexCast v147
  ![12, v523.toNat]
def k0_off39 (k0_t1 : Fin k0_t1_loop.trips) : Fin 2 → Nat :=
  let c384 : Index := 384#32
  let c0_i32_101 : BitVec 32 := 0#32
  let c0_i32_81 : BitVec 32 := 0#32
  let c1_i32 : BitVec 32 := 1#32
  let arg12 : BitVec 32 := Scf.iv c0_i32_81 c1_i32 k0_t1
  let c1_i32_100 : BitVec 32 := 1#32
  let v144 : BitVec 32 := Scalar.muli arg12 c1_i32_100
  let v145 : BitVec 32 := Scalar.addi c0_i32_101 v144
  let c512_i32 : BitVec 32 := 512#32
  let v146 : BitVec 32 := Scalar.muli v145 c512_i32
  let v147 : BitVec 32 := v146
  let v534 : Index := Scalar.indexCast v147
  ![384, v534.toNat]
def k0_off40 (k0_t1 : Fin k0_t1_loop.trips) : Fin 2 → Nat :=
  let c208 : Index := 208#32
  let c0_i32_101 : BitVec 32 := 0#32
  let c0_i32_81 : BitVec 32 := 0#32
  let c1_i32 : BitVec 32 := 1#32
  let arg12 : BitVec 32 := Scf.iv c0_i32_81 c1_i32 k0_t1
  let c1_i32_100 : BitVec 32 := 1#32
  let v144 : BitVec 32 := Scalar.muli arg12 c1_i32_100
  let v145 : BitVec 32 := Scalar.addi c0_i32_101 v144
  let c512_i32 : BitVec 32 := 512#32
  let v146 : BitVec 32 := Scalar.muli v145 c512_i32
  let v147 : BitVec 32 := v146
  let v538 : Index := Scalar.indexCast v147
  ![208, v538.toNat]
def k0_off41 (k0_t1 : Fin k0_t1_loop.trips) : Fin 2 → Nat :=
  let c13 : Index := 13#32
  let c0_i32_101 : BitVec 32 := 0#32
  let c0_i32_81 : BitVec 32 := 0#32
  let c1_i32 : BitVec 32 := 1#32
  let arg12 : BitVec 32 := Scf.iv c0_i32_81 c1_i32 k0_t1
  let c1_i32_100 : BitVec 32 := 1#32
  let v144 : BitVec 32 := Scalar.muli arg12 c1_i32_100
  let v145 : BitVec 32 := Scalar.addi c0_i32_101 v144
  let c512_i32 : BitVec 32 := 512#32
  let v146 : BitVec 32 := Scalar.muli v145 c512_i32
  let v147 : BitVec 32 := v146
  let v553 : Index := Scalar.indexCast v147
  ![13, v553.toNat]
def k0_off42 (k0_t1 : Fin k0_t1_loop.trips) : Fin 2 → Nat :=
  let c416 : Index := 416#32
  let c0_i32_101 : BitVec 32 := 0#32
  let c0_i32_81 : BitVec 32 := 0#32
  let c1_i32 : BitVec 32 := 1#32
  let arg12 : BitVec 32 := Scf.iv c0_i32_81 c1_i32 k0_t1
  let c1_i32_100 : BitVec 32 := 1#32
  let v144 : BitVec 32 := Scalar.muli arg12 c1_i32_100
  let v145 : BitVec 32 := Scalar.addi c0_i32_101 v144
  let c512_i32 : BitVec 32 := 512#32
  let v146 : BitVec 32 := Scalar.muli v145 c512_i32
  let v147 : BitVec 32 := v146
  let v564 : Index := Scalar.indexCast v147
  ![416, v564.toNat]
def k0_off43 (k0_t1 : Fin k0_t1_loop.trips) : Fin 2 → Nat :=
  let c224_191 : Index := 224#32
  let c0_i32_101 : BitVec 32 := 0#32
  let c0_i32_81 : BitVec 32 := 0#32
  let c1_i32 : BitVec 32 := 1#32
  let arg12 : BitVec 32 := Scf.iv c0_i32_81 c1_i32 k0_t1
  let c1_i32_100 : BitVec 32 := 1#32
  let v144 : BitVec 32 := Scalar.muli arg12 c1_i32_100
  let v145 : BitVec 32 := Scalar.addi c0_i32_101 v144
  let c512_i32 : BitVec 32 := 512#32
  let v146 : BitVec 32 := Scalar.muli v145 c512_i32
  let v147 : BitVec 32 := v146
  let v568 : Index := Scalar.indexCast v147
  ![224, v568.toNat]
def k0_off44 (k0_t1 : Fin k0_t1_loop.trips) : Fin 2 → Nat :=
  let c14 : Index := 14#32
  let c0_i32_101 : BitVec 32 := 0#32
  let c0_i32_81 : BitVec 32 := 0#32
  let c1_i32 : BitVec 32 := 1#32
  let arg12 : BitVec 32 := Scf.iv c0_i32_81 c1_i32 k0_t1
  let c1_i32_100 : BitVec 32 := 1#32
  let v144 : BitVec 32 := Scalar.muli arg12 c1_i32_100
  let v145 : BitVec 32 := Scalar.addi c0_i32_101 v144
  let c512_i32 : BitVec 32 := 512#32
  let v146 : BitVec 32 := Scalar.muli v145 c512_i32
  let v147 : BitVec 32 := v146
  let v583 : Index := Scalar.indexCast v147
  ![14, v583.toNat]
def k0_off45 (k0_t1 : Fin k0_t1_loop.trips) : Fin 2 → Nat :=
  let c448 : Index := 448#32
  let c0_i32_101 : BitVec 32 := 0#32
  let c0_i32_81 : BitVec 32 := 0#32
  let c1_i32 : BitVec 32 := 1#32
  let arg12 : BitVec 32 := Scf.iv c0_i32_81 c1_i32 k0_t1
  let c1_i32_100 : BitVec 32 := 1#32
  let v144 : BitVec 32 := Scalar.muli arg12 c1_i32_100
  let v145 : BitVec 32 := Scalar.addi c0_i32_101 v144
  let c512_i32 : BitVec 32 := 512#32
  let v146 : BitVec 32 := Scalar.muli v145 c512_i32
  let v147 : BitVec 32 := v146
  let v594 : Index := Scalar.indexCast v147
  ![448, v594.toNat]
def k0_off46 (k0_t1 : Fin k0_t1_loop.trips) : Fin 2 → Nat :=
  let c240 : Index := 240#32
  let c0_i32_101 : BitVec 32 := 0#32
  let c0_i32_81 : BitVec 32 := 0#32
  let c1_i32 : BitVec 32 := 1#32
  let arg12 : BitVec 32 := Scf.iv c0_i32_81 c1_i32 k0_t1
  let c1_i32_100 : BitVec 32 := 1#32
  let v144 : BitVec 32 := Scalar.muli arg12 c1_i32_100
  let v145 : BitVec 32 := Scalar.addi c0_i32_101 v144
  let c512_i32 : BitVec 32 := 512#32
  let v146 : BitVec 32 := Scalar.muli v145 c512_i32
  let v147 : BitVec 32 := v146
  let v598 : Index := Scalar.indexCast v147
  ![240, v598.toNat]
def k0_off47 (k0_t1 : Fin k0_t1_loop.trips) : Fin 2 → Nat :=
  let c15 : Index := 15#32
  let c0_i32_101 : BitVec 32 := 0#32
  let c0_i32_81 : BitVec 32 := 0#32
  let c1_i32 : BitVec 32 := 1#32
  let arg12 : BitVec 32 := Scf.iv c0_i32_81 c1_i32 k0_t1
  let c1_i32_100 : BitVec 32 := 1#32
  let v144 : BitVec 32 := Scalar.muli arg12 c1_i32_100
  let v145 : BitVec 32 := Scalar.addi c0_i32_101 v144
  let c512_i32 : BitVec 32 := 512#32
  let v146 : BitVec 32 := Scalar.muli v145 c512_i32
  let v147 : BitVec 32 := v146
  let v613 : Index := Scalar.indexCast v147
  ![15, v613.toNat]
def k0_off48 (k0_t1 : Fin k0_t1_loop.trips) : Fin 2 → Nat :=
  let c480 : Index := 480#32
  let c0_i32_101 : BitVec 32 := 0#32
  let c0_i32_81 : BitVec 32 := 0#32
  let c1_i32 : BitVec 32 := 1#32
  let arg12 : BitVec 32 := Scf.iv c0_i32_81 c1_i32 k0_t1
  let c1_i32_100 : BitVec 32 := 1#32
  let v144 : BitVec 32 := Scalar.muli arg12 c1_i32_100
  let v145 : BitVec 32 := Scalar.addi c0_i32_101 v144
  let c512_i32 : BitVec 32 := 512#32
  let v146 : BitVec 32 := Scalar.muli v145 c512_i32
  let v147 : BitVec 32 := v146
  let v624 : Index := Scalar.indexCast v147
  ![480, v624.toNat]
def k0_off49 (k0_t1 : Fin k0_t1_loop.trips) : Fin 2 → Nat :=
  let c256_204 : Index := 256#32
  let c0_i32_101 : BitVec 32 := 0#32
  let c0_i32_81 : BitVec 32 := 0#32
  let c1_i32 : BitVec 32 := 1#32
  let arg12 : BitVec 32 := Scf.iv c0_i32_81 c1_i32 k0_t1
  let c1_i32_100 : BitVec 32 := 1#32
  let v144 : BitVec 32 := Scalar.muli arg12 c1_i32_100
  let v145 : BitVec 32 := Scalar.addi c0_i32_101 v144
  let c512_i32 : BitVec 32 := 512#32
  let v146 : BitVec 32 := Scalar.muli v145 c512_i32
  let v147 : BitVec 32 := v146
  let v628 : Index := Scalar.indexCast v147
  ![256, v628.toNat]
def k0_off50 (k0_t1 : Fin k0_t1_loop.trips) : Fin 2 → Nat :=
  let c16_210 : Index := 16#32
  let c0_i32_101 : BitVec 32 := 0#32
  let c0_i32_81 : BitVec 32 := 0#32
  let c1_i32 : BitVec 32 := 1#32
  let arg12 : BitVec 32 := Scf.iv c0_i32_81 c1_i32 k0_t1
  let c1_i32_100 : BitVec 32 := 1#32
  let v144 : BitVec 32 := Scalar.muli arg12 c1_i32_100
  let v145 : BitVec 32 := Scalar.addi c0_i32_101 v144
  let c512_i32 : BitVec 32 := 512#32
  let v146 : BitVec 32 := Scalar.muli v145 c512_i32
  let v147 : BitVec 32 := v146
  let v643 : Index := Scalar.indexCast v147
  ![16, v643.toNat]
def k0_off51 (k0_t1 : Fin k0_t1_loop.trips) : Fin 2 → Nat :=
  let c512_212 : Index := 512#32
  let c0_i32_101 : BitVec 32 := 0#32
  let c0_i32_81 : BitVec 32 := 0#32
  let c1_i32 : BitVec 32 := 1#32
  let arg12 : BitVec 32 := Scf.iv c0_i32_81 c1_i32 k0_t1
  let c1_i32_100 : BitVec 32 := 1#32
  let v144 : BitVec 32 := Scalar.muli arg12 c1_i32_100
  let v145 : BitVec 32 := Scalar.addi c0_i32_101 v144
  let c512_i32 : BitVec 32 := 512#32
  let v146 : BitVec 32 := Scalar.muli v145 c512_i32
  let v147 : BitVec 32 := v146
  let v654 : Index := Scalar.indexCast v147
  ![512, v654.toNat]
def k0_off52 (k0_t1 : Fin k0_t1_loop.trips) : Fin 2 → Nat :=
  let c272 : Index := 272#32
  let c0_i32_101 : BitVec 32 := 0#32
  let c0_i32_81 : BitVec 32 := 0#32
  let c1_i32 : BitVec 32 := 1#32
  let arg12 : BitVec 32 := Scf.iv c0_i32_81 c1_i32 k0_t1
  let c1_i32_100 : BitVec 32 := 1#32
  let v144 : BitVec 32 := Scalar.muli arg12 c1_i32_100
  let v145 : BitVec 32 := Scalar.addi c0_i32_101 v144
  let c512_i32 : BitVec 32 := 512#32
  let v146 : BitVec 32 := Scalar.muli v145 c512_i32
  let v147 : BitVec 32 := v146
  let v658 : Index := Scalar.indexCast v147
  ![272, v658.toNat]
def k0_off53 (k0_t1 : Fin k0_t1_loop.trips) : Fin 2 → Nat :=
  let c17 : Index := 17#32
  let c0_i32_101 : BitVec 32 := 0#32
  let c0_i32_81 : BitVec 32 := 0#32
  let c1_i32 : BitVec 32 := 1#32
  let arg12 : BitVec 32 := Scf.iv c0_i32_81 c1_i32 k0_t1
  let c1_i32_100 : BitVec 32 := 1#32
  let v144 : BitVec 32 := Scalar.muli arg12 c1_i32_100
  let v145 : BitVec 32 := Scalar.addi c0_i32_101 v144
  let c512_i32 : BitVec 32 := 512#32
  let v146 : BitVec 32 := Scalar.muli v145 c512_i32
  let v147 : BitVec 32 := v146
  let v673 : Index := Scalar.indexCast v147
  ![17, v673.toNat]
def k0_off54 (k0_t1 : Fin k0_t1_loop.trips) : Fin 2 → Nat :=
  let c544 : Index := 544#32
  let c0_i32_101 : BitVec 32 := 0#32
  let c0_i32_81 : BitVec 32 := 0#32
  let c1_i32 : BitVec 32 := 1#32
  let arg12 : BitVec 32 := Scf.iv c0_i32_81 c1_i32 k0_t1
  let c1_i32_100 : BitVec 32 := 1#32
  let v144 : BitVec 32 := Scalar.muli arg12 c1_i32_100
  let v145 : BitVec 32 := Scalar.addi c0_i32_101 v144
  let c512_i32 : BitVec 32 := 512#32
  let v146 : BitVec 32 := Scalar.muli v145 c512_i32
  let v147 : BitVec 32 := v146
  let v684 : Index := Scalar.indexCast v147
  ![544, v684.toNat]
def k0_off55 (k0_t1 : Fin k0_t1_loop.trips) : Fin 2 → Nat :=
  let c288_219 : Index := 288#32
  let c0_i32_101 : BitVec 32 := 0#32
  let c0_i32_81 : BitVec 32 := 0#32
  let c1_i32 : BitVec 32 := 1#32
  let arg12 : BitVec 32 := Scf.iv c0_i32_81 c1_i32 k0_t1
  let c1_i32_100 : BitVec 32 := 1#32
  let v144 : BitVec 32 := Scalar.muli arg12 c1_i32_100
  let v145 : BitVec 32 := Scalar.addi c0_i32_101 v144
  let c512_i32 : BitVec 32 := 512#32
  let v146 : BitVec 32 := Scalar.muli v145 c512_i32
  let v147 : BitVec 32 := v146
  let v688 : Index := Scalar.indexCast v147
  ![288, v688.toNat]
def k0_off56 (k0_t1 : Fin k0_t1_loop.trips) : Fin 2 → Nat :=
  let c18 : Index := 18#32
  let c0_i32_101 : BitVec 32 := 0#32
  let c0_i32_81 : BitVec 32 := 0#32
  let c1_i32 : BitVec 32 := 1#32
  let arg12 : BitVec 32 := Scf.iv c0_i32_81 c1_i32 k0_t1
  let c1_i32_100 : BitVec 32 := 1#32
  let v144 : BitVec 32 := Scalar.muli arg12 c1_i32_100
  let v145 : BitVec 32 := Scalar.addi c0_i32_101 v144
  let c512_i32 : BitVec 32 := 512#32
  let v146 : BitVec 32 := Scalar.muli v145 c512_i32
  let v147 : BitVec 32 := v146
  let v703 : Index := Scalar.indexCast v147
  ![18, v703.toNat]
def k0_off57 (k0_t1 : Fin k0_t1_loop.trips) : Fin 2 → Nat :=
  let c576 : Index := 576#32
  let c0_i32_101 : BitVec 32 := 0#32
  let c0_i32_81 : BitVec 32 := 0#32
  let c1_i32 : BitVec 32 := 1#32
  let arg12 : BitVec 32 := Scf.iv c0_i32_81 c1_i32 k0_t1
  let c1_i32_100 : BitVec 32 := 1#32
  let v144 : BitVec 32 := Scalar.muli arg12 c1_i32_100
  let v145 : BitVec 32 := Scalar.addi c0_i32_101 v144
  let c512_i32 : BitVec 32 := 512#32
  let v146 : BitVec 32 := Scalar.muli v145 c512_i32
  let v147 : BitVec 32 := v146
  let v714 : Index := Scalar.indexCast v147
  ![576, v714.toNat]
def k0_off58 (k0_t1 : Fin k0_t1_loop.trips) : Fin 2 → Nat :=
  let c304 : Index := 304#32
  let c0_i32_101 : BitVec 32 := 0#32
  let c0_i32_81 : BitVec 32 := 0#32
  let c1_i32 : BitVec 32 := 1#32
  let arg12 : BitVec 32 := Scf.iv c0_i32_81 c1_i32 k0_t1
  let c1_i32_100 : BitVec 32 := 1#32
  let v144 : BitVec 32 := Scalar.muli arg12 c1_i32_100
  let v145 : BitVec 32 := Scalar.addi c0_i32_101 v144
  let c512_i32 : BitVec 32 := 512#32
  let v146 : BitVec 32 := Scalar.muli v145 c512_i32
  let v147 : BitVec 32 := v146
  let v718 : Index := Scalar.indexCast v147
  ![304, v718.toNat]
def k0_off59 (k0_t1 : Fin k0_t1_loop.trips) : Fin 2 → Nat :=
  let c19 : Index := 19#32
  let c0_i32_101 : BitVec 32 := 0#32
  let c0_i32_81 : BitVec 32 := 0#32
  let c1_i32 : BitVec 32 := 1#32
  let arg12 : BitVec 32 := Scf.iv c0_i32_81 c1_i32 k0_t1
  let c1_i32_100 : BitVec 32 := 1#32
  let v144 : BitVec 32 := Scalar.muli arg12 c1_i32_100
  let v145 : BitVec 32 := Scalar.addi c0_i32_101 v144
  let c512_i32 : BitVec 32 := 512#32
  let v146 : BitVec 32 := Scalar.muli v145 c512_i32
  let v147 : BitVec 32 := v146
  let v733 : Index := Scalar.indexCast v147
  ![19, v733.toNat]
def k0_off60 (k0_t1 : Fin k0_t1_loop.trips) : Fin 2 → Nat :=
  let c608 : Index := 608#32
  let c0_i32_101 : BitVec 32 := 0#32
  let c0_i32_81 : BitVec 32 := 0#32
  let c1_i32 : BitVec 32 := 1#32
  let arg12 : BitVec 32 := Scf.iv c0_i32_81 c1_i32 k0_t1
  let c1_i32_100 : BitVec 32 := 1#32
  let v144 : BitVec 32 := Scalar.muli arg12 c1_i32_100
  let v145 : BitVec 32 := Scalar.addi c0_i32_101 v144
  let c512_i32 : BitVec 32 := 512#32
  let v146 : BitVec 32 := Scalar.muli v145 c512_i32
  let v147 : BitVec 32 := v146
  let v744 : Index := Scalar.indexCast v147
  ![608, v744.toNat]
def k0_off61 (k0_t1 : Fin k0_t1_loop.trips) : Fin 2 → Nat :=
  let c320_232 : Index := 320#32
  let c0_i32_101 : BitVec 32 := 0#32
  let c0_i32_81 : BitVec 32 := 0#32
  let c1_i32 : BitVec 32 := 1#32
  let arg12 : BitVec 32 := Scf.iv c0_i32_81 c1_i32 k0_t1
  let c1_i32_100 : BitVec 32 := 1#32
  let v144 : BitVec 32 := Scalar.muli arg12 c1_i32_100
  let v145 : BitVec 32 := Scalar.addi c0_i32_101 v144
  let c512_i32 : BitVec 32 := 512#32
  let v146 : BitVec 32 := Scalar.muli v145 c512_i32
  let v147 : BitVec 32 := v146
  let v748 : Index := Scalar.indexCast v147
  ![320, v748.toNat]
def k0_off62 (k0_t1 : Fin k0_t1_loop.trips) : Fin 2 → Nat :=
  let c20 : Index := 20#32
  let c0_i32_101 : BitVec 32 := 0#32
  let c0_i32_81 : BitVec 32 := 0#32
  let c1_i32 : BitVec 32 := 1#32
  let arg12 : BitVec 32 := Scf.iv c0_i32_81 c1_i32 k0_t1
  let c1_i32_100 : BitVec 32 := 1#32
  let v144 : BitVec 32 := Scalar.muli arg12 c1_i32_100
  let v145 : BitVec 32 := Scalar.addi c0_i32_101 v144
  let c512_i32 : BitVec 32 := 512#32
  let v146 : BitVec 32 := Scalar.muli v145 c512_i32
  let v147 : BitVec 32 := v146
  let v763 : Index := Scalar.indexCast v147
  ![20, v763.toNat]
def k0_off63 (k0_t1 : Fin k0_t1_loop.trips) : Fin 2 → Nat :=
  let c640 : Index := 640#32
  let c0_i32_101 : BitVec 32 := 0#32
  let c0_i32_81 : BitVec 32 := 0#32
  let c1_i32 : BitVec 32 := 1#32
  let arg12 : BitVec 32 := Scf.iv c0_i32_81 c1_i32 k0_t1
  let c1_i32_100 : BitVec 32 := 1#32
  let v144 : BitVec 32 := Scalar.muli arg12 c1_i32_100
  let v145 : BitVec 32 := Scalar.addi c0_i32_101 v144
  let c512_i32 : BitVec 32 := 512#32
  let v146 : BitVec 32 := Scalar.muli v145 c512_i32
  let v147 : BitVec 32 := v146
  let v774 : Index := Scalar.indexCast v147
  ![640, v774.toNat]
def k0_off64 (k0_t1 : Fin k0_t1_loop.trips) : Fin 2 → Nat :=
  let c336 : Index := 336#32
  let c0_i32_101 : BitVec 32 := 0#32
  let c0_i32_81 : BitVec 32 := 0#32
  let c1_i32 : BitVec 32 := 1#32
  let arg12 : BitVec 32 := Scf.iv c0_i32_81 c1_i32 k0_t1
  let c1_i32_100 : BitVec 32 := 1#32
  let v144 : BitVec 32 := Scalar.muli arg12 c1_i32_100
  let v145 : BitVec 32 := Scalar.addi c0_i32_101 v144
  let c512_i32 : BitVec 32 := 512#32
  let v146 : BitVec 32 := Scalar.muli v145 c512_i32
  let v147 : BitVec 32 := v146
  let v778 : Index := Scalar.indexCast v147
  ![336, v778.toNat]
def k0_off65 (k0_t1 : Fin k0_t1_loop.trips) : Fin 2 → Nat :=
  let c21 : Index := 21#32
  let c0_i32_101 : BitVec 32 := 0#32
  let c0_i32_81 : BitVec 32 := 0#32
  let c1_i32 : BitVec 32 := 1#32
  let arg12 : BitVec 32 := Scf.iv c0_i32_81 c1_i32 k0_t1
  let c1_i32_100 : BitVec 32 := 1#32
  let v144 : BitVec 32 := Scalar.muli arg12 c1_i32_100
  let v145 : BitVec 32 := Scalar.addi c0_i32_101 v144
  let c512_i32 : BitVec 32 := 512#32
  let v146 : BitVec 32 := Scalar.muli v145 c512_i32
  let v147 : BitVec 32 := v146
  let v793 : Index := Scalar.indexCast v147
  ![21, v793.toNat]
def k0_off66 (k0_t1 : Fin k0_t1_loop.trips) : Fin 2 → Nat :=
  let c672 : Index := 672#32
  let c0_i32_101 : BitVec 32 := 0#32
  let c0_i32_81 : BitVec 32 := 0#32
  let c1_i32 : BitVec 32 := 1#32
  let arg12 : BitVec 32 := Scf.iv c0_i32_81 c1_i32 k0_t1
  let c1_i32_100 : BitVec 32 := 1#32
  let v144 : BitVec 32 := Scalar.muli arg12 c1_i32_100
  let v145 : BitVec 32 := Scalar.addi c0_i32_101 v144
  let c512_i32 : BitVec 32 := 512#32
  let v146 : BitVec 32 := Scalar.muli v145 c512_i32
  let v147 : BitVec 32 := v146
  let v804 : Index := Scalar.indexCast v147
  ![672, v804.toNat]
def k0_off67 (k0_t1 : Fin k0_t1_loop.trips) : Fin 2 → Nat :=
  let c352_245 : Index := 352#32
  let c0_i32_101 : BitVec 32 := 0#32
  let c0_i32_81 : BitVec 32 := 0#32
  let c1_i32 : BitVec 32 := 1#32
  let arg12 : BitVec 32 := Scf.iv c0_i32_81 c1_i32 k0_t1
  let c1_i32_100 : BitVec 32 := 1#32
  let v144 : BitVec 32 := Scalar.muli arg12 c1_i32_100
  let v145 : BitVec 32 := Scalar.addi c0_i32_101 v144
  let c512_i32 : BitVec 32 := 512#32
  let v146 : BitVec 32 := Scalar.muli v145 c512_i32
  let v147 : BitVec 32 := v146
  let v808 : Index := Scalar.indexCast v147
  ![352, v808.toNat]
def k0_off68 (k0_t1 : Fin k0_t1_loop.trips) : Fin 2 → Nat :=
  let c22 : Index := 22#32
  let c0_i32_101 : BitVec 32 := 0#32
  let c0_i32_81 : BitVec 32 := 0#32
  let c1_i32 : BitVec 32 := 1#32
  let arg12 : BitVec 32 := Scf.iv c0_i32_81 c1_i32 k0_t1
  let c1_i32_100 : BitVec 32 := 1#32
  let v144 : BitVec 32 := Scalar.muli arg12 c1_i32_100
  let v145 : BitVec 32 := Scalar.addi c0_i32_101 v144
  let c512_i32 : BitVec 32 := 512#32
  let v146 : BitVec 32 := Scalar.muli v145 c512_i32
  let v147 : BitVec 32 := v146
  let v823 : Index := Scalar.indexCast v147
  ![22, v823.toNat]
def k0_off69 (k0_t1 : Fin k0_t1_loop.trips) : Fin 2 → Nat :=
  let c704 : Index := 704#32
  let c0_i32_101 : BitVec 32 := 0#32
  let c0_i32_81 : BitVec 32 := 0#32
  let c1_i32 : BitVec 32 := 1#32
  let arg12 : BitVec 32 := Scf.iv c0_i32_81 c1_i32 k0_t1
  let c1_i32_100 : BitVec 32 := 1#32
  let v144 : BitVec 32 := Scalar.muli arg12 c1_i32_100
  let v145 : BitVec 32 := Scalar.addi c0_i32_101 v144
  let c512_i32 : BitVec 32 := 512#32
  let v146 : BitVec 32 := Scalar.muli v145 c512_i32
  let v147 : BitVec 32 := v146
  let v834 : Index := Scalar.indexCast v147
  ![704, v834.toNat]
def k0_off70 (k0_t1 : Fin k0_t1_loop.trips) : Fin 2 → Nat :=
  let c368 : Index := 368#32
  let c0_i32_101 : BitVec 32 := 0#32
  let c0_i32_81 : BitVec 32 := 0#32
  let c1_i32 : BitVec 32 := 1#32
  let arg12 : BitVec 32 := Scf.iv c0_i32_81 c1_i32 k0_t1
  let c1_i32_100 : BitVec 32 := 1#32
  let v144 : BitVec 32 := Scalar.muli arg12 c1_i32_100
  let v145 : BitVec 32 := Scalar.addi c0_i32_101 v144
  let c512_i32 : BitVec 32 := 512#32
  let v146 : BitVec 32 := Scalar.muli v145 c512_i32
  let v147 : BitVec 32 := v146
  let v838 : Index := Scalar.indexCast v147
  ![368, v838.toNat]
def k0_off71 (k0_t1 : Fin k0_t1_loop.trips) : Fin 2 → Nat :=
  let c23 : Index := 23#32
  let c0_i32_101 : BitVec 32 := 0#32
  let c0_i32_81 : BitVec 32 := 0#32
  let c1_i32 : BitVec 32 := 1#32
  let arg12 : BitVec 32 := Scf.iv c0_i32_81 c1_i32 k0_t1
  let c1_i32_100 : BitVec 32 := 1#32
  let v144 : BitVec 32 := Scalar.muli arg12 c1_i32_100
  let v145 : BitVec 32 := Scalar.addi c0_i32_101 v144
  let c512_i32 : BitVec 32 := 512#32
  let v146 : BitVec 32 := Scalar.muli v145 c512_i32
  let v147 : BitVec 32 := v146
  let v853 : Index := Scalar.indexCast v147
  ![23, v853.toNat]
def k0_off72 (k0_t1 : Fin k0_t1_loop.trips) : Fin 2 → Nat :=
  let c736 : Index := 736#32
  let c0_i32_101 : BitVec 32 := 0#32
  let c0_i32_81 : BitVec 32 := 0#32
  let c1_i32 : BitVec 32 := 1#32
  let arg12 : BitVec 32 := Scf.iv c0_i32_81 c1_i32 k0_t1
  let c1_i32_100 : BitVec 32 := 1#32
  let v144 : BitVec 32 := Scalar.muli arg12 c1_i32_100
  let v145 : BitVec 32 := Scalar.addi c0_i32_101 v144
  let c512_i32 : BitVec 32 := 512#32
  let v146 : BitVec 32 := Scalar.muli v145 c512_i32
  let v147 : BitVec 32 := v146
  let v864 : Index := Scalar.indexCast v147
  ![736, v864.toNat]
def k0_off73 (k0_t1 : Fin k0_t1_loop.trips) : Fin 2 → Nat :=
  let c384_258 : Index := 384#32
  let c0_i32_101 : BitVec 32 := 0#32
  let c0_i32_81 : BitVec 32 := 0#32
  let c1_i32 : BitVec 32 := 1#32
  let arg12 : BitVec 32 := Scf.iv c0_i32_81 c1_i32 k0_t1
  let c1_i32_100 : BitVec 32 := 1#32
  let v144 : BitVec 32 := Scalar.muli arg12 c1_i32_100
  let v145 : BitVec 32 := Scalar.addi c0_i32_101 v144
  let c512_i32 : BitVec 32 := 512#32
  let v146 : BitVec 32 := Scalar.muli v145 c512_i32
  let v147 : BitVec 32 := v146
  let v868 : Index := Scalar.indexCast v147
  ![384, v868.toNat]
def k0_off74 (k0_t1 : Fin k0_t1_loop.trips) : Fin 2 → Nat :=
  let c24 : Index := 24#32
  let c0_i32_101 : BitVec 32 := 0#32
  let c0_i32_81 : BitVec 32 := 0#32
  let c1_i32 : BitVec 32 := 1#32
  let arg12 : BitVec 32 := Scf.iv c0_i32_81 c1_i32 k0_t1
  let c1_i32_100 : BitVec 32 := 1#32
  let v144 : BitVec 32 := Scalar.muli arg12 c1_i32_100
  let v145 : BitVec 32 := Scalar.addi c0_i32_101 v144
  let c512_i32 : BitVec 32 := 512#32
  let v146 : BitVec 32 := Scalar.muli v145 c512_i32
  let v147 : BitVec 32 := v146
  let v883 : Index := Scalar.indexCast v147
  ![24, v883.toNat]
def k0_off75 (k0_t1 : Fin k0_t1_loop.trips) : Fin 2 → Nat :=
  let c768 : Index := 768#32
  let c0_i32_101 : BitVec 32 := 0#32
  let c0_i32_81 : BitVec 32 := 0#32
  let c1_i32 : BitVec 32 := 1#32
  let arg12 : BitVec 32 := Scf.iv c0_i32_81 c1_i32 k0_t1
  let c1_i32_100 : BitVec 32 := 1#32
  let v144 : BitVec 32 := Scalar.muli arg12 c1_i32_100
  let v145 : BitVec 32 := Scalar.addi c0_i32_101 v144
  let c512_i32 : BitVec 32 := 512#32
  let v146 : BitVec 32 := Scalar.muli v145 c512_i32
  let v147 : BitVec 32 := v146
  let v894 : Index := Scalar.indexCast v147
  ![768, v894.toNat]
def k0_off76 (k0_t1 : Fin k0_t1_loop.trips) : Fin 2 → Nat :=
  let c400 : Index := 400#32
  let c0_i32_101 : BitVec 32 := 0#32
  let c0_i32_81 : BitVec 32 := 0#32
  let c1_i32 : BitVec 32 := 1#32
  let arg12 : BitVec 32 := Scf.iv c0_i32_81 c1_i32 k0_t1
  let c1_i32_100 : BitVec 32 := 1#32
  let v144 : BitVec 32 := Scalar.muli arg12 c1_i32_100
  let v145 : BitVec 32 := Scalar.addi c0_i32_101 v144
  let c512_i32 : BitVec 32 := 512#32
  let v146 : BitVec 32 := Scalar.muli v145 c512_i32
  let v147 : BitVec 32 := v146
  let v898 : Index := Scalar.indexCast v147
  ![400, v898.toNat]
def k0_off77 (k0_t1 : Fin k0_t1_loop.trips) : Fin 2 → Nat :=
  let c25 : Index := 25#32
  let c0_i32_101 : BitVec 32 := 0#32
  let c0_i32_81 : BitVec 32 := 0#32
  let c1_i32 : BitVec 32 := 1#32
  let arg12 : BitVec 32 := Scf.iv c0_i32_81 c1_i32 k0_t1
  let c1_i32_100 : BitVec 32 := 1#32
  let v144 : BitVec 32 := Scalar.muli arg12 c1_i32_100
  let v145 : BitVec 32 := Scalar.addi c0_i32_101 v144
  let c512_i32 : BitVec 32 := 512#32
  let v146 : BitVec 32 := Scalar.muli v145 c512_i32
  let v147 : BitVec 32 := v146
  let v913 : Index := Scalar.indexCast v147
  ![25, v913.toNat]
def k0_off78 (k0_t1 : Fin k0_t1_loop.trips) : Fin 2 → Nat :=
  let c800 : Index := 800#32
  let c0_i32_101 : BitVec 32 := 0#32
  let c0_i32_81 : BitVec 32 := 0#32
  let c1_i32 : BitVec 32 := 1#32
  let arg12 : BitVec 32 := Scf.iv c0_i32_81 c1_i32 k0_t1
  let c1_i32_100 : BitVec 32 := 1#32
  let v144 : BitVec 32 := Scalar.muli arg12 c1_i32_100
  let v145 : BitVec 32 := Scalar.addi c0_i32_101 v144
  let c512_i32 : BitVec 32 := 512#32
  let v146 : BitVec 32 := Scalar.muli v145 c512_i32
  let v147 : BitVec 32 := v146
  let v924 : Index := Scalar.indexCast v147
  ![800, v924.toNat]
def k0_off79 (k0_t1 : Fin k0_t1_loop.trips) : Fin 2 → Nat :=
  let c416_271 : Index := 416#32
  let c0_i32_101 : BitVec 32 := 0#32
  let c0_i32_81 : BitVec 32 := 0#32
  let c1_i32 : BitVec 32 := 1#32
  let arg12 : BitVec 32 := Scf.iv c0_i32_81 c1_i32 k0_t1
  let c1_i32_100 : BitVec 32 := 1#32
  let v144 : BitVec 32 := Scalar.muli arg12 c1_i32_100
  let v145 : BitVec 32 := Scalar.addi c0_i32_101 v144
  let c512_i32 : BitVec 32 := 512#32
  let v146 : BitVec 32 := Scalar.muli v145 c512_i32
  let v147 : BitVec 32 := v146
  let v928 : Index := Scalar.indexCast v147
  ![416, v928.toNat]
def k0_off80 (k0_t1 : Fin k0_t1_loop.trips) : Fin 2 → Nat :=
  let c26 : Index := 26#32
  let c0_i32_101 : BitVec 32 := 0#32
  let c0_i32_81 : BitVec 32 := 0#32
  let c1_i32 : BitVec 32 := 1#32
  let arg12 : BitVec 32 := Scf.iv c0_i32_81 c1_i32 k0_t1
  let c1_i32_100 : BitVec 32 := 1#32
  let v144 : BitVec 32 := Scalar.muli arg12 c1_i32_100
  let v145 : BitVec 32 := Scalar.addi c0_i32_101 v144
  let c512_i32 : BitVec 32 := 512#32
  let v146 : BitVec 32 := Scalar.muli v145 c512_i32
  let v147 : BitVec 32 := v146
  let v943 : Index := Scalar.indexCast v147
  ![26, v943.toNat]
def k0_off81 (k0_t1 : Fin k0_t1_loop.trips) : Fin 2 → Nat :=
  let c832 : Index := 832#32
  let c0_i32_101 : BitVec 32 := 0#32
  let c0_i32_81 : BitVec 32 := 0#32
  let c1_i32 : BitVec 32 := 1#32
  let arg12 : BitVec 32 := Scf.iv c0_i32_81 c1_i32 k0_t1
  let c1_i32_100 : BitVec 32 := 1#32
  let v144 : BitVec 32 := Scalar.muli arg12 c1_i32_100
  let v145 : BitVec 32 := Scalar.addi c0_i32_101 v144
  let c512_i32 : BitVec 32 := 512#32
  let v146 : BitVec 32 := Scalar.muli v145 c512_i32
  let v147 : BitVec 32 := v146
  let v954 : Index := Scalar.indexCast v147
  ![832, v954.toNat]
def k0_off82 (k0_t1 : Fin k0_t1_loop.trips) : Fin 2 → Nat :=
  let c432 : Index := 432#32
  let c0_i32_101 : BitVec 32 := 0#32
  let c0_i32_81 : BitVec 32 := 0#32
  let c1_i32 : BitVec 32 := 1#32
  let arg12 : BitVec 32 := Scf.iv c0_i32_81 c1_i32 k0_t1
  let c1_i32_100 : BitVec 32 := 1#32
  let v144 : BitVec 32 := Scalar.muli arg12 c1_i32_100
  let v145 : BitVec 32 := Scalar.addi c0_i32_101 v144
  let c512_i32 : BitVec 32 := 512#32
  let v146 : BitVec 32 := Scalar.muli v145 c512_i32
  let v147 : BitVec 32 := v146
  let v958 : Index := Scalar.indexCast v147
  ![432, v958.toNat]
def k0_off83 (k0_t1 : Fin k0_t1_loop.trips) : Fin 2 → Nat :=
  let c27 : Index := 27#32
  let c0_i32_101 : BitVec 32 := 0#32
  let c0_i32_81 : BitVec 32 := 0#32
  let c1_i32 : BitVec 32 := 1#32
  let arg12 : BitVec 32 := Scf.iv c0_i32_81 c1_i32 k0_t1
  let c1_i32_100 : BitVec 32 := 1#32
  let v144 : BitVec 32 := Scalar.muli arg12 c1_i32_100
  let v145 : BitVec 32 := Scalar.addi c0_i32_101 v144
  let c512_i32 : BitVec 32 := 512#32
  let v146 : BitVec 32 := Scalar.muli v145 c512_i32
  let v147 : BitVec 32 := v146
  let v973 : Index := Scalar.indexCast v147
  ![27, v973.toNat]
def k0_off84 (k0_t1 : Fin k0_t1_loop.trips) : Fin 2 → Nat :=
  let c864 : Index := 864#32
  let c0_i32_101 : BitVec 32 := 0#32
  let c0_i32_81 : BitVec 32 := 0#32
  let c1_i32 : BitVec 32 := 1#32
  let arg12 : BitVec 32 := Scf.iv c0_i32_81 c1_i32 k0_t1
  let c1_i32_100 : BitVec 32 := 1#32
  let v144 : BitVec 32 := Scalar.muli arg12 c1_i32_100
  let v145 : BitVec 32 := Scalar.addi c0_i32_101 v144
  let c512_i32 : BitVec 32 := 512#32
  let v146 : BitVec 32 := Scalar.muli v145 c512_i32
  let v147 : BitVec 32 := v146
  let v984 : Index := Scalar.indexCast v147
  ![864, v984.toNat]
def k0_off85 (k0_t1 : Fin k0_t1_loop.trips) : Fin 2 → Nat :=
  let c448_284 : Index := 448#32
  let c0_i32_101 : BitVec 32 := 0#32
  let c0_i32_81 : BitVec 32 := 0#32
  let c1_i32 : BitVec 32 := 1#32
  let arg12 : BitVec 32 := Scf.iv c0_i32_81 c1_i32 k0_t1
  let c1_i32_100 : BitVec 32 := 1#32
  let v144 : BitVec 32 := Scalar.muli arg12 c1_i32_100
  let v145 : BitVec 32 := Scalar.addi c0_i32_101 v144
  let c512_i32 : BitVec 32 := 512#32
  let v146 : BitVec 32 := Scalar.muli v145 c512_i32
  let v147 : BitVec 32 := v146
  let v988 : Index := Scalar.indexCast v147
  ![448, v988.toNat]
def k0_off86 (k0_t1 : Fin k0_t1_loop.trips) : Fin 2 → Nat :=
  let c28 : Index := 28#32
  let c0_i32_101 : BitVec 32 := 0#32
  let c0_i32_81 : BitVec 32 := 0#32
  let c1_i32 : BitVec 32 := 1#32
  let arg12 : BitVec 32 := Scf.iv c0_i32_81 c1_i32 k0_t1
  let c1_i32_100 : BitVec 32 := 1#32
  let v144 : BitVec 32 := Scalar.muli arg12 c1_i32_100
  let v145 : BitVec 32 := Scalar.addi c0_i32_101 v144
  let c512_i32 : BitVec 32 := 512#32
  let v146 : BitVec 32 := Scalar.muli v145 c512_i32
  let v147 : BitVec 32 := v146
  let v1003 : Index := Scalar.indexCast v147
  ![28, v1003.toNat]
def k0_off87 (k0_t1 : Fin k0_t1_loop.trips) : Fin 2 → Nat :=
  let c896 : Index := 896#32
  let c0_i32_101 : BitVec 32 := 0#32
  let c0_i32_81 : BitVec 32 := 0#32
  let c1_i32 : BitVec 32 := 1#32
  let arg12 : BitVec 32 := Scf.iv c0_i32_81 c1_i32 k0_t1
  let c1_i32_100 : BitVec 32 := 1#32
  let v144 : BitVec 32 := Scalar.muli arg12 c1_i32_100
  let v145 : BitVec 32 := Scalar.addi c0_i32_101 v144
  let c512_i32 : BitVec 32 := 512#32
  let v146 : BitVec 32 := Scalar.muli v145 c512_i32
  let v147 : BitVec 32 := v146
  let v1014 : Index := Scalar.indexCast v147
  ![896, v1014.toNat]
def k0_off88 (k0_t1 : Fin k0_t1_loop.trips) : Fin 2 → Nat :=
  let c464 : Index := 464#32
  let c0_i32_101 : BitVec 32 := 0#32
  let c0_i32_81 : BitVec 32 := 0#32
  let c1_i32 : BitVec 32 := 1#32
  let arg12 : BitVec 32 := Scf.iv c0_i32_81 c1_i32 k0_t1
  let c1_i32_100 : BitVec 32 := 1#32
  let v144 : BitVec 32 := Scalar.muli arg12 c1_i32_100
  let v145 : BitVec 32 := Scalar.addi c0_i32_101 v144
  let c512_i32 : BitVec 32 := 512#32
  let v146 : BitVec 32 := Scalar.muli v145 c512_i32
  let v147 : BitVec 32 := v146
  let v1018 : Index := Scalar.indexCast v147
  ![464, v1018.toNat]
def k0_off89 (k0_t1 : Fin k0_t1_loop.trips) : Fin 2 → Nat :=
  let c29 : Index := 29#32
  let c0_i32_101 : BitVec 32 := 0#32
  let c0_i32_81 : BitVec 32 := 0#32
  let c1_i32 : BitVec 32 := 1#32
  let arg12 : BitVec 32 := Scf.iv c0_i32_81 c1_i32 k0_t1
  let c1_i32_100 : BitVec 32 := 1#32
  let v144 : BitVec 32 := Scalar.muli arg12 c1_i32_100
  let v145 : BitVec 32 := Scalar.addi c0_i32_101 v144
  let c512_i32 : BitVec 32 := 512#32
  let v146 : BitVec 32 := Scalar.muli v145 c512_i32
  let v147 : BitVec 32 := v146
  let v1033 : Index := Scalar.indexCast v147
  ![29, v1033.toNat]
def k0_off90 (k0_t1 : Fin k0_t1_loop.trips) : Fin 2 → Nat :=
  let c928 : Index := 928#32
  let c0_i32_101 : BitVec 32 := 0#32
  let c0_i32_81 : BitVec 32 := 0#32
  let c1_i32 : BitVec 32 := 1#32
  let arg12 : BitVec 32 := Scf.iv c0_i32_81 c1_i32 k0_t1
  let c1_i32_100 : BitVec 32 := 1#32
  let v144 : BitVec 32 := Scalar.muli arg12 c1_i32_100
  let v145 : BitVec 32 := Scalar.addi c0_i32_101 v144
  let c512_i32 : BitVec 32 := 512#32
  let v146 : BitVec 32 := Scalar.muli v145 c512_i32
  let v147 : BitVec 32 := v146
  let v1044 : Index := Scalar.indexCast v147
  ![928, v1044.toNat]
def k0_off91 (k0_t1 : Fin k0_t1_loop.trips) : Fin 2 → Nat :=
  let c480_297 : Index := 480#32
  let c0_i32_101 : BitVec 32 := 0#32
  let c0_i32_81 : BitVec 32 := 0#32
  let c1_i32 : BitVec 32 := 1#32
  let arg12 : BitVec 32 := Scf.iv c0_i32_81 c1_i32 k0_t1
  let c1_i32_100 : BitVec 32 := 1#32
  let v144 : BitVec 32 := Scalar.muli arg12 c1_i32_100
  let v145 : BitVec 32 := Scalar.addi c0_i32_101 v144
  let c512_i32 : BitVec 32 := 512#32
  let v146 : BitVec 32 := Scalar.muli v145 c512_i32
  let v147 : BitVec 32 := v146
  let v1048 : Index := Scalar.indexCast v147
  ![480, v1048.toNat]
def k0_off92 (k0_t1 : Fin k0_t1_loop.trips) : Fin 2 → Nat :=
  let c30 : Index := 30#32
  let c0_i32_101 : BitVec 32 := 0#32
  let c0_i32_81 : BitVec 32 := 0#32
  let c1_i32 : BitVec 32 := 1#32
  let arg12 : BitVec 32 := Scf.iv c0_i32_81 c1_i32 k0_t1
  let c1_i32_100 : BitVec 32 := 1#32
  let v144 : BitVec 32 := Scalar.muli arg12 c1_i32_100
  let v145 : BitVec 32 := Scalar.addi c0_i32_101 v144
  let c512_i32 : BitVec 32 := 512#32
  let v146 : BitVec 32 := Scalar.muli v145 c512_i32
  let v147 : BitVec 32 := v146
  let v1063 : Index := Scalar.indexCast v147
  ![30, v1063.toNat]
def k0_off93 (k0_t1 : Fin k0_t1_loop.trips) : Fin 2 → Nat :=
  let c960 : Index := 960#32
  let c0_i32_101 : BitVec 32 := 0#32
  let c0_i32_81 : BitVec 32 := 0#32
  let c1_i32 : BitVec 32 := 1#32
  let arg12 : BitVec 32 := Scf.iv c0_i32_81 c1_i32 k0_t1
  let c1_i32_100 : BitVec 32 := 1#32
  let v144 : BitVec 32 := Scalar.muli arg12 c1_i32_100
  let v145 : BitVec 32 := Scalar.addi c0_i32_101 v144
  let c512_i32 : BitVec 32 := 512#32
  let v146 : BitVec 32 := Scalar.muli v145 c512_i32
  let v147 : BitVec 32 := v146
  let v1074 : Index := Scalar.indexCast v147
  ![960, v1074.toNat]
def k0_off94 (k0_t1 : Fin k0_t1_loop.trips) : Fin 2 → Nat :=
  let c496 : Index := 496#32
  let c0_i32_101 : BitVec 32 := 0#32
  let c0_i32_81 : BitVec 32 := 0#32
  let c1_i32 : BitVec 32 := 1#32
  let arg12 : BitVec 32 := Scf.iv c0_i32_81 c1_i32 k0_t1
  let c1_i32_100 : BitVec 32 := 1#32
  let v144 : BitVec 32 := Scalar.muli arg12 c1_i32_100
  let v145 : BitVec 32 := Scalar.addi c0_i32_101 v144
  let c512_i32 : BitVec 32 := 512#32
  let v146 : BitVec 32 := Scalar.muli v145 c512_i32
  let v147 : BitVec 32 := v146
  let v1078 : Index := Scalar.indexCast v147
  ![496, v1078.toNat]
def k0_off95 (k0_t1 : Fin k0_t1_loop.trips) : Fin 2 → Nat :=
  let c31 : Index := 31#32
  let c0_i32_101 : BitVec 32 := 0#32
  let c0_i32_81 : BitVec 32 := 0#32
  let c1_i32 : BitVec 32 := 1#32
  let arg12 : BitVec 32 := Scf.iv c0_i32_81 c1_i32 k0_t1
  let c1_i32_100 : BitVec 32 := 1#32
  let v144 : BitVec 32 := Scalar.muli arg12 c1_i32_100
  let v145 : BitVec 32 := Scalar.addi c0_i32_101 v144
  let c512_i32 : BitVec 32 := 512#32
  let v146 : BitVec 32 := Scalar.muli v145 c512_i32
  let v147 : BitVec 32 := v146
  let v1093 : Index := Scalar.indexCast v147
  ![31, v1093.toNat]
def k0_off96 (k0_t1 : Fin k0_t1_loop.trips) : Fin 2 → Nat :=
  let c992 : Index := 992#32
  let c0_i32_101 : BitVec 32 := 0#32
  let c0_i32_81 : BitVec 32 := 0#32
  let c1_i32 : BitVec 32 := 1#32
  let arg12 : BitVec 32 := Scf.iv c0_i32_81 c1_i32 k0_t1
  let c1_i32_100 : BitVec 32 := 1#32
  let v144 : BitVec 32 := Scalar.muli arg12 c1_i32_100
  let v145 : BitVec 32 := Scalar.addi c0_i32_101 v144
  let c512_i32 : BitVec 32 := 512#32
  let v146 : BitVec 32 := Scalar.muli v145 c512_i32
  let v147 : BitVec 32 := v146
  let v1104 : Index := Scalar.indexCast v147
  ![992, v1104.toNat]
def k0_off97 (k0_t1 : Fin k0_t1_loop.trips) : Fin 2 → Nat :=
  let c512_310 : Index := 512#32
  let c0_i32_101 : BitVec 32 := 0#32
  let c0_i32_81 : BitVec 32 := 0#32
  let c1_i32 : BitVec 32 := 1#32
  let arg12 : BitVec 32 := Scf.iv c0_i32_81 c1_i32 k0_t1
  let c1_i32_100 : BitVec 32 := 1#32
  let v144 : BitVec 32 := Scalar.muli arg12 c1_i32_100
  let v145 : BitVec 32 := Scalar.addi c0_i32_101 v144
  let c512_i32 : BitVec 32 := 512#32
  let v146 : BitVec 32 := Scalar.muli v145 c512_i32
  let v147 : BitVec 32 := v146
  let v1108 : Index := Scalar.indexCast v147
  ![512, v1108.toNat]
def k0_off98 (k0_t1 : Fin k0_t1_loop.trips) : Fin 2 → Nat :=
  let c32_316 : Index := 32#32
  let c0_i32_101 : BitVec 32 := 0#32
  let c0_i32_81 : BitVec 32 := 0#32
  let c1_i32 : BitVec 32 := 1#32
  let arg12 : BitVec 32 := Scf.iv c0_i32_81 c1_i32 k0_t1
  let c1_i32_100 : BitVec 32 := 1#32
  let v144 : BitVec 32 := Scalar.muli arg12 c1_i32_100
  let v145 : BitVec 32 := Scalar.addi c0_i32_101 v144
  let c512_i32 : BitVec 32 := 512#32
  let v146 : BitVec 32 := Scalar.muli v145 c512_i32
  let v147 : BitVec 32 := v146
  let v1123 : Index := Scalar.indexCast v147
  ![32, v1123.toNat]
def k0_off99 (k0_t1 : Fin k0_t1_loop.trips) : Fin 2 → Nat :=
  let c1024_318 : Index := 1024#32
  let c0_i32_101 : BitVec 32 := 0#32
  let c0_i32_81 : BitVec 32 := 0#32
  let c1_i32 : BitVec 32 := 1#32
  let arg12 : BitVec 32 := Scf.iv c0_i32_81 c1_i32 k0_t1
  let c1_i32_100 : BitVec 32 := 1#32
  let v144 : BitVec 32 := Scalar.muli arg12 c1_i32_100
  let v145 : BitVec 32 := Scalar.addi c0_i32_101 v144
  let c512_i32 : BitVec 32 := 512#32
  let v146 : BitVec 32 := Scalar.muli v145 c512_i32
  let v147 : BitVec 32 := v146
  let v1134 : Index := Scalar.indexCast v147
  ![1024, v1134.toNat]
def k0_off100 (k0_t1 : Fin k0_t1_loop.trips) : Fin 2 → Nat :=
  let c528 : Index := 528#32
  let c0_i32_101 : BitVec 32 := 0#32
  let c0_i32_81 : BitVec 32 := 0#32
  let c1_i32 : BitVec 32 := 1#32
  let arg12 : BitVec 32 := Scf.iv c0_i32_81 c1_i32 k0_t1
  let c1_i32_100 : BitVec 32 := 1#32
  let v144 : BitVec 32 := Scalar.muli arg12 c1_i32_100
  let v145 : BitVec 32 := Scalar.addi c0_i32_101 v144
  let c512_i32 : BitVec 32 := 512#32
  let v146 : BitVec 32 := Scalar.muli v145 c512_i32
  let v147 : BitVec 32 := v146
  let v1138 : Index := Scalar.indexCast v147
  ![528, v1138.toNat]
def k0_off101 (k0_t1 : Fin k0_t1_loop.trips) : Fin 2 → Nat :=
  let c33 : Index := 33#32
  let c0_i32_101 : BitVec 32 := 0#32
  let c0_i32_81 : BitVec 32 := 0#32
  let c1_i32 : BitVec 32 := 1#32
  let arg12 : BitVec 32 := Scf.iv c0_i32_81 c1_i32 k0_t1
  let c1_i32_100 : BitVec 32 := 1#32
  let v144 : BitVec 32 := Scalar.muli arg12 c1_i32_100
  let v145 : BitVec 32 := Scalar.addi c0_i32_101 v144
  let c512_i32 : BitVec 32 := 512#32
  let v146 : BitVec 32 := Scalar.muli v145 c512_i32
  let v147 : BitVec 32 := v146
  let v1153 : Index := Scalar.indexCast v147
  ![33, v1153.toNat]
def k0_off102 (k0_t1 : Fin k0_t1_loop.trips) : Fin 2 → Nat :=
  let c1056 : Index := 1056#32
  let c0_i32_101 : BitVec 32 := 0#32
  let c0_i32_81 : BitVec 32 := 0#32
  let c1_i32 : BitVec 32 := 1#32
  let arg12 : BitVec 32 := Scf.iv c0_i32_81 c1_i32 k0_t1
  let c1_i32_100 : BitVec 32 := 1#32
  let v144 : BitVec 32 := Scalar.muli arg12 c1_i32_100
  let v145 : BitVec 32 := Scalar.addi c0_i32_101 v144
  let c512_i32 : BitVec 32 := 512#32
  let v146 : BitVec 32 := Scalar.muli v145 c512_i32
  let v147 : BitVec 32 := v146
  let v1164 : Index := Scalar.indexCast v147
  ![1056, v1164.toNat]
def k0_off103 (k0_t1 : Fin k0_t1_loop.trips) : Fin 2 → Nat :=
  let c544_325 : Index := 544#32
  let c0_i32_101 : BitVec 32 := 0#32
  let c0_i32_81 : BitVec 32 := 0#32
  let c1_i32 : BitVec 32 := 1#32
  let arg12 : BitVec 32 := Scf.iv c0_i32_81 c1_i32 k0_t1
  let c1_i32_100 : BitVec 32 := 1#32
  let v144 : BitVec 32 := Scalar.muli arg12 c1_i32_100
  let v145 : BitVec 32 := Scalar.addi c0_i32_101 v144
  let c512_i32 : BitVec 32 := 512#32
  let v146 : BitVec 32 := Scalar.muli v145 c512_i32
  let v147 : BitVec 32 := v146
  let v1168 : Index := Scalar.indexCast v147
  ![544, v1168.toNat]
def k0_off104 (k0_t1 : Fin k0_t1_loop.trips) : Fin 2 → Nat :=
  let c34 : Index := 34#32
  let c0_i32_101 : BitVec 32 := 0#32
  let c0_i32_81 : BitVec 32 := 0#32
  let c1_i32 : BitVec 32 := 1#32
  let arg12 : BitVec 32 := Scf.iv c0_i32_81 c1_i32 k0_t1
  let c1_i32_100 : BitVec 32 := 1#32
  let v144 : BitVec 32 := Scalar.muli arg12 c1_i32_100
  let v145 : BitVec 32 := Scalar.addi c0_i32_101 v144
  let c512_i32 : BitVec 32 := 512#32
  let v146 : BitVec 32 := Scalar.muli v145 c512_i32
  let v147 : BitVec 32 := v146
  let v1183 : Index := Scalar.indexCast v147
  ![34, v1183.toNat]
def k0_off105 (k0_t1 : Fin k0_t1_loop.trips) : Fin 2 → Nat :=
  let c1088 : Index := 1088#32
  let c0_i32_101 : BitVec 32 := 0#32
  let c0_i32_81 : BitVec 32 := 0#32
  let c1_i32 : BitVec 32 := 1#32
  let arg12 : BitVec 32 := Scf.iv c0_i32_81 c1_i32 k0_t1
  let c1_i32_100 : BitVec 32 := 1#32
  let v144 : BitVec 32 := Scalar.muli arg12 c1_i32_100
  let v145 : BitVec 32 := Scalar.addi c0_i32_101 v144
  let c512_i32 : BitVec 32 := 512#32
  let v146 : BitVec 32 := Scalar.muli v145 c512_i32
  let v147 : BitVec 32 := v146
  let v1194 : Index := Scalar.indexCast v147
  ![1088, v1194.toNat]
def k0_off106 (k0_t1 : Fin k0_t1_loop.trips) : Fin 2 → Nat :=
  let c560 : Index := 560#32
  let c0_i32_101 : BitVec 32 := 0#32
  let c0_i32_81 : BitVec 32 := 0#32
  let c1_i32 : BitVec 32 := 1#32
  let arg12 : BitVec 32 := Scf.iv c0_i32_81 c1_i32 k0_t1
  let c1_i32_100 : BitVec 32 := 1#32
  let v144 : BitVec 32 := Scalar.muli arg12 c1_i32_100
  let v145 : BitVec 32 := Scalar.addi c0_i32_101 v144
  let c512_i32 : BitVec 32 := 512#32
  let v146 : BitVec 32 := Scalar.muli v145 c512_i32
  let v147 : BitVec 32 := v146
  let v1198 : Index := Scalar.indexCast v147
  ![560, v1198.toNat]
def k0_off107 (k0_t1 : Fin k0_t1_loop.trips) : Fin 2 → Nat :=
  let c35 : Index := 35#32
  let c0_i32_101 : BitVec 32 := 0#32
  let c0_i32_81 : BitVec 32 := 0#32
  let c1_i32 : BitVec 32 := 1#32
  let arg12 : BitVec 32 := Scf.iv c0_i32_81 c1_i32 k0_t1
  let c1_i32_100 : BitVec 32 := 1#32
  let v144 : BitVec 32 := Scalar.muli arg12 c1_i32_100
  let v145 : BitVec 32 := Scalar.addi c0_i32_101 v144
  let c512_i32 : BitVec 32 := 512#32
  let v146 : BitVec 32 := Scalar.muli v145 c512_i32
  let v147 : BitVec 32 := v146
  let v1213 : Index := Scalar.indexCast v147
  ![35, v1213.toNat]
def k0_off108 (k0_t1 : Fin k0_t1_loop.trips) : Fin 2 → Nat :=
  let c1120 : Index := 1120#32
  let c0_i32_101 : BitVec 32 := 0#32
  let c0_i32_81 : BitVec 32 := 0#32
  let c1_i32 : BitVec 32 := 1#32
  let arg12 : BitVec 32 := Scf.iv c0_i32_81 c1_i32 k0_t1
  let c1_i32_100 : BitVec 32 := 1#32
  let v144 : BitVec 32 := Scalar.muli arg12 c1_i32_100
  let v145 : BitVec 32 := Scalar.addi c0_i32_101 v144
  let c512_i32 : BitVec 32 := 512#32
  let v146 : BitVec 32 := Scalar.muli v145 c512_i32
  let v147 : BitVec 32 := v146
  let v1224 : Index := Scalar.indexCast v147
  ![1120, v1224.toNat]
def k0_off109 (k0_t1 : Fin k0_t1_loop.trips) : Fin 2 → Nat :=
  let c576_338 : Index := 576#32
  let c0_i32_101 : BitVec 32 := 0#32
  let c0_i32_81 : BitVec 32 := 0#32
  let c1_i32 : BitVec 32 := 1#32
  let arg12 : BitVec 32 := Scf.iv c0_i32_81 c1_i32 k0_t1
  let c1_i32_100 : BitVec 32 := 1#32
  let v144 : BitVec 32 := Scalar.muli arg12 c1_i32_100
  let v145 : BitVec 32 := Scalar.addi c0_i32_101 v144
  let c512_i32 : BitVec 32 := 512#32
  let v146 : BitVec 32 := Scalar.muli v145 c512_i32
  let v147 : BitVec 32 := v146
  let v1228 : Index := Scalar.indexCast v147
  ![576, v1228.toNat]
def k0_off110 (k0_t1 : Fin k0_t1_loop.trips) : Fin 2 → Nat :=
  let c36 : Index := 36#32
  let c0_i32_101 : BitVec 32 := 0#32
  let c0_i32_81 : BitVec 32 := 0#32
  let c1_i32 : BitVec 32 := 1#32
  let arg12 : BitVec 32 := Scf.iv c0_i32_81 c1_i32 k0_t1
  let c1_i32_100 : BitVec 32 := 1#32
  let v144 : BitVec 32 := Scalar.muli arg12 c1_i32_100
  let v145 : BitVec 32 := Scalar.addi c0_i32_101 v144
  let c512_i32 : BitVec 32 := 512#32
  let v146 : BitVec 32 := Scalar.muli v145 c512_i32
  let v147 : BitVec 32 := v146
  let v1243 : Index := Scalar.indexCast v147
  ![36, v1243.toNat]
def k0_off111 (k0_t1 : Fin k0_t1_loop.trips) : Fin 2 → Nat :=
  let c1152 : Index := 1152#32
  let c0_i32_101 : BitVec 32 := 0#32
  let c0_i32_81 : BitVec 32 := 0#32
  let c1_i32 : BitVec 32 := 1#32
  let arg12 : BitVec 32 := Scf.iv c0_i32_81 c1_i32 k0_t1
  let c1_i32_100 : BitVec 32 := 1#32
  let v144 : BitVec 32 := Scalar.muli arg12 c1_i32_100
  let v145 : BitVec 32 := Scalar.addi c0_i32_101 v144
  let c512_i32 : BitVec 32 := 512#32
  let v146 : BitVec 32 := Scalar.muli v145 c512_i32
  let v147 : BitVec 32 := v146
  let v1254 : Index := Scalar.indexCast v147
  ![1152, v1254.toNat]
def k0_off112 (k0_t1 : Fin k0_t1_loop.trips) : Fin 2 → Nat :=
  let c592 : Index := 592#32
  let c0_i32_101 : BitVec 32 := 0#32
  let c0_i32_81 : BitVec 32 := 0#32
  let c1_i32 : BitVec 32 := 1#32
  let arg12 : BitVec 32 := Scf.iv c0_i32_81 c1_i32 k0_t1
  let c1_i32_100 : BitVec 32 := 1#32
  let v144 : BitVec 32 := Scalar.muli arg12 c1_i32_100
  let v145 : BitVec 32 := Scalar.addi c0_i32_101 v144
  let c512_i32 : BitVec 32 := 512#32
  let v146 : BitVec 32 := Scalar.muli v145 c512_i32
  let v147 : BitVec 32 := v146
  let v1258 : Index := Scalar.indexCast v147
  ![592, v1258.toNat]
def k0_off113 (k0_t1 : Fin k0_t1_loop.trips) : Fin 2 → Nat :=
  let c37 : Index := 37#32
  let c0_i32_101 : BitVec 32 := 0#32
  let c0_i32_81 : BitVec 32 := 0#32
  let c1_i32 : BitVec 32 := 1#32
  let arg12 : BitVec 32 := Scf.iv c0_i32_81 c1_i32 k0_t1
  let c1_i32_100 : BitVec 32 := 1#32
  let v144 : BitVec 32 := Scalar.muli arg12 c1_i32_100
  let v145 : BitVec 32 := Scalar.addi c0_i32_101 v144
  let c512_i32 : BitVec 32 := 512#32
  let v146 : BitVec 32 := Scalar.muli v145 c512_i32
  let v147 : BitVec 32 := v146
  let v1273 : Index := Scalar.indexCast v147
  ![37, v1273.toNat]
def k0_off114 (k0_t1 : Fin k0_t1_loop.trips) : Fin 2 → Nat :=
  let c1184 : Index := 1184#32
  let c0_i32_101 : BitVec 32 := 0#32
  let c0_i32_81 : BitVec 32 := 0#32
  let c1_i32 : BitVec 32 := 1#32
  let arg12 : BitVec 32 := Scf.iv c0_i32_81 c1_i32 k0_t1
  let c1_i32_100 : BitVec 32 := 1#32
  let v144 : BitVec 32 := Scalar.muli arg12 c1_i32_100
  let v145 : BitVec 32 := Scalar.addi c0_i32_101 v144
  let c512_i32 : BitVec 32 := 512#32
  let v146 : BitVec 32 := Scalar.muli v145 c512_i32
  let v147 : BitVec 32 := v146
  let v1284 : Index := Scalar.indexCast v147
  ![1184, v1284.toNat]
def k0_off115 (k0_t1 : Fin k0_t1_loop.trips) : Fin 2 → Nat :=
  let c608_351 : Index := 608#32
  let c0_i32_101 : BitVec 32 := 0#32
  let c0_i32_81 : BitVec 32 := 0#32
  let c1_i32 : BitVec 32 := 1#32
  let arg12 : BitVec 32 := Scf.iv c0_i32_81 c1_i32 k0_t1
  let c1_i32_100 : BitVec 32 := 1#32
  let v144 : BitVec 32 := Scalar.muli arg12 c1_i32_100
  let v145 : BitVec 32 := Scalar.addi c0_i32_101 v144
  let c512_i32 : BitVec 32 := 512#32
  let v146 : BitVec 32 := Scalar.muli v145 c512_i32
  let v147 : BitVec 32 := v146
  let v1288 : Index := Scalar.indexCast v147
  ![608, v1288.toNat]
def k0_off116 (k0_t1 : Fin k0_t1_loop.trips) : Fin 2 → Nat :=
  let c38 : Index := 38#32
  let c0_i32_101 : BitVec 32 := 0#32
  let c0_i32_81 : BitVec 32 := 0#32
  let c1_i32 : BitVec 32 := 1#32
  let arg12 : BitVec 32 := Scf.iv c0_i32_81 c1_i32 k0_t1
  let c1_i32_100 : BitVec 32 := 1#32
  let v144 : BitVec 32 := Scalar.muli arg12 c1_i32_100
  let v145 : BitVec 32 := Scalar.addi c0_i32_101 v144
  let c512_i32 : BitVec 32 := 512#32
  let v146 : BitVec 32 := Scalar.muli v145 c512_i32
  let v147 : BitVec 32 := v146
  let v1303 : Index := Scalar.indexCast v147
  ![38, v1303.toNat]
def k0_off117 (k0_t1 : Fin k0_t1_loop.trips) : Fin 2 → Nat :=
  let c1216 : Index := 1216#32
  let c0_i32_101 : BitVec 32 := 0#32
  let c0_i32_81 : BitVec 32 := 0#32
  let c1_i32 : BitVec 32 := 1#32
  let arg12 : BitVec 32 := Scf.iv c0_i32_81 c1_i32 k0_t1
  let c1_i32_100 : BitVec 32 := 1#32
  let v144 : BitVec 32 := Scalar.muli arg12 c1_i32_100
  let v145 : BitVec 32 := Scalar.addi c0_i32_101 v144
  let c512_i32 : BitVec 32 := 512#32
  let v146 : BitVec 32 := Scalar.muli v145 c512_i32
  let v147 : BitVec 32 := v146
  let v1314 : Index := Scalar.indexCast v147
  ![1216, v1314.toNat]
def k0_off118 (k0_t1 : Fin k0_t1_loop.trips) : Fin 2 → Nat :=
  let c624 : Index := 624#32
  let c0_i32_101 : BitVec 32 := 0#32
  let c0_i32_81 : BitVec 32 := 0#32
  let c1_i32 : BitVec 32 := 1#32
  let arg12 : BitVec 32 := Scf.iv c0_i32_81 c1_i32 k0_t1
  let c1_i32_100 : BitVec 32 := 1#32
  let v144 : BitVec 32 := Scalar.muli arg12 c1_i32_100
  let v145 : BitVec 32 := Scalar.addi c0_i32_101 v144
  let c512_i32 : BitVec 32 := 512#32
  let v146 : BitVec 32 := Scalar.muli v145 c512_i32
  let v147 : BitVec 32 := v146
  let v1318 : Index := Scalar.indexCast v147
  ![624, v1318.toNat]
def k0_off119 (k0_t1 : Fin k0_t1_loop.trips) : Fin 2 → Nat :=
  let c39 : Index := 39#32
  let c0_i32_101 : BitVec 32 := 0#32
  let c0_i32_81 : BitVec 32 := 0#32
  let c1_i32 : BitVec 32 := 1#32
  let arg12 : BitVec 32 := Scf.iv c0_i32_81 c1_i32 k0_t1
  let c1_i32_100 : BitVec 32 := 1#32
  let v144 : BitVec 32 := Scalar.muli arg12 c1_i32_100
  let v145 : BitVec 32 := Scalar.addi c0_i32_101 v144
  let c512_i32 : BitVec 32 := 512#32
  let v146 : BitVec 32 := Scalar.muli v145 c512_i32
  let v147 : BitVec 32 := v146
  let v1333 : Index := Scalar.indexCast v147
  ![39, v1333.toNat]
def k0_off120 (k0_t1 : Fin k0_t1_loop.trips) : Fin 2 → Nat :=
  let c1248 : Index := 1248#32
  let c0_i32_101 : BitVec 32 := 0#32
  let c0_i32_81 : BitVec 32 := 0#32
  let c1_i32 : BitVec 32 := 1#32
  let arg12 : BitVec 32 := Scf.iv c0_i32_81 c1_i32 k0_t1
  let c1_i32_100 : BitVec 32 := 1#32
  let v144 : BitVec 32 := Scalar.muli arg12 c1_i32_100
  let v145 : BitVec 32 := Scalar.addi c0_i32_101 v144
  let c512_i32 : BitVec 32 := 512#32
  let v146 : BitVec 32 := Scalar.muli v145 c512_i32
  let v147 : BitVec 32 := v146
  let v1344 : Index := Scalar.indexCast v147
  ![1248, v1344.toNat]
def k0_off121 (k0_t1 : Fin k0_t1_loop.trips) : Fin 2 → Nat :=
  let c640_364 : Index := 640#32
  let c0_i32_101 : BitVec 32 := 0#32
  let c0_i32_81 : BitVec 32 := 0#32
  let c1_i32 : BitVec 32 := 1#32
  let arg12 : BitVec 32 := Scf.iv c0_i32_81 c1_i32 k0_t1
  let c1_i32_100 : BitVec 32 := 1#32
  let v144 : BitVec 32 := Scalar.muli arg12 c1_i32_100
  let v145 : BitVec 32 := Scalar.addi c0_i32_101 v144
  let c512_i32 : BitVec 32 := 512#32
  let v146 : BitVec 32 := Scalar.muli v145 c512_i32
  let v147 : BitVec 32 := v146
  let v1348 : Index := Scalar.indexCast v147
  ![640, v1348.toNat]
def k0_off122 (k0_t1 : Fin k0_t1_loop.trips) : Fin 2 → Nat :=
  let c40 : Index := 40#32
  let c0_i32_101 : BitVec 32 := 0#32
  let c0_i32_81 : BitVec 32 := 0#32
  let c1_i32 : BitVec 32 := 1#32
  let arg12 : BitVec 32 := Scf.iv c0_i32_81 c1_i32 k0_t1
  let c1_i32_100 : BitVec 32 := 1#32
  let v144 : BitVec 32 := Scalar.muli arg12 c1_i32_100
  let v145 : BitVec 32 := Scalar.addi c0_i32_101 v144
  let c512_i32 : BitVec 32 := 512#32
  let v146 : BitVec 32 := Scalar.muli v145 c512_i32
  let v147 : BitVec 32 := v146
  let v1363 : Index := Scalar.indexCast v147
  ![40, v1363.toNat]
def k0_off123 (k0_t1 : Fin k0_t1_loop.trips) : Fin 2 → Nat :=
  let c1280 : Index := 1280#32
  let c0_i32_101 : BitVec 32 := 0#32
  let c0_i32_81 : BitVec 32 := 0#32
  let c1_i32 : BitVec 32 := 1#32
  let arg12 : BitVec 32 := Scf.iv c0_i32_81 c1_i32 k0_t1
  let c1_i32_100 : BitVec 32 := 1#32
  let v144 : BitVec 32 := Scalar.muli arg12 c1_i32_100
  let v145 : BitVec 32 := Scalar.addi c0_i32_101 v144
  let c512_i32 : BitVec 32 := 512#32
  let v146 : BitVec 32 := Scalar.muli v145 c512_i32
  let v147 : BitVec 32 := v146
  let v1374 : Index := Scalar.indexCast v147
  ![1280, v1374.toNat]
def k0_off124 (k0_t1 : Fin k0_t1_loop.trips) : Fin 2 → Nat :=
  let c656 : Index := 656#32
  let c0_i32_101 : BitVec 32 := 0#32
  let c0_i32_81 : BitVec 32 := 0#32
  let c1_i32 : BitVec 32 := 1#32
  let arg12 : BitVec 32 := Scf.iv c0_i32_81 c1_i32 k0_t1
  let c1_i32_100 : BitVec 32 := 1#32
  let v144 : BitVec 32 := Scalar.muli arg12 c1_i32_100
  let v145 : BitVec 32 := Scalar.addi c0_i32_101 v144
  let c512_i32 : BitVec 32 := 512#32
  let v146 : BitVec 32 := Scalar.muli v145 c512_i32
  let v147 : BitVec 32 := v146
  let v1378 : Index := Scalar.indexCast v147
  ![656, v1378.toNat]
def k0_off125 (k0_t1 : Fin k0_t1_loop.trips) : Fin 2 → Nat :=
  let c41 : Index := 41#32
  let c0_i32_101 : BitVec 32 := 0#32
  let c0_i32_81 : BitVec 32 := 0#32
  let c1_i32 : BitVec 32 := 1#32
  let arg12 : BitVec 32 := Scf.iv c0_i32_81 c1_i32 k0_t1
  let c1_i32_100 : BitVec 32 := 1#32
  let v144 : BitVec 32 := Scalar.muli arg12 c1_i32_100
  let v145 : BitVec 32 := Scalar.addi c0_i32_101 v144
  let c512_i32 : BitVec 32 := 512#32
  let v146 : BitVec 32 := Scalar.muli v145 c512_i32
  let v147 : BitVec 32 := v146
  let v1393 : Index := Scalar.indexCast v147
  ![41, v1393.toNat]
def k0_off126 (k0_t1 : Fin k0_t1_loop.trips) : Fin 2 → Nat :=
  let c1312 : Index := 1312#32
  let c0_i32_101 : BitVec 32 := 0#32
  let c0_i32_81 : BitVec 32 := 0#32
  let c1_i32 : BitVec 32 := 1#32
  let arg12 : BitVec 32 := Scf.iv c0_i32_81 c1_i32 k0_t1
  let c1_i32_100 : BitVec 32 := 1#32
  let v144 : BitVec 32 := Scalar.muli arg12 c1_i32_100
  let v145 : BitVec 32 := Scalar.addi c0_i32_101 v144
  let c512_i32 : BitVec 32 := 512#32
  let v146 : BitVec 32 := Scalar.muli v145 c512_i32
  let v147 : BitVec 32 := v146
  let v1404 : Index := Scalar.indexCast v147
  ![1312, v1404.toNat]
def k0_off127 (k0_t1 : Fin k0_t1_loop.trips) : Fin 2 → Nat :=
  let c672_377 : Index := 672#32
  let c0_i32_101 : BitVec 32 := 0#32
  let c0_i32_81 : BitVec 32 := 0#32
  let c1_i32 : BitVec 32 := 1#32
  let arg12 : BitVec 32 := Scf.iv c0_i32_81 c1_i32 k0_t1
  let c1_i32_100 : BitVec 32 := 1#32
  let v144 : BitVec 32 := Scalar.muli arg12 c1_i32_100
  let v145 : BitVec 32 := Scalar.addi c0_i32_101 v144
  let c512_i32 : BitVec 32 := 512#32
  let v146 : BitVec 32 := Scalar.muli v145 c512_i32
  let v147 : BitVec 32 := v146
  let v1408 : Index := Scalar.indexCast v147
  ![672, v1408.toNat]
def k0_off128 (k0_t1 : Fin k0_t1_loop.trips) : Fin 2 → Nat :=
  let c42 : Index := 42#32
  let c0_i32_101 : BitVec 32 := 0#32
  let c0_i32_81 : BitVec 32 := 0#32
  let c1_i32 : BitVec 32 := 1#32
  let arg12 : BitVec 32 := Scf.iv c0_i32_81 c1_i32 k0_t1
  let c1_i32_100 : BitVec 32 := 1#32
  let v144 : BitVec 32 := Scalar.muli arg12 c1_i32_100
  let v145 : BitVec 32 := Scalar.addi c0_i32_101 v144
  let c512_i32 : BitVec 32 := 512#32
  let v146 : BitVec 32 := Scalar.muli v145 c512_i32
  let v147 : BitVec 32 := v146
  let v1423 : Index := Scalar.indexCast v147
  ![42, v1423.toNat]
def k0_off129 (k0_t1 : Fin k0_t1_loop.trips) : Fin 2 → Nat :=
  let c1344 : Index := 1344#32
  let c0_i32_101 : BitVec 32 := 0#32
  let c0_i32_81 : BitVec 32 := 0#32
  let c1_i32 : BitVec 32 := 1#32
  let arg12 : BitVec 32 := Scf.iv c0_i32_81 c1_i32 k0_t1
  let c1_i32_100 : BitVec 32 := 1#32
  let v144 : BitVec 32 := Scalar.muli arg12 c1_i32_100
  let v145 : BitVec 32 := Scalar.addi c0_i32_101 v144
  let c512_i32 : BitVec 32 := 512#32
  let v146 : BitVec 32 := Scalar.muli v145 c512_i32
  let v147 : BitVec 32 := v146
  let v1434 : Index := Scalar.indexCast v147
  ![1344, v1434.toNat]
def k0_off130 (k0_t1 : Fin k0_t1_loop.trips) : Fin 2 → Nat :=
  let c688 : Index := 688#32
  let c0_i32_101 : BitVec 32 := 0#32
  let c0_i32_81 : BitVec 32 := 0#32
  let c1_i32 : BitVec 32 := 1#32
  let arg12 : BitVec 32 := Scf.iv c0_i32_81 c1_i32 k0_t1
  let c1_i32_100 : BitVec 32 := 1#32
  let v144 : BitVec 32 := Scalar.muli arg12 c1_i32_100
  let v145 : BitVec 32 := Scalar.addi c0_i32_101 v144
  let c512_i32 : BitVec 32 := 512#32
  let v146 : BitVec 32 := Scalar.muli v145 c512_i32
  let v147 : BitVec 32 := v146
  let v1438 : Index := Scalar.indexCast v147
  ![688, v1438.toNat]
def k0_off131 (k0_t1 : Fin k0_t1_loop.trips) : Fin 2 → Nat :=
  let c43 : Index := 43#32
  let c0_i32_101 : BitVec 32 := 0#32
  let c0_i32_81 : BitVec 32 := 0#32
  let c1_i32 : BitVec 32 := 1#32
  let arg12 : BitVec 32 := Scf.iv c0_i32_81 c1_i32 k0_t1
  let c1_i32_100 : BitVec 32 := 1#32
  let v144 : BitVec 32 := Scalar.muli arg12 c1_i32_100
  let v145 : BitVec 32 := Scalar.addi c0_i32_101 v144
  let c512_i32 : BitVec 32 := 512#32
  let v146 : BitVec 32 := Scalar.muli v145 c512_i32
  let v147 : BitVec 32 := v146
  let v1453 : Index := Scalar.indexCast v147
  ![43, v1453.toNat]
def k0_off132 (k0_t1 : Fin k0_t1_loop.trips) : Fin 2 → Nat :=
  let c1376 : Index := 1376#32
  let c0_i32_101 : BitVec 32 := 0#32
  let c0_i32_81 : BitVec 32 := 0#32
  let c1_i32 : BitVec 32 := 1#32
  let arg12 : BitVec 32 := Scf.iv c0_i32_81 c1_i32 k0_t1
  let c1_i32_100 : BitVec 32 := 1#32
  let v144 : BitVec 32 := Scalar.muli arg12 c1_i32_100
  let v145 : BitVec 32 := Scalar.addi c0_i32_101 v144
  let c512_i32 : BitVec 32 := 512#32
  let v146 : BitVec 32 := Scalar.muli v145 c512_i32
  let v147 : BitVec 32 := v146
  let v1464 : Index := Scalar.indexCast v147
  ![1376, v1464.toNat]
def k0_off133 (k0_t1 : Fin k0_t1_loop.trips) : Fin 2 → Nat :=
  let c704_390 : Index := 704#32
  let c0_i32_101 : BitVec 32 := 0#32
  let c0_i32_81 : BitVec 32 := 0#32
  let c1_i32 : BitVec 32 := 1#32
  let arg12 : BitVec 32 := Scf.iv c0_i32_81 c1_i32 k0_t1
  let c1_i32_100 : BitVec 32 := 1#32
  let v144 : BitVec 32 := Scalar.muli arg12 c1_i32_100
  let v145 : BitVec 32 := Scalar.addi c0_i32_101 v144
  let c512_i32 : BitVec 32 := 512#32
  let v146 : BitVec 32 := Scalar.muli v145 c512_i32
  let v147 : BitVec 32 := v146
  let v1468 : Index := Scalar.indexCast v147
  ![704, v1468.toNat]
def k0_off134 (k0_t1 : Fin k0_t1_loop.trips) : Fin 2 → Nat :=
  let c44 : Index := 44#32
  let c0_i32_101 : BitVec 32 := 0#32
  let c0_i32_81 : BitVec 32 := 0#32
  let c1_i32 : BitVec 32 := 1#32
  let arg12 : BitVec 32 := Scf.iv c0_i32_81 c1_i32 k0_t1
  let c1_i32_100 : BitVec 32 := 1#32
  let v144 : BitVec 32 := Scalar.muli arg12 c1_i32_100
  let v145 : BitVec 32 := Scalar.addi c0_i32_101 v144
  let c512_i32 : BitVec 32 := 512#32
  let v146 : BitVec 32 := Scalar.muli v145 c512_i32
  let v147 : BitVec 32 := v146
  let v1483 : Index := Scalar.indexCast v147
  ![44, v1483.toNat]
def k0_off135 (k0_t1 : Fin k0_t1_loop.trips) : Fin 2 → Nat :=
  let c1408 : Index := 1408#32
  let c0_i32_101 : BitVec 32 := 0#32
  let c0_i32_81 : BitVec 32 := 0#32
  let c1_i32 : BitVec 32 := 1#32
  let arg12 : BitVec 32 := Scf.iv c0_i32_81 c1_i32 k0_t1
  let c1_i32_100 : BitVec 32 := 1#32
  let v144 : BitVec 32 := Scalar.muli arg12 c1_i32_100
  let v145 : BitVec 32 := Scalar.addi c0_i32_101 v144
  let c512_i32 : BitVec 32 := 512#32
  let v146 : BitVec 32 := Scalar.muli v145 c512_i32
  let v147 : BitVec 32 := v146
  let v1494 : Index := Scalar.indexCast v147
  ![1408, v1494.toNat]
def k0_off136 (k0_t1 : Fin k0_t1_loop.trips) : Fin 2 → Nat :=
  let c720 : Index := 720#32
  let c0_i32_101 : BitVec 32 := 0#32
  let c0_i32_81 : BitVec 32 := 0#32
  let c1_i32 : BitVec 32 := 1#32
  let arg12 : BitVec 32 := Scf.iv c0_i32_81 c1_i32 k0_t1
  let c1_i32_100 : BitVec 32 := 1#32
  let v144 : BitVec 32 := Scalar.muli arg12 c1_i32_100
  let v145 : BitVec 32 := Scalar.addi c0_i32_101 v144
  let c512_i32 : BitVec 32 := 512#32
  let v146 : BitVec 32 := Scalar.muli v145 c512_i32
  let v147 : BitVec 32 := v146
  let v1498 : Index := Scalar.indexCast v147
  ![720, v1498.toNat]
def k0_off137 (k0_t1 : Fin k0_t1_loop.trips) : Fin 2 → Nat :=
  let c45 : Index := 45#32
  let c0_i32_101 : BitVec 32 := 0#32
  let c0_i32_81 : BitVec 32 := 0#32
  let c1_i32 : BitVec 32 := 1#32
  let arg12 : BitVec 32 := Scf.iv c0_i32_81 c1_i32 k0_t1
  let c1_i32_100 : BitVec 32 := 1#32
  let v144 : BitVec 32 := Scalar.muli arg12 c1_i32_100
  let v145 : BitVec 32 := Scalar.addi c0_i32_101 v144
  let c512_i32 : BitVec 32 := 512#32
  let v146 : BitVec 32 := Scalar.muli v145 c512_i32
  let v147 : BitVec 32 := v146
  let v1513 : Index := Scalar.indexCast v147
  ![45, v1513.toNat]
def k0_off138 (k0_t1 : Fin k0_t1_loop.trips) : Fin 2 → Nat :=
  let c1440 : Index := 1440#32
  let c0_i32_101 : BitVec 32 := 0#32
  let c0_i32_81 : BitVec 32 := 0#32
  let c1_i32 : BitVec 32 := 1#32
  let arg12 : BitVec 32 := Scf.iv c0_i32_81 c1_i32 k0_t1
  let c1_i32_100 : BitVec 32 := 1#32
  let v144 : BitVec 32 := Scalar.muli arg12 c1_i32_100
  let v145 : BitVec 32 := Scalar.addi c0_i32_101 v144
  let c512_i32 : BitVec 32 := 512#32
  let v146 : BitVec 32 := Scalar.muli v145 c512_i32
  let v147 : BitVec 32 := v146
  let v1524 : Index := Scalar.indexCast v147
  ![1440, v1524.toNat]
def k0_off139 (k0_t1 : Fin k0_t1_loop.trips) : Fin 2 → Nat :=
  let c736_403 : Index := 736#32
  let c0_i32_101 : BitVec 32 := 0#32
  let c0_i32_81 : BitVec 32 := 0#32
  let c1_i32 : BitVec 32 := 1#32
  let arg12 : BitVec 32 := Scf.iv c0_i32_81 c1_i32 k0_t1
  let c1_i32_100 : BitVec 32 := 1#32
  let v144 : BitVec 32 := Scalar.muli arg12 c1_i32_100
  let v145 : BitVec 32 := Scalar.addi c0_i32_101 v144
  let c512_i32 : BitVec 32 := 512#32
  let v146 : BitVec 32 := Scalar.muli v145 c512_i32
  let v147 : BitVec 32 := v146
  let v1528 : Index := Scalar.indexCast v147
  ![736, v1528.toNat]
def k0_off140 (k0_t1 : Fin k0_t1_loop.trips) : Fin 2 → Nat :=
  let c46 : Index := 46#32
  let c0_i32_101 : BitVec 32 := 0#32
  let c0_i32_81 : BitVec 32 := 0#32
  let c1_i32 : BitVec 32 := 1#32
  let arg12 : BitVec 32 := Scf.iv c0_i32_81 c1_i32 k0_t1
  let c1_i32_100 : BitVec 32 := 1#32
  let v144 : BitVec 32 := Scalar.muli arg12 c1_i32_100
  let v145 : BitVec 32 := Scalar.addi c0_i32_101 v144
  let c512_i32 : BitVec 32 := 512#32
  let v146 : BitVec 32 := Scalar.muli v145 c512_i32
  let v147 : BitVec 32 := v146
  let v1543 : Index := Scalar.indexCast v147
  ![46, v1543.toNat]
def k0_off141 (k0_t1 : Fin k0_t1_loop.trips) : Fin 2 → Nat :=
  let c1472 : Index := 1472#32
  let c0_i32_101 : BitVec 32 := 0#32
  let c0_i32_81 : BitVec 32 := 0#32
  let c1_i32 : BitVec 32 := 1#32
  let arg12 : BitVec 32 := Scf.iv c0_i32_81 c1_i32 k0_t1
  let c1_i32_100 : BitVec 32 := 1#32
  let v144 : BitVec 32 := Scalar.muli arg12 c1_i32_100
  let v145 : BitVec 32 := Scalar.addi c0_i32_101 v144
  let c512_i32 : BitVec 32 := 512#32
  let v146 : BitVec 32 := Scalar.muli v145 c512_i32
  let v147 : BitVec 32 := v146
  let v1554 : Index := Scalar.indexCast v147
  ![1472, v1554.toNat]
def k0_off142 (k0_t1 : Fin k0_t1_loop.trips) : Fin 2 → Nat :=
  let c752 : Index := 752#32
  let c0_i32_101 : BitVec 32 := 0#32
  let c0_i32_81 : BitVec 32 := 0#32
  let c1_i32 : BitVec 32 := 1#32
  let arg12 : BitVec 32 := Scf.iv c0_i32_81 c1_i32 k0_t1
  let c1_i32_100 : BitVec 32 := 1#32
  let v144 : BitVec 32 := Scalar.muli arg12 c1_i32_100
  let v145 : BitVec 32 := Scalar.addi c0_i32_101 v144
  let c512_i32 : BitVec 32 := 512#32
  let v146 : BitVec 32 := Scalar.muli v145 c512_i32
  let v147 : BitVec 32 := v146
  let v1558 : Index := Scalar.indexCast v147
  ![752, v1558.toNat]
def k0_off143 (k0_t1 : Fin k0_t1_loop.trips) : Fin 2 → Nat :=
  let c47 : Index := 47#32
  let c0_i32_101 : BitVec 32 := 0#32
  let c0_i32_81 : BitVec 32 := 0#32
  let c1_i32 : BitVec 32 := 1#32
  let arg12 : BitVec 32 := Scf.iv c0_i32_81 c1_i32 k0_t1
  let c1_i32_100 : BitVec 32 := 1#32
  let v144 : BitVec 32 := Scalar.muli arg12 c1_i32_100
  let v145 : BitVec 32 := Scalar.addi c0_i32_101 v144
  let c512_i32 : BitVec 32 := 512#32
  let v146 : BitVec 32 := Scalar.muli v145 c512_i32
  let v147 : BitVec 32 := v146
  let v1573 : Index := Scalar.indexCast v147
  ![47, v1573.toNat]
def k0_off144 (k0_t1 : Fin k0_t1_loop.trips) : Fin 2 → Nat :=
  let c1504 : Index := 1504#32
  let c0_i32_101 : BitVec 32 := 0#32
  let c0_i32_81 : BitVec 32 := 0#32
  let c1_i32 : BitVec 32 := 1#32
  let arg12 : BitVec 32 := Scf.iv c0_i32_81 c1_i32 k0_t1
  let c1_i32_100 : BitVec 32 := 1#32
  let v144 : BitVec 32 := Scalar.muli arg12 c1_i32_100
  let v145 : BitVec 32 := Scalar.addi c0_i32_101 v144
  let c512_i32 : BitVec 32 := 512#32
  let v146 : BitVec 32 := Scalar.muli v145 c512_i32
  let v147 : BitVec 32 := v146
  let v1584 : Index := Scalar.indexCast v147
  ![1504, v1584.toNat]
def k0_off145 (k0_t1 : Fin k0_t1_loop.trips) : Fin 2 → Nat :=
  let c768_416 : Index := 768#32
  let c0_i32_101 : BitVec 32 := 0#32
  let c0_i32_81 : BitVec 32 := 0#32
  let c1_i32 : BitVec 32 := 1#32
  let arg12 : BitVec 32 := Scf.iv c0_i32_81 c1_i32 k0_t1
  let c1_i32_100 : BitVec 32 := 1#32
  let v144 : BitVec 32 := Scalar.muli arg12 c1_i32_100
  let v145 : BitVec 32 := Scalar.addi c0_i32_101 v144
  let c512_i32 : BitVec 32 := 512#32
  let v146 : BitVec 32 := Scalar.muli v145 c512_i32
  let v147 : BitVec 32 := v146
  let v1588 : Index := Scalar.indexCast v147
  ![768, v1588.toNat]
def k0_off146 (k0_t1 : Fin k0_t1_loop.trips) : Fin 2 → Nat :=
  let c48_422 : Index := 48#32
  let c0_i32_101 : BitVec 32 := 0#32
  let c0_i32_81 : BitVec 32 := 0#32
  let c1_i32 : BitVec 32 := 1#32
  let arg12 : BitVec 32 := Scf.iv c0_i32_81 c1_i32 k0_t1
  let c1_i32_100 : BitVec 32 := 1#32
  let v144 : BitVec 32 := Scalar.muli arg12 c1_i32_100
  let v145 : BitVec 32 := Scalar.addi c0_i32_101 v144
  let c512_i32 : BitVec 32 := 512#32
  let v146 : BitVec 32 := Scalar.muli v145 c512_i32
  let v147 : BitVec 32 := v146
  let v1603 : Index := Scalar.indexCast v147
  ![48, v1603.toNat]
def k0_off147 (k0_t1 : Fin k0_t1_loop.trips) : Fin 2 → Nat :=
  let c1536_424 : Index := 1536#32
  let c0_i32_101 : BitVec 32 := 0#32
  let c0_i32_81 : BitVec 32 := 0#32
  let c1_i32 : BitVec 32 := 1#32
  let arg12 : BitVec 32 := Scf.iv c0_i32_81 c1_i32 k0_t1
  let c1_i32_100 : BitVec 32 := 1#32
  let v144 : BitVec 32 := Scalar.muli arg12 c1_i32_100
  let v145 : BitVec 32 := Scalar.addi c0_i32_101 v144
  let c512_i32 : BitVec 32 := 512#32
  let v146 : BitVec 32 := Scalar.muli v145 c512_i32
  let v147 : BitVec 32 := v146
  let v1614 : Index := Scalar.indexCast v147
  ![1536, v1614.toNat]
def k0_off148 (k0_t1 : Fin k0_t1_loop.trips) : Fin 2 → Nat :=
  let c784 : Index := 784#32
  let c0_i32_101 : BitVec 32 := 0#32
  let c0_i32_81 : BitVec 32 := 0#32
  let c1_i32 : BitVec 32 := 1#32
  let arg12 : BitVec 32 := Scf.iv c0_i32_81 c1_i32 k0_t1
  let c1_i32_100 : BitVec 32 := 1#32
  let v144 : BitVec 32 := Scalar.muli arg12 c1_i32_100
  let v145 : BitVec 32 := Scalar.addi c0_i32_101 v144
  let c512_i32 : BitVec 32 := 512#32
  let v146 : BitVec 32 := Scalar.muli v145 c512_i32
  let v147 : BitVec 32 := v146
  let v1618 : Index := Scalar.indexCast v147
  ![784, v1618.toNat]
def k0_off149 (k0_t1 : Fin k0_t1_loop.trips) : Fin 2 → Nat :=
  let c49 : Index := 49#32
  let c0_i32_101 : BitVec 32 := 0#32
  let c0_i32_81 : BitVec 32 := 0#32
  let c1_i32 : BitVec 32 := 1#32
  let arg12 : BitVec 32 := Scf.iv c0_i32_81 c1_i32 k0_t1
  let c1_i32_100 : BitVec 32 := 1#32
  let v144 : BitVec 32 := Scalar.muli arg12 c1_i32_100
  let v145 : BitVec 32 := Scalar.addi c0_i32_101 v144
  let c512_i32 : BitVec 32 := 512#32
  let v146 : BitVec 32 := Scalar.muli v145 c512_i32
  let v147 : BitVec 32 := v146
  let v1633 : Index := Scalar.indexCast v147
  ![49, v1633.toNat]
def k0_off150 (k0_t1 : Fin k0_t1_loop.trips) : Fin 2 → Nat :=
  let c1568 : Index := 1568#32
  let c0_i32_101 : BitVec 32 := 0#32
  let c0_i32_81 : BitVec 32 := 0#32
  let c1_i32 : BitVec 32 := 1#32
  let arg12 : BitVec 32 := Scf.iv c0_i32_81 c1_i32 k0_t1
  let c1_i32_100 : BitVec 32 := 1#32
  let v144 : BitVec 32 := Scalar.muli arg12 c1_i32_100
  let v145 : BitVec 32 := Scalar.addi c0_i32_101 v144
  let c512_i32 : BitVec 32 := 512#32
  let v146 : BitVec 32 := Scalar.muli v145 c512_i32
  let v147 : BitVec 32 := v146
  let v1644 : Index := Scalar.indexCast v147
  ![1568, v1644.toNat]
def k0_off151 (k0_t1 : Fin k0_t1_loop.trips) : Fin 2 → Nat :=
  let c800_431 : Index := 800#32
  let c0_i32_101 : BitVec 32 := 0#32
  let c0_i32_81 : BitVec 32 := 0#32
  let c1_i32 : BitVec 32 := 1#32
  let arg12 : BitVec 32 := Scf.iv c0_i32_81 c1_i32 k0_t1
  let c1_i32_100 : BitVec 32 := 1#32
  let v144 : BitVec 32 := Scalar.muli arg12 c1_i32_100
  let v145 : BitVec 32 := Scalar.addi c0_i32_101 v144
  let c512_i32 : BitVec 32 := 512#32
  let v146 : BitVec 32 := Scalar.muli v145 c512_i32
  let v147 : BitVec 32 := v146
  let v1648 : Index := Scalar.indexCast v147
  ![800, v1648.toNat]
def k0_off152 (k0_t1 : Fin k0_t1_loop.trips) : Fin 2 → Nat :=
  let c50 : Index := 50#32
  let c0_i32_101 : BitVec 32 := 0#32
  let c0_i32_81 : BitVec 32 := 0#32
  let c1_i32 : BitVec 32 := 1#32
  let arg12 : BitVec 32 := Scf.iv c0_i32_81 c1_i32 k0_t1
  let c1_i32_100 : BitVec 32 := 1#32
  let v144 : BitVec 32 := Scalar.muli arg12 c1_i32_100
  let v145 : BitVec 32 := Scalar.addi c0_i32_101 v144
  let c512_i32 : BitVec 32 := 512#32
  let v146 : BitVec 32 := Scalar.muli v145 c512_i32
  let v147 : BitVec 32 := v146
  let v1663 : Index := Scalar.indexCast v147
  ![50, v1663.toNat]
def k0_off153 (k0_t1 : Fin k0_t1_loop.trips) : Fin 2 → Nat :=
  let c1600 : Index := 1600#32
  let c0_i32_101 : BitVec 32 := 0#32
  let c0_i32_81 : BitVec 32 := 0#32
  let c1_i32 : BitVec 32 := 1#32
  let arg12 : BitVec 32 := Scf.iv c0_i32_81 c1_i32 k0_t1
  let c1_i32_100 : BitVec 32 := 1#32
  let v144 : BitVec 32 := Scalar.muli arg12 c1_i32_100
  let v145 : BitVec 32 := Scalar.addi c0_i32_101 v144
  let c512_i32 : BitVec 32 := 512#32
  let v146 : BitVec 32 := Scalar.muli v145 c512_i32
  let v147 : BitVec 32 := v146
  let v1674 : Index := Scalar.indexCast v147
  ![1600, v1674.toNat]
def k0_off154 (k0_t1 : Fin k0_t1_loop.trips) : Fin 2 → Nat :=
  let c816 : Index := 816#32
  let c0_i32_101 : BitVec 32 := 0#32
  let c0_i32_81 : BitVec 32 := 0#32
  let c1_i32 : BitVec 32 := 1#32
  let arg12 : BitVec 32 := Scf.iv c0_i32_81 c1_i32 k0_t1
  let c1_i32_100 : BitVec 32 := 1#32
  let v144 : BitVec 32 := Scalar.muli arg12 c1_i32_100
  let v145 : BitVec 32 := Scalar.addi c0_i32_101 v144
  let c512_i32 : BitVec 32 := 512#32
  let v146 : BitVec 32 := Scalar.muli v145 c512_i32
  let v147 : BitVec 32 := v146
  let v1678 : Index := Scalar.indexCast v147
  ![816, v1678.toNat]
def k0_off155 (k0_t1 : Fin k0_t1_loop.trips) : Fin 2 → Nat :=
  let c51 : Index := 51#32
  let c0_i32_101 : BitVec 32 := 0#32
  let c0_i32_81 : BitVec 32 := 0#32
  let c1_i32 : BitVec 32 := 1#32
  let arg12 : BitVec 32 := Scf.iv c0_i32_81 c1_i32 k0_t1
  let c1_i32_100 : BitVec 32 := 1#32
  let v144 : BitVec 32 := Scalar.muli arg12 c1_i32_100
  let v145 : BitVec 32 := Scalar.addi c0_i32_101 v144
  let c512_i32 : BitVec 32 := 512#32
  let v146 : BitVec 32 := Scalar.muli v145 c512_i32
  let v147 : BitVec 32 := v146
  let v1693 : Index := Scalar.indexCast v147
  ![51, v1693.toNat]
def k0_off156 (k0_t1 : Fin k0_t1_loop.trips) : Fin 2 → Nat :=
  let c1632 : Index := 1632#32
  let c0_i32_101 : BitVec 32 := 0#32
  let c0_i32_81 : BitVec 32 := 0#32
  let c1_i32 : BitVec 32 := 1#32
  let arg12 : BitVec 32 := Scf.iv c0_i32_81 c1_i32 k0_t1
  let c1_i32_100 : BitVec 32 := 1#32
  let v144 : BitVec 32 := Scalar.muli arg12 c1_i32_100
  let v145 : BitVec 32 := Scalar.addi c0_i32_101 v144
  let c512_i32 : BitVec 32 := 512#32
  let v146 : BitVec 32 := Scalar.muli v145 c512_i32
  let v147 : BitVec 32 := v146
  let v1704 : Index := Scalar.indexCast v147
  ![1632, v1704.toNat]
def k0_off157 (k0_t1 : Fin k0_t1_loop.trips) : Fin 2 → Nat :=
  let c832_444 : Index := 832#32
  let c0_i32_101 : BitVec 32 := 0#32
  let c0_i32_81 : BitVec 32 := 0#32
  let c1_i32 : BitVec 32 := 1#32
  let arg12 : BitVec 32 := Scf.iv c0_i32_81 c1_i32 k0_t1
  let c1_i32_100 : BitVec 32 := 1#32
  let v144 : BitVec 32 := Scalar.muli arg12 c1_i32_100
  let v145 : BitVec 32 := Scalar.addi c0_i32_101 v144
  let c512_i32 : BitVec 32 := 512#32
  let v146 : BitVec 32 := Scalar.muli v145 c512_i32
  let v147 : BitVec 32 := v146
  let v1708 : Index := Scalar.indexCast v147
  ![832, v1708.toNat]
def k0_off158 (k0_t1 : Fin k0_t1_loop.trips) : Fin 2 → Nat :=
  let c52 : Index := 52#32
  let c0_i32_101 : BitVec 32 := 0#32
  let c0_i32_81 : BitVec 32 := 0#32
  let c1_i32 : BitVec 32 := 1#32
  let arg12 : BitVec 32 := Scf.iv c0_i32_81 c1_i32 k0_t1
  let c1_i32_100 : BitVec 32 := 1#32
  let v144 : BitVec 32 := Scalar.muli arg12 c1_i32_100
  let v145 : BitVec 32 := Scalar.addi c0_i32_101 v144
  let c512_i32 : BitVec 32 := 512#32
  let v146 : BitVec 32 := Scalar.muli v145 c512_i32
  let v147 : BitVec 32 := v146
  let v1723 : Index := Scalar.indexCast v147
  ![52, v1723.toNat]
def k0_off159 (k0_t1 : Fin k0_t1_loop.trips) : Fin 2 → Nat :=
  let c1664 : Index := 1664#32
  let c0_i32_101 : BitVec 32 := 0#32
  let c0_i32_81 : BitVec 32 := 0#32
  let c1_i32 : BitVec 32 := 1#32
  let arg12 : BitVec 32 := Scf.iv c0_i32_81 c1_i32 k0_t1
  let c1_i32_100 : BitVec 32 := 1#32
  let v144 : BitVec 32 := Scalar.muli arg12 c1_i32_100
  let v145 : BitVec 32 := Scalar.addi c0_i32_101 v144
  let c512_i32 : BitVec 32 := 512#32
  let v146 : BitVec 32 := Scalar.muli v145 c512_i32
  let v147 : BitVec 32 := v146
  let v1734 : Index := Scalar.indexCast v147
  ![1664, v1734.toNat]
def k0_off160 (k0_t1 : Fin k0_t1_loop.trips) : Fin 2 → Nat :=
  let c848 : Index := 848#32
  let c0_i32_101 : BitVec 32 := 0#32
  let c0_i32_81 : BitVec 32 := 0#32
  let c1_i32 : BitVec 32 := 1#32
  let arg12 : BitVec 32 := Scf.iv c0_i32_81 c1_i32 k0_t1
  let c1_i32_100 : BitVec 32 := 1#32
  let v144 : BitVec 32 := Scalar.muli arg12 c1_i32_100
  let v145 : BitVec 32 := Scalar.addi c0_i32_101 v144
  let c512_i32 : BitVec 32 := 512#32
  let v146 : BitVec 32 := Scalar.muli v145 c512_i32
  let v147 : BitVec 32 := v146
  let v1738 : Index := Scalar.indexCast v147
  ![848, v1738.toNat]
def k0_off161 (k0_t1 : Fin k0_t1_loop.trips) : Fin 2 → Nat :=
  let c53 : Index := 53#32
  let c0_i32_101 : BitVec 32 := 0#32
  let c0_i32_81 : BitVec 32 := 0#32
  let c1_i32 : BitVec 32 := 1#32
  let arg12 : BitVec 32 := Scf.iv c0_i32_81 c1_i32 k0_t1
  let c1_i32_100 : BitVec 32 := 1#32
  let v144 : BitVec 32 := Scalar.muli arg12 c1_i32_100
  let v145 : BitVec 32 := Scalar.addi c0_i32_101 v144
  let c512_i32 : BitVec 32 := 512#32
  let v146 : BitVec 32 := Scalar.muli v145 c512_i32
  let v147 : BitVec 32 := v146
  let v1753 : Index := Scalar.indexCast v147
  ![53, v1753.toNat]
def k0_off162 (k0_t1 : Fin k0_t1_loop.trips) : Fin 2 → Nat :=
  let c1696 : Index := 1696#32
  let c0_i32_101 : BitVec 32 := 0#32
  let c0_i32_81 : BitVec 32 := 0#32
  let c1_i32 : BitVec 32 := 1#32
  let arg12 : BitVec 32 := Scf.iv c0_i32_81 c1_i32 k0_t1
  let c1_i32_100 : BitVec 32 := 1#32
  let v144 : BitVec 32 := Scalar.muli arg12 c1_i32_100
  let v145 : BitVec 32 := Scalar.addi c0_i32_101 v144
  let c512_i32 : BitVec 32 := 512#32
  let v146 : BitVec 32 := Scalar.muli v145 c512_i32
  let v147 : BitVec 32 := v146
  let v1764 : Index := Scalar.indexCast v147
  ![1696, v1764.toNat]
def k0_off163 (k0_t1 : Fin k0_t1_loop.trips) : Fin 2 → Nat :=
  let c864_457 : Index := 864#32
  let c0_i32_101 : BitVec 32 := 0#32
  let c0_i32_81 : BitVec 32 := 0#32
  let c1_i32 : BitVec 32 := 1#32
  let arg12 : BitVec 32 := Scf.iv c0_i32_81 c1_i32 k0_t1
  let c1_i32_100 : BitVec 32 := 1#32
  let v144 : BitVec 32 := Scalar.muli arg12 c1_i32_100
  let v145 : BitVec 32 := Scalar.addi c0_i32_101 v144
  let c512_i32 : BitVec 32 := 512#32
  let v146 : BitVec 32 := Scalar.muli v145 c512_i32
  let v147 : BitVec 32 := v146
  let v1768 : Index := Scalar.indexCast v147
  ![864, v1768.toNat]
def k0_off164 (k0_t1 : Fin k0_t1_loop.trips) : Fin 2 → Nat :=
  let c54 : Index := 54#32
  let c0_i32_101 : BitVec 32 := 0#32
  let c0_i32_81 : BitVec 32 := 0#32
  let c1_i32 : BitVec 32 := 1#32
  let arg12 : BitVec 32 := Scf.iv c0_i32_81 c1_i32 k0_t1
  let c1_i32_100 : BitVec 32 := 1#32
  let v144 : BitVec 32 := Scalar.muli arg12 c1_i32_100
  let v145 : BitVec 32 := Scalar.addi c0_i32_101 v144
  let c512_i32 : BitVec 32 := 512#32
  let v146 : BitVec 32 := Scalar.muli v145 c512_i32
  let v147 : BitVec 32 := v146
  let v1783 : Index := Scalar.indexCast v147
  ![54, v1783.toNat]
def k0_off165 (k0_t1 : Fin k0_t1_loop.trips) : Fin 2 → Nat :=
  let c1728 : Index := 1728#32
  let c0_i32_101 : BitVec 32 := 0#32
  let c0_i32_81 : BitVec 32 := 0#32
  let c1_i32 : BitVec 32 := 1#32
  let arg12 : BitVec 32 := Scf.iv c0_i32_81 c1_i32 k0_t1
  let c1_i32_100 : BitVec 32 := 1#32
  let v144 : BitVec 32 := Scalar.muli arg12 c1_i32_100
  let v145 : BitVec 32 := Scalar.addi c0_i32_101 v144
  let c512_i32 : BitVec 32 := 512#32
  let v146 : BitVec 32 := Scalar.muli v145 c512_i32
  let v147 : BitVec 32 := v146
  let v1794 : Index := Scalar.indexCast v147
  ![1728, v1794.toNat]
def k0_off166 (k0_t1 : Fin k0_t1_loop.trips) : Fin 2 → Nat :=
  let c880 : Index := 880#32
  let c0_i32_101 : BitVec 32 := 0#32
  let c0_i32_81 : BitVec 32 := 0#32
  let c1_i32 : BitVec 32 := 1#32
  let arg12 : BitVec 32 := Scf.iv c0_i32_81 c1_i32 k0_t1
  let c1_i32_100 : BitVec 32 := 1#32
  let v144 : BitVec 32 := Scalar.muli arg12 c1_i32_100
  let v145 : BitVec 32 := Scalar.addi c0_i32_101 v144
  let c512_i32 : BitVec 32 := 512#32
  let v146 : BitVec 32 := Scalar.muli v145 c512_i32
  let v147 : BitVec 32 := v146
  let v1798 : Index := Scalar.indexCast v147
  ![880, v1798.toNat]
def k0_off167 (k0_t1 : Fin k0_t1_loop.trips) : Fin 2 → Nat :=
  let c55 : Index := 55#32
  let c0_i32_101 : BitVec 32 := 0#32
  let c0_i32_81 : BitVec 32 := 0#32
  let c1_i32 : BitVec 32 := 1#32
  let arg12 : BitVec 32 := Scf.iv c0_i32_81 c1_i32 k0_t1
  let c1_i32_100 : BitVec 32 := 1#32
  let v144 : BitVec 32 := Scalar.muli arg12 c1_i32_100
  let v145 : BitVec 32 := Scalar.addi c0_i32_101 v144
  let c512_i32 : BitVec 32 := 512#32
  let v146 : BitVec 32 := Scalar.muli v145 c512_i32
  let v147 : BitVec 32 := v146
  let v1813 : Index := Scalar.indexCast v147
  ![55, v1813.toNat]
def k0_off168 (k0_t1 : Fin k0_t1_loop.trips) : Fin 2 → Nat :=
  let c1760 : Index := 1760#32
  let c0_i32_101 : BitVec 32 := 0#32
  let c0_i32_81 : BitVec 32 := 0#32
  let c1_i32 : BitVec 32 := 1#32
  let arg12 : BitVec 32 := Scf.iv c0_i32_81 c1_i32 k0_t1
  let c1_i32_100 : BitVec 32 := 1#32
  let v144 : BitVec 32 := Scalar.muli arg12 c1_i32_100
  let v145 : BitVec 32 := Scalar.addi c0_i32_101 v144
  let c512_i32 : BitVec 32 := 512#32
  let v146 : BitVec 32 := Scalar.muli v145 c512_i32
  let v147 : BitVec 32 := v146
  let v1824 : Index := Scalar.indexCast v147
  ![1760, v1824.toNat]
def k0_off169 (k0_t1 : Fin k0_t1_loop.trips) : Fin 2 → Nat :=
  let c896_470 : Index := 896#32
  let c0_i32_101 : BitVec 32 := 0#32
  let c0_i32_81 : BitVec 32 := 0#32
  let c1_i32 : BitVec 32 := 1#32
  let arg12 : BitVec 32 := Scf.iv c0_i32_81 c1_i32 k0_t1
  let c1_i32_100 : BitVec 32 := 1#32
  let v144 : BitVec 32 := Scalar.muli arg12 c1_i32_100
  let v145 : BitVec 32 := Scalar.addi c0_i32_101 v144
  let c512_i32 : BitVec 32 := 512#32
  let v146 : BitVec 32 := Scalar.muli v145 c512_i32
  let v147 : BitVec 32 := v146
  let v1828 : Index := Scalar.indexCast v147
  ![896, v1828.toNat]
def k0_off170 (k0_t1 : Fin k0_t1_loop.trips) : Fin 2 → Nat :=
  let c56 : Index := 56#32
  let c0_i32_101 : BitVec 32 := 0#32
  let c0_i32_81 : BitVec 32 := 0#32
  let c1_i32 : BitVec 32 := 1#32
  let arg12 : BitVec 32 := Scf.iv c0_i32_81 c1_i32 k0_t1
  let c1_i32_100 : BitVec 32 := 1#32
  let v144 : BitVec 32 := Scalar.muli arg12 c1_i32_100
  let v145 : BitVec 32 := Scalar.addi c0_i32_101 v144
  let c512_i32 : BitVec 32 := 512#32
  let v146 : BitVec 32 := Scalar.muli v145 c512_i32
  let v147 : BitVec 32 := v146
  let v1843 : Index := Scalar.indexCast v147
  ![56, v1843.toNat]
def k0_off171 (k0_t1 : Fin k0_t1_loop.trips) : Fin 2 → Nat :=
  let c1792 : Index := 1792#32
  let c0_i32_101 : BitVec 32 := 0#32
  let c0_i32_81 : BitVec 32 := 0#32
  let c1_i32 : BitVec 32 := 1#32
  let arg12 : BitVec 32 := Scf.iv c0_i32_81 c1_i32 k0_t1
  let c1_i32_100 : BitVec 32 := 1#32
  let v144 : BitVec 32 := Scalar.muli arg12 c1_i32_100
  let v145 : BitVec 32 := Scalar.addi c0_i32_101 v144
  let c512_i32 : BitVec 32 := 512#32
  let v146 : BitVec 32 := Scalar.muli v145 c512_i32
  let v147 : BitVec 32 := v146
  let v1854 : Index := Scalar.indexCast v147
  ![1792, v1854.toNat]
def k0_off172 (k0_t1 : Fin k0_t1_loop.trips) : Fin 2 → Nat :=
  let c912 : Index := 912#32
  let c0_i32_101 : BitVec 32 := 0#32
  let c0_i32_81 : BitVec 32 := 0#32
  let c1_i32 : BitVec 32 := 1#32
  let arg12 : BitVec 32 := Scf.iv c0_i32_81 c1_i32 k0_t1
  let c1_i32_100 : BitVec 32 := 1#32
  let v144 : BitVec 32 := Scalar.muli arg12 c1_i32_100
  let v145 : BitVec 32 := Scalar.addi c0_i32_101 v144
  let c512_i32 : BitVec 32 := 512#32
  let v146 : BitVec 32 := Scalar.muli v145 c512_i32
  let v147 : BitVec 32 := v146
  let v1858 : Index := Scalar.indexCast v147
  ![912, v1858.toNat]
def k0_off173 (k0_t1 : Fin k0_t1_loop.trips) : Fin 2 → Nat :=
  let c57 : Index := 57#32
  let c0_i32_101 : BitVec 32 := 0#32
  let c0_i32_81 : BitVec 32 := 0#32
  let c1_i32 : BitVec 32 := 1#32
  let arg12 : BitVec 32 := Scf.iv c0_i32_81 c1_i32 k0_t1
  let c1_i32_100 : BitVec 32 := 1#32
  let v144 : BitVec 32 := Scalar.muli arg12 c1_i32_100
  let v145 : BitVec 32 := Scalar.addi c0_i32_101 v144
  let c512_i32 : BitVec 32 := 512#32
  let v146 : BitVec 32 := Scalar.muli v145 c512_i32
  let v147 : BitVec 32 := v146
  let v1873 : Index := Scalar.indexCast v147
  ![57, v1873.toNat]
def k0_off174 (k0_t1 : Fin k0_t1_loop.trips) : Fin 2 → Nat :=
  let c1824 : Index := 1824#32
  let c0_i32_101 : BitVec 32 := 0#32
  let c0_i32_81 : BitVec 32 := 0#32
  let c1_i32 : BitVec 32 := 1#32
  let arg12 : BitVec 32 := Scf.iv c0_i32_81 c1_i32 k0_t1
  let c1_i32_100 : BitVec 32 := 1#32
  let v144 : BitVec 32 := Scalar.muli arg12 c1_i32_100
  let v145 : BitVec 32 := Scalar.addi c0_i32_101 v144
  let c512_i32 : BitVec 32 := 512#32
  let v146 : BitVec 32 := Scalar.muli v145 c512_i32
  let v147 : BitVec 32 := v146
  let v1884 : Index := Scalar.indexCast v147
  ![1824, v1884.toNat]
def k0_off175 (k0_t1 : Fin k0_t1_loop.trips) : Fin 2 → Nat :=
  let c928_483 : Index := 928#32
  let c0_i32_101 : BitVec 32 := 0#32
  let c0_i32_81 : BitVec 32 := 0#32
  let c1_i32 : BitVec 32 := 1#32
  let arg12 : BitVec 32 := Scf.iv c0_i32_81 c1_i32 k0_t1
  let c1_i32_100 : BitVec 32 := 1#32
  let v144 : BitVec 32 := Scalar.muli arg12 c1_i32_100
  let v145 : BitVec 32 := Scalar.addi c0_i32_101 v144
  let c512_i32 : BitVec 32 := 512#32
  let v146 : BitVec 32 := Scalar.muli v145 c512_i32
  let v147 : BitVec 32 := v146
  let v1888 : Index := Scalar.indexCast v147
  ![928, v1888.toNat]
def k0_off176 (k0_t1 : Fin k0_t1_loop.trips) : Fin 2 → Nat :=
  let c58 : Index := 58#32
  let c0_i32_101 : BitVec 32 := 0#32
  let c0_i32_81 : BitVec 32 := 0#32
  let c1_i32 : BitVec 32 := 1#32
  let arg12 : BitVec 32 := Scf.iv c0_i32_81 c1_i32 k0_t1
  let c1_i32_100 : BitVec 32 := 1#32
  let v144 : BitVec 32 := Scalar.muli arg12 c1_i32_100
  let v145 : BitVec 32 := Scalar.addi c0_i32_101 v144
  let c512_i32 : BitVec 32 := 512#32
  let v146 : BitVec 32 := Scalar.muli v145 c512_i32
  let v147 : BitVec 32 := v146
  let v1903 : Index := Scalar.indexCast v147
  ![58, v1903.toNat]
def k0_off177 (k0_t1 : Fin k0_t1_loop.trips) : Fin 2 → Nat :=
  let c1856 : Index := 1856#32
  let c0_i32_101 : BitVec 32 := 0#32
  let c0_i32_81 : BitVec 32 := 0#32
  let c1_i32 : BitVec 32 := 1#32
  let arg12 : BitVec 32 := Scf.iv c0_i32_81 c1_i32 k0_t1
  let c1_i32_100 : BitVec 32 := 1#32
  let v144 : BitVec 32 := Scalar.muli arg12 c1_i32_100
  let v145 : BitVec 32 := Scalar.addi c0_i32_101 v144
  let c512_i32 : BitVec 32 := 512#32
  let v146 : BitVec 32 := Scalar.muli v145 c512_i32
  let v147 : BitVec 32 := v146
  let v1914 : Index := Scalar.indexCast v147
  ![1856, v1914.toNat]
def k0_off178 (k0_t1 : Fin k0_t1_loop.trips) : Fin 2 → Nat :=
  let c944 : Index := 944#32
  let c0_i32_101 : BitVec 32 := 0#32
  let c0_i32_81 : BitVec 32 := 0#32
  let c1_i32 : BitVec 32 := 1#32
  let arg12 : BitVec 32 := Scf.iv c0_i32_81 c1_i32 k0_t1
  let c1_i32_100 : BitVec 32 := 1#32
  let v144 : BitVec 32 := Scalar.muli arg12 c1_i32_100
  let v145 : BitVec 32 := Scalar.addi c0_i32_101 v144
  let c512_i32 : BitVec 32 := 512#32
  let v146 : BitVec 32 := Scalar.muli v145 c512_i32
  let v147 : BitVec 32 := v146
  let v1918 : Index := Scalar.indexCast v147
  ![944, v1918.toNat]
def k0_off179 (k0_t1 : Fin k0_t1_loop.trips) : Fin 2 → Nat :=
  let c59 : Index := 59#32
  let c0_i32_101 : BitVec 32 := 0#32
  let c0_i32_81 : BitVec 32 := 0#32
  let c1_i32 : BitVec 32 := 1#32
  let arg12 : BitVec 32 := Scf.iv c0_i32_81 c1_i32 k0_t1
  let c1_i32_100 : BitVec 32 := 1#32
  let v144 : BitVec 32 := Scalar.muli arg12 c1_i32_100
  let v145 : BitVec 32 := Scalar.addi c0_i32_101 v144
  let c512_i32 : BitVec 32 := 512#32
  let v146 : BitVec 32 := Scalar.muli v145 c512_i32
  let v147 : BitVec 32 := v146
  let v1933 : Index := Scalar.indexCast v147
  ![59, v1933.toNat]
def k0_off180 (k0_t1 : Fin k0_t1_loop.trips) : Fin 2 → Nat :=
  let c1888 : Index := 1888#32
  let c0_i32_101 : BitVec 32 := 0#32
  let c0_i32_81 : BitVec 32 := 0#32
  let c1_i32 : BitVec 32 := 1#32
  let arg12 : BitVec 32 := Scf.iv c0_i32_81 c1_i32 k0_t1
  let c1_i32_100 : BitVec 32 := 1#32
  let v144 : BitVec 32 := Scalar.muli arg12 c1_i32_100
  let v145 : BitVec 32 := Scalar.addi c0_i32_101 v144
  let c512_i32 : BitVec 32 := 512#32
  let v146 : BitVec 32 := Scalar.muli v145 c512_i32
  let v147 : BitVec 32 := v146
  let v1944 : Index := Scalar.indexCast v147
  ![1888, v1944.toNat]
def k0_off181 (k0_t1 : Fin k0_t1_loop.trips) : Fin 2 → Nat :=
  let c960_496 : Index := 960#32
  let c0_i32_101 : BitVec 32 := 0#32
  let c0_i32_81 : BitVec 32 := 0#32
  let c1_i32 : BitVec 32 := 1#32
  let arg12 : BitVec 32 := Scf.iv c0_i32_81 c1_i32 k0_t1
  let c1_i32_100 : BitVec 32 := 1#32
  let v144 : BitVec 32 := Scalar.muli arg12 c1_i32_100
  let v145 : BitVec 32 := Scalar.addi c0_i32_101 v144
  let c512_i32 : BitVec 32 := 512#32
  let v146 : BitVec 32 := Scalar.muli v145 c512_i32
  let v147 : BitVec 32 := v146
  let v1948 : Index := Scalar.indexCast v147
  ![960, v1948.toNat]
def k0_off182 (k0_t1 : Fin k0_t1_loop.trips) : Fin 2 → Nat :=
  let c60 : Index := 60#32
  let c0_i32_101 : BitVec 32 := 0#32
  let c0_i32_81 : BitVec 32 := 0#32
  let c1_i32 : BitVec 32 := 1#32
  let arg12 : BitVec 32 := Scf.iv c0_i32_81 c1_i32 k0_t1
  let c1_i32_100 : BitVec 32 := 1#32
  let v144 : BitVec 32 := Scalar.muli arg12 c1_i32_100
  let v145 : BitVec 32 := Scalar.addi c0_i32_101 v144
  let c512_i32 : BitVec 32 := 512#32
  let v146 : BitVec 32 := Scalar.muli v145 c512_i32
  let v147 : BitVec 32 := v146
  let v1963 : Index := Scalar.indexCast v147
  ![60, v1963.toNat]
def k0_off183 (k0_t1 : Fin k0_t1_loop.trips) : Fin 2 → Nat :=
  let c1920 : Index := 1920#32
  let c0_i32_101 : BitVec 32 := 0#32
  let c0_i32_81 : BitVec 32 := 0#32
  let c1_i32 : BitVec 32 := 1#32
  let arg12 : BitVec 32 := Scf.iv c0_i32_81 c1_i32 k0_t1
  let c1_i32_100 : BitVec 32 := 1#32
  let v144 : BitVec 32 := Scalar.muli arg12 c1_i32_100
  let v145 : BitVec 32 := Scalar.addi c0_i32_101 v144
  let c512_i32 : BitVec 32 := 512#32
  let v146 : BitVec 32 := Scalar.muli v145 c512_i32
  let v147 : BitVec 32 := v146
  let v1974 : Index := Scalar.indexCast v147
  ![1920, v1974.toNat]
def k0_off184 (k0_t1 : Fin k0_t1_loop.trips) : Fin 2 → Nat :=
  let c976 : Index := 976#32
  let c0_i32_101 : BitVec 32 := 0#32
  let c0_i32_81 : BitVec 32 := 0#32
  let c1_i32 : BitVec 32 := 1#32
  let arg12 : BitVec 32 := Scf.iv c0_i32_81 c1_i32 k0_t1
  let c1_i32_100 : BitVec 32 := 1#32
  let v144 : BitVec 32 := Scalar.muli arg12 c1_i32_100
  let v145 : BitVec 32 := Scalar.addi c0_i32_101 v144
  let c512_i32 : BitVec 32 := 512#32
  let v146 : BitVec 32 := Scalar.muli v145 c512_i32
  let v147 : BitVec 32 := v146
  let v1978 : Index := Scalar.indexCast v147
  ![976, v1978.toNat]
def k0_off185 (k0_t1 : Fin k0_t1_loop.trips) : Fin 2 → Nat :=
  let c61 : Index := 61#32
  let c0_i32_101 : BitVec 32 := 0#32
  let c0_i32_81 : BitVec 32 := 0#32
  let c1_i32 : BitVec 32 := 1#32
  let arg12 : BitVec 32 := Scf.iv c0_i32_81 c1_i32 k0_t1
  let c1_i32_100 : BitVec 32 := 1#32
  let v144 : BitVec 32 := Scalar.muli arg12 c1_i32_100
  let v145 : BitVec 32 := Scalar.addi c0_i32_101 v144
  let c512_i32 : BitVec 32 := 512#32
  let v146 : BitVec 32 := Scalar.muli v145 c512_i32
  let v147 : BitVec 32 := v146
  let v1993 : Index := Scalar.indexCast v147
  ![61, v1993.toNat]
def k0_off186 (k0_t1 : Fin k0_t1_loop.trips) : Fin 2 → Nat :=
  let c1952 : Index := 1952#32
  let c0_i32_101 : BitVec 32 := 0#32
  let c0_i32_81 : BitVec 32 := 0#32
  let c1_i32 : BitVec 32 := 1#32
  let arg12 : BitVec 32 := Scf.iv c0_i32_81 c1_i32 k0_t1
  let c1_i32_100 : BitVec 32 := 1#32
  let v144 : BitVec 32 := Scalar.muli arg12 c1_i32_100
  let v145 : BitVec 32 := Scalar.addi c0_i32_101 v144
  let c512_i32 : BitVec 32 := 512#32
  let v146 : BitVec 32 := Scalar.muli v145 c512_i32
  let v147 : BitVec 32 := v146
  let v2004 : Index := Scalar.indexCast v147
  ![1952, v2004.toNat]
def k0_off187 (k0_t1 : Fin k0_t1_loop.trips) : Fin 2 → Nat :=
  let c992_509 : Index := 992#32
  let c0_i32_101 : BitVec 32 := 0#32
  let c0_i32_81 : BitVec 32 := 0#32
  let c1_i32 : BitVec 32 := 1#32
  let arg12 : BitVec 32 := Scf.iv c0_i32_81 c1_i32 k0_t1
  let c1_i32_100 : BitVec 32 := 1#32
  let v144 : BitVec 32 := Scalar.muli arg12 c1_i32_100
  let v145 : BitVec 32 := Scalar.addi c0_i32_101 v144
  let c512_i32 : BitVec 32 := 512#32
  let v146 : BitVec 32 := Scalar.muli v145 c512_i32
  let v147 : BitVec 32 := v146
  let v2008 : Index := Scalar.indexCast v147
  ![992, v2008.toNat]
def k0_off188 (k0_t1 : Fin k0_t1_loop.trips) : Fin 2 → Nat :=
  let c62 : Index := 62#32
  let c0_i32_101 : BitVec 32 := 0#32
  let c0_i32_81 : BitVec 32 := 0#32
  let c1_i32 : BitVec 32 := 1#32
  let arg12 : BitVec 32 := Scf.iv c0_i32_81 c1_i32 k0_t1
  let c1_i32_100 : BitVec 32 := 1#32
  let v144 : BitVec 32 := Scalar.muli arg12 c1_i32_100
  let v145 : BitVec 32 := Scalar.addi c0_i32_101 v144
  let c512_i32 : BitVec 32 := 512#32
  let v146 : BitVec 32 := Scalar.muli v145 c512_i32
  let v147 : BitVec 32 := v146
  let v2023 : Index := Scalar.indexCast v147
  ![62, v2023.toNat]
def k0_off189 (k0_t1 : Fin k0_t1_loop.trips) : Fin 2 → Nat :=
  let c1984 : Index := 1984#32
  let c0_i32_101 : BitVec 32 := 0#32
  let c0_i32_81 : BitVec 32 := 0#32
  let c1_i32 : BitVec 32 := 1#32
  let arg12 : BitVec 32 := Scf.iv c0_i32_81 c1_i32 k0_t1
  let c1_i32_100 : BitVec 32 := 1#32
  let v144 : BitVec 32 := Scalar.muli arg12 c1_i32_100
  let v145 : BitVec 32 := Scalar.addi c0_i32_101 v144
  let c512_i32 : BitVec 32 := 512#32
  let v146 : BitVec 32 := Scalar.muli v145 c512_i32
  let v147 : BitVec 32 := v146
  let v2034 : Index := Scalar.indexCast v147
  ![1984, v2034.toNat]
def k0_off190 (k0_t1 : Fin k0_t1_loop.trips) : Fin 2 → Nat :=
  let c1008 : Index := 1008#32
  let c0_i32_101 : BitVec 32 := 0#32
  let c0_i32_81 : BitVec 32 := 0#32
  let c1_i32 : BitVec 32 := 1#32
  let arg12 : BitVec 32 := Scf.iv c0_i32_81 c1_i32 k0_t1
  let c1_i32_100 : BitVec 32 := 1#32
  let v144 : BitVec 32 := Scalar.muli arg12 c1_i32_100
  let v145 : BitVec 32 := Scalar.addi c0_i32_101 v144
  let c512_i32 : BitVec 32 := 512#32
  let v146 : BitVec 32 := Scalar.muli v145 c512_i32
  let v147 : BitVec 32 := v146
  let v2038 : Index := Scalar.indexCast v147
  ![1008, v2038.toNat]
def k0_off191 (k0_t1 : Fin k0_t1_loop.trips) : Fin 2 → Nat :=
  let c63 : Index := 63#32
  let c0_i32_101 : BitVec 32 := 0#32
  let c0_i32_81 : BitVec 32 := 0#32
  let c1_i32 : BitVec 32 := 1#32
  let arg12 : BitVec 32 := Scf.iv c0_i32_81 c1_i32 k0_t1
  let c1_i32_100 : BitVec 32 := 1#32
  let v144 : BitVec 32 := Scalar.muli arg12 c1_i32_100
  let v145 : BitVec 32 := Scalar.addi c0_i32_101 v144
  let c512_i32 : BitVec 32 := 512#32
  let v146 : BitVec 32 := Scalar.muli v145 c512_i32
  let v147 : BitVec 32 := v146
  let v2053 : Index := Scalar.indexCast v147
  ![63, v2053.toNat]
def k0_off192 (k0_t1 : Fin k0_t1_loop.trips) : Fin 2 → Nat :=
  let c2016 : Index := 2016#32
  let c0_i32_101 : BitVec 32 := 0#32
  let c0_i32_81 : BitVec 32 := 0#32
  let c1_i32 : BitVec 32 := 1#32
  let arg12 : BitVec 32 := Scf.iv c0_i32_81 c1_i32 k0_t1
  let c1_i32_100 : BitVec 32 := 1#32
  let v144 : BitVec 32 := Scalar.muli arg12 c1_i32_100
  let v145 : BitVec 32 := Scalar.addi c0_i32_101 v144
  let c512_i32 : BitVec 32 := 512#32
  let v146 : BitVec 32 := Scalar.muli v145 c512_i32
  let v147 : BitVec 32 := v146
  let v2064 : Index := Scalar.indexCast v147
  ![2016, v2064.toNat]
def k0_off193 (k0_t1 : Fin k0_t1_loop.trips) : Fin 2 → Nat :=
  let c1024_522 : Index := 1024#32
  let c0_i32_101 : BitVec 32 := 0#32
  let c0_i32_81 : BitVec 32 := 0#32
  let c1_i32 : BitVec 32 := 1#32
  let arg12 : BitVec 32 := Scf.iv c0_i32_81 c1_i32 k0_t1
  let c1_i32_100 : BitVec 32 := 1#32
  let v144 : BitVec 32 := Scalar.muli arg12 c1_i32_100
  let v145 : BitVec 32 := Scalar.addi c0_i32_101 v144
  let c512_i32 : BitVec 32 := 512#32
  let v146 : BitVec 32 := Scalar.muli v145 c512_i32
  let v147 : BitVec 32 := v146
  let v2068 : Index := Scalar.indexCast v147
  ![1024, v2068.toNat]
def k0_off194 (k0_t1 : Fin k0_t1_loop.trips) : Fin 2 → Nat :=
  let c64_528 : Index := 64#32
  let c0_i32_101 : BitVec 32 := 0#32
  let c0_i32_81 : BitVec 32 := 0#32
  let c1_i32 : BitVec 32 := 1#32
  let arg12 : BitVec 32 := Scf.iv c0_i32_81 c1_i32 k0_t1
  let c1_i32_100 : BitVec 32 := 1#32
  let v144 : BitVec 32 := Scalar.muli arg12 c1_i32_100
  let v145 : BitVec 32 := Scalar.addi c0_i32_101 v144
  let c512_i32 : BitVec 32 := 512#32
  let v146 : BitVec 32 := Scalar.muli v145 c512_i32
  let v147 : BitVec 32 := v146
  let v2083 : Index := Scalar.indexCast v147
  ![64, v2083.toNat]
def k0_off195 (k0_t1 : Fin k0_t1_loop.trips) : Fin 2 → Nat :=
  let c2048_530 : Index := 2048#32
  let c0_i32_101 : BitVec 32 := 0#32
  let c0_i32_81 : BitVec 32 := 0#32
  let c1_i32 : BitVec 32 := 1#32
  let arg12 : BitVec 32 := Scf.iv c0_i32_81 c1_i32 k0_t1
  let c1_i32_100 : BitVec 32 := 1#32
  let v144 : BitVec 32 := Scalar.muli arg12 c1_i32_100
  let v145 : BitVec 32 := Scalar.addi c0_i32_101 v144
  let c512_i32 : BitVec 32 := 512#32
  let v146 : BitVec 32 := Scalar.muli v145 c512_i32
  let v147 : BitVec 32 := v146
  let v2094 : Index := Scalar.indexCast v147
  ![2048, v2094.toNat]
def k0_off196 (k0_t1 : Fin k0_t1_loop.trips) : Fin 2 → Nat :=
  let c1040 : Index := 1040#32
  let c0_i32_101 : BitVec 32 := 0#32
  let c0_i32_81 : BitVec 32 := 0#32
  let c1_i32 : BitVec 32 := 1#32
  let arg12 : BitVec 32 := Scf.iv c0_i32_81 c1_i32 k0_t1
  let c1_i32_100 : BitVec 32 := 1#32
  let v144 : BitVec 32 := Scalar.muli arg12 c1_i32_100
  let v145 : BitVec 32 := Scalar.addi c0_i32_101 v144
  let c512_i32 : BitVec 32 := 512#32
  let v146 : BitVec 32 := Scalar.muli v145 c512_i32
  let v147 : BitVec 32 := v146
  let v2098 : Index := Scalar.indexCast v147
  ![1040, v2098.toNat]
def k0_off197 (k0_t1 : Fin k0_t1_loop.trips) : Fin 2 → Nat :=
  let c65 : Index := 65#32
  let c0_i32_101 : BitVec 32 := 0#32
  let c0_i32_81 : BitVec 32 := 0#32
  let c1_i32 : BitVec 32 := 1#32
  let arg12 : BitVec 32 := Scf.iv c0_i32_81 c1_i32 k0_t1
  let c1_i32_100 : BitVec 32 := 1#32
  let v144 : BitVec 32 := Scalar.muli arg12 c1_i32_100
  let v145 : BitVec 32 := Scalar.addi c0_i32_101 v144
  let c512_i32 : BitVec 32 := 512#32
  let v146 : BitVec 32 := Scalar.muli v145 c512_i32
  let v147 : BitVec 32 := v146
  let v2113 : Index := Scalar.indexCast v147
  ![65, v2113.toNat]
def k0_off198 (k0_t1 : Fin k0_t1_loop.trips) : Fin 2 → Nat :=
  let c2080 : Index := 2080#32
  let c0_i32_101 : BitVec 32 := 0#32
  let c0_i32_81 : BitVec 32 := 0#32
  let c1_i32 : BitVec 32 := 1#32
  let arg12 : BitVec 32 := Scf.iv c0_i32_81 c1_i32 k0_t1
  let c1_i32_100 : BitVec 32 := 1#32
  let v144 : BitVec 32 := Scalar.muli arg12 c1_i32_100
  let v145 : BitVec 32 := Scalar.addi c0_i32_101 v144
  let c512_i32 : BitVec 32 := 512#32
  let v146 : BitVec 32 := Scalar.muli v145 c512_i32
  let v147 : BitVec 32 := v146
  let v2124 : Index := Scalar.indexCast v147
  ![2080, v2124.toNat]
def k0_off199 (k0_t1 : Fin k0_t1_loop.trips) : Fin 2 → Nat :=
  let c1056_537 : Index := 1056#32
  let c0_i32_101 : BitVec 32 := 0#32
  let c0_i32_81 : BitVec 32 := 0#32
  let c1_i32 : BitVec 32 := 1#32
  let arg12 : BitVec 32 := Scf.iv c0_i32_81 c1_i32 k0_t1
  let c1_i32_100 : BitVec 32 := 1#32
  let v144 : BitVec 32 := Scalar.muli arg12 c1_i32_100
  let v145 : BitVec 32 := Scalar.addi c0_i32_101 v144
  let c512_i32 : BitVec 32 := 512#32
  let v146 : BitVec 32 := Scalar.muli v145 c512_i32
  let v147 : BitVec 32 := v146
  let v2128 : Index := Scalar.indexCast v147
  ![1056, v2128.toNat]
def k0_off200 (k0_t1 : Fin k0_t1_loop.trips) : Fin 2 → Nat :=
  let c66 : Index := 66#32
  let c0_i32_101 : BitVec 32 := 0#32
  let c0_i32_81 : BitVec 32 := 0#32
  let c1_i32 : BitVec 32 := 1#32
  let arg12 : BitVec 32 := Scf.iv c0_i32_81 c1_i32 k0_t1
  let c1_i32_100 : BitVec 32 := 1#32
  let v144 : BitVec 32 := Scalar.muli arg12 c1_i32_100
  let v145 : BitVec 32 := Scalar.addi c0_i32_101 v144
  let c512_i32 : BitVec 32 := 512#32
  let v146 : BitVec 32 := Scalar.muli v145 c512_i32
  let v147 : BitVec 32 := v146
  let v2143 : Index := Scalar.indexCast v147
  ![66, v2143.toNat]
def k0_off201 (k0_t1 : Fin k0_t1_loop.trips) : Fin 2 → Nat :=
  let c2112 : Index := 2112#32
  let c0_i32_101 : BitVec 32 := 0#32
  let c0_i32_81 : BitVec 32 := 0#32
  let c1_i32 : BitVec 32 := 1#32
  let arg12 : BitVec 32 := Scf.iv c0_i32_81 c1_i32 k0_t1
  let c1_i32_100 : BitVec 32 := 1#32
  let v144 : BitVec 32 := Scalar.muli arg12 c1_i32_100
  let v145 : BitVec 32 := Scalar.addi c0_i32_101 v144
  let c512_i32 : BitVec 32 := 512#32
  let v146 : BitVec 32 := Scalar.muli v145 c512_i32
  let v147 : BitVec 32 := v146
  let v2154 : Index := Scalar.indexCast v147
  ![2112, v2154.toNat]
def k0_off202 (k0_t1 : Fin k0_t1_loop.trips) : Fin 2 → Nat :=
  let c1072 : Index := 1072#32
  let c0_i32_101 : BitVec 32 := 0#32
  let c0_i32_81 : BitVec 32 := 0#32
  let c1_i32 : BitVec 32 := 1#32
  let arg12 : BitVec 32 := Scf.iv c0_i32_81 c1_i32 k0_t1
  let c1_i32_100 : BitVec 32 := 1#32
  let v144 : BitVec 32 := Scalar.muli arg12 c1_i32_100
  let v145 : BitVec 32 := Scalar.addi c0_i32_101 v144
  let c512_i32 : BitVec 32 := 512#32
  let v146 : BitVec 32 := Scalar.muli v145 c512_i32
  let v147 : BitVec 32 := v146
  let v2158 : Index := Scalar.indexCast v147
  ![1072, v2158.toNat]
def k0_off203 (k0_t1 : Fin k0_t1_loop.trips) : Fin 2 → Nat :=
  let c67 : Index := 67#32
  let c0_i32_101 : BitVec 32 := 0#32
  let c0_i32_81 : BitVec 32 := 0#32
  let c1_i32 : BitVec 32 := 1#32
  let arg12 : BitVec 32 := Scf.iv c0_i32_81 c1_i32 k0_t1
  let c1_i32_100 : BitVec 32 := 1#32
  let v144 : BitVec 32 := Scalar.muli arg12 c1_i32_100
  let v145 : BitVec 32 := Scalar.addi c0_i32_101 v144
  let c512_i32 : BitVec 32 := 512#32
  let v146 : BitVec 32 := Scalar.muli v145 c512_i32
  let v147 : BitVec 32 := v146
  let v2173 : Index := Scalar.indexCast v147
  ![67, v2173.toNat]
def k0_off204 (k0_t1 : Fin k0_t1_loop.trips) : Fin 2 → Nat :=
  let c2144 : Index := 2144#32
  let c0_i32_101 : BitVec 32 := 0#32
  let c0_i32_81 : BitVec 32 := 0#32
  let c1_i32 : BitVec 32 := 1#32
  let arg12 : BitVec 32 := Scf.iv c0_i32_81 c1_i32 k0_t1
  let c1_i32_100 : BitVec 32 := 1#32
  let v144 : BitVec 32 := Scalar.muli arg12 c1_i32_100
  let v145 : BitVec 32 := Scalar.addi c0_i32_101 v144
  let c512_i32 : BitVec 32 := 512#32
  let v146 : BitVec 32 := Scalar.muli v145 c512_i32
  let v147 : BitVec 32 := v146
  let v2184 : Index := Scalar.indexCast v147
  ![2144, v2184.toNat]
def k0_off205 (k0_t1 : Fin k0_t1_loop.trips) : Fin 2 → Nat :=
  let c1088_550 : Index := 1088#32
  let c0_i32_101 : BitVec 32 := 0#32
  let c0_i32_81 : BitVec 32 := 0#32
  let c1_i32 : BitVec 32 := 1#32
  let arg12 : BitVec 32 := Scf.iv c0_i32_81 c1_i32 k0_t1
  let c1_i32_100 : BitVec 32 := 1#32
  let v144 : BitVec 32 := Scalar.muli arg12 c1_i32_100
  let v145 : BitVec 32 := Scalar.addi c0_i32_101 v144
  let c512_i32 : BitVec 32 := 512#32
  let v146 : BitVec 32 := Scalar.muli v145 c512_i32
  let v147 : BitVec 32 := v146
  let v2188 : Index := Scalar.indexCast v147
  ![1088, v2188.toNat]
def k0_off206 (k0_t1 : Fin k0_t1_loop.trips) : Fin 2 → Nat :=
  let c68 : Index := 68#32
  let c0_i32_101 : BitVec 32 := 0#32
  let c0_i32_81 : BitVec 32 := 0#32
  let c1_i32 : BitVec 32 := 1#32
  let arg12 : BitVec 32 := Scf.iv c0_i32_81 c1_i32 k0_t1
  let c1_i32_100 : BitVec 32 := 1#32
  let v144 : BitVec 32 := Scalar.muli arg12 c1_i32_100
  let v145 : BitVec 32 := Scalar.addi c0_i32_101 v144
  let c512_i32 : BitVec 32 := 512#32
  let v146 : BitVec 32 := Scalar.muli v145 c512_i32
  let v147 : BitVec 32 := v146
  let v2203 : Index := Scalar.indexCast v147
  ![68, v2203.toNat]
def k0_off207 (k0_t1 : Fin k0_t1_loop.trips) : Fin 2 → Nat :=
  let c2176 : Index := 2176#32
  let c0_i32_101 : BitVec 32 := 0#32
  let c0_i32_81 : BitVec 32 := 0#32
  let c1_i32 : BitVec 32 := 1#32
  let arg12 : BitVec 32 := Scf.iv c0_i32_81 c1_i32 k0_t1
  let c1_i32_100 : BitVec 32 := 1#32
  let v144 : BitVec 32 := Scalar.muli arg12 c1_i32_100
  let v145 : BitVec 32 := Scalar.addi c0_i32_101 v144
  let c512_i32 : BitVec 32 := 512#32
  let v146 : BitVec 32 := Scalar.muli v145 c512_i32
  let v147 : BitVec 32 := v146
  let v2214 : Index := Scalar.indexCast v147
  ![2176, v2214.toNat]
def k0_off208 (k0_t1 : Fin k0_t1_loop.trips) : Fin 2 → Nat :=
  let c1104 : Index := 1104#32
  let c0_i32_101 : BitVec 32 := 0#32
  let c0_i32_81 : BitVec 32 := 0#32
  let c1_i32 : BitVec 32 := 1#32
  let arg12 : BitVec 32 := Scf.iv c0_i32_81 c1_i32 k0_t1
  let c1_i32_100 : BitVec 32 := 1#32
  let v144 : BitVec 32 := Scalar.muli arg12 c1_i32_100
  let v145 : BitVec 32 := Scalar.addi c0_i32_101 v144
  let c512_i32 : BitVec 32 := 512#32
  let v146 : BitVec 32 := Scalar.muli v145 c512_i32
  let v147 : BitVec 32 := v146
  let v2218 : Index := Scalar.indexCast v147
  ![1104, v2218.toNat]
def k0_off209 (k0_t1 : Fin k0_t1_loop.trips) : Fin 2 → Nat :=
  let c69 : Index := 69#32
  let c0_i32_101 : BitVec 32 := 0#32
  let c0_i32_81 : BitVec 32 := 0#32
  let c1_i32 : BitVec 32 := 1#32
  let arg12 : BitVec 32 := Scf.iv c0_i32_81 c1_i32 k0_t1
  let c1_i32_100 : BitVec 32 := 1#32
  let v144 : BitVec 32 := Scalar.muli arg12 c1_i32_100
  let v145 : BitVec 32 := Scalar.addi c0_i32_101 v144
  let c512_i32 : BitVec 32 := 512#32
  let v146 : BitVec 32 := Scalar.muli v145 c512_i32
  let v147 : BitVec 32 := v146
  let v2233 : Index := Scalar.indexCast v147
  ![69, v2233.toNat]
def k0_off210 (k0_t1 : Fin k0_t1_loop.trips) : Fin 2 → Nat :=
  let c2208 : Index := 2208#32
  let c0_i32_101 : BitVec 32 := 0#32
  let c0_i32_81 : BitVec 32 := 0#32
  let c1_i32 : BitVec 32 := 1#32
  let arg12 : BitVec 32 := Scf.iv c0_i32_81 c1_i32 k0_t1
  let c1_i32_100 : BitVec 32 := 1#32
  let v144 : BitVec 32 := Scalar.muli arg12 c1_i32_100
  let v145 : BitVec 32 := Scalar.addi c0_i32_101 v144
  let c512_i32 : BitVec 32 := 512#32
  let v146 : BitVec 32 := Scalar.muli v145 c512_i32
  let v147 : BitVec 32 := v146
  let v2244 : Index := Scalar.indexCast v147
  ![2208, v2244.toNat]
def k0_off211 (k0_t1 : Fin k0_t1_loop.trips) : Fin 2 → Nat :=
  let c1120_563 : Index := 1120#32
  let c0_i32_101 : BitVec 32 := 0#32
  let c0_i32_81 : BitVec 32 := 0#32
  let c1_i32 : BitVec 32 := 1#32
  let arg12 : BitVec 32 := Scf.iv c0_i32_81 c1_i32 k0_t1
  let c1_i32_100 : BitVec 32 := 1#32
  let v144 : BitVec 32 := Scalar.muli arg12 c1_i32_100
  let v145 : BitVec 32 := Scalar.addi c0_i32_101 v144
  let c512_i32 : BitVec 32 := 512#32
  let v146 : BitVec 32 := Scalar.muli v145 c512_i32
  let v147 : BitVec 32 := v146
  let v2248 : Index := Scalar.indexCast v147
  ![1120, v2248.toNat]
def k0_off212 (k0_t1 : Fin k0_t1_loop.trips) : Fin 2 → Nat :=
  let c70 : Index := 70#32
  let c0_i32_101 : BitVec 32 := 0#32
  let c0_i32_81 : BitVec 32 := 0#32
  let c1_i32 : BitVec 32 := 1#32
  let arg12 : BitVec 32 := Scf.iv c0_i32_81 c1_i32 k0_t1
  let c1_i32_100 : BitVec 32 := 1#32
  let v144 : BitVec 32 := Scalar.muli arg12 c1_i32_100
  let v145 : BitVec 32 := Scalar.addi c0_i32_101 v144
  let c512_i32 : BitVec 32 := 512#32
  let v146 : BitVec 32 := Scalar.muli v145 c512_i32
  let v147 : BitVec 32 := v146
  let v2263 : Index := Scalar.indexCast v147
  ![70, v2263.toNat]
def k0_off213 (k0_t1 : Fin k0_t1_loop.trips) : Fin 2 → Nat :=
  let c2240 : Index := 2240#32
  let c0_i32_101 : BitVec 32 := 0#32
  let c0_i32_81 : BitVec 32 := 0#32
  let c1_i32 : BitVec 32 := 1#32
  let arg12 : BitVec 32 := Scf.iv c0_i32_81 c1_i32 k0_t1
  let c1_i32_100 : BitVec 32 := 1#32
  let v144 : BitVec 32 := Scalar.muli arg12 c1_i32_100
  let v145 : BitVec 32 := Scalar.addi c0_i32_101 v144
  let c512_i32 : BitVec 32 := 512#32
  let v146 : BitVec 32 := Scalar.muli v145 c512_i32
  let v147 : BitVec 32 := v146
  let v2274 : Index := Scalar.indexCast v147
  ![2240, v2274.toNat]
def k0_off214 (k0_t1 : Fin k0_t1_loop.trips) : Fin 2 → Nat :=
  let c1136 : Index := 1136#32
  let c0_i32_101 : BitVec 32 := 0#32
  let c0_i32_81 : BitVec 32 := 0#32
  let c1_i32 : BitVec 32 := 1#32
  let arg12 : BitVec 32 := Scf.iv c0_i32_81 c1_i32 k0_t1
  let c1_i32_100 : BitVec 32 := 1#32
  let v144 : BitVec 32 := Scalar.muli arg12 c1_i32_100
  let v145 : BitVec 32 := Scalar.addi c0_i32_101 v144
  let c512_i32 : BitVec 32 := 512#32
  let v146 : BitVec 32 := Scalar.muli v145 c512_i32
  let v147 : BitVec 32 := v146
  let v2278 : Index := Scalar.indexCast v147
  ![1136, v2278.toNat]
def k0_off215 (k0_t1 : Fin k0_t1_loop.trips) : Fin 2 → Nat :=
  let c71 : Index := 71#32
  let c0_i32_101 : BitVec 32 := 0#32
  let c0_i32_81 : BitVec 32 := 0#32
  let c1_i32 : BitVec 32 := 1#32
  let arg12 : BitVec 32 := Scf.iv c0_i32_81 c1_i32 k0_t1
  let c1_i32_100 : BitVec 32 := 1#32
  let v144 : BitVec 32 := Scalar.muli arg12 c1_i32_100
  let v145 : BitVec 32 := Scalar.addi c0_i32_101 v144
  let c512_i32 : BitVec 32 := 512#32
  let v146 : BitVec 32 := Scalar.muli v145 c512_i32
  let v147 : BitVec 32 := v146
  let v2293 : Index := Scalar.indexCast v147
  ![71, v2293.toNat]
def k0_off216 (k0_t1 : Fin k0_t1_loop.trips) : Fin 2 → Nat :=
  let c2272 : Index := 2272#32
  let c0_i32_101 : BitVec 32 := 0#32
  let c0_i32_81 : BitVec 32 := 0#32
  let c1_i32 : BitVec 32 := 1#32
  let arg12 : BitVec 32 := Scf.iv c0_i32_81 c1_i32 k0_t1
  let c1_i32_100 : BitVec 32 := 1#32
  let v144 : BitVec 32 := Scalar.muli arg12 c1_i32_100
  let v145 : BitVec 32 := Scalar.addi c0_i32_101 v144
  let c512_i32 : BitVec 32 := 512#32
  let v146 : BitVec 32 := Scalar.muli v145 c512_i32
  let v147 : BitVec 32 := v146
  let v2304 : Index := Scalar.indexCast v147
  ![2272, v2304.toNat]
def k0_off217 (k0_t1 : Fin k0_t1_loop.trips) : Fin 2 → Nat :=
  let c1152_576 : Index := 1152#32
  let c0_i32_101 : BitVec 32 := 0#32
  let c0_i32_81 : BitVec 32 := 0#32
  let c1_i32 : BitVec 32 := 1#32
  let arg12 : BitVec 32 := Scf.iv c0_i32_81 c1_i32 k0_t1
  let c1_i32_100 : BitVec 32 := 1#32
  let v144 : BitVec 32 := Scalar.muli arg12 c1_i32_100
  let v145 : BitVec 32 := Scalar.addi c0_i32_101 v144
  let c512_i32 : BitVec 32 := 512#32
  let v146 : BitVec 32 := Scalar.muli v145 c512_i32
  let v147 : BitVec 32 := v146
  let v2308 : Index := Scalar.indexCast v147
  ![1152, v2308.toNat]
def k0_off218 (k0_t1 : Fin k0_t1_loop.trips) : Fin 2 → Nat :=
  let c72 : Index := 72#32
  let c0_i32_101 : BitVec 32 := 0#32
  let c0_i32_81 : BitVec 32 := 0#32
  let c1_i32 : BitVec 32 := 1#32
  let arg12 : BitVec 32 := Scf.iv c0_i32_81 c1_i32 k0_t1
  let c1_i32_100 : BitVec 32 := 1#32
  let v144 : BitVec 32 := Scalar.muli arg12 c1_i32_100
  let v145 : BitVec 32 := Scalar.addi c0_i32_101 v144
  let c512_i32 : BitVec 32 := 512#32
  let v146 : BitVec 32 := Scalar.muli v145 c512_i32
  let v147 : BitVec 32 := v146
  let v2323 : Index := Scalar.indexCast v147
  ![72, v2323.toNat]
def k0_off219 (k0_t1 : Fin k0_t1_loop.trips) : Fin 2 → Nat :=
  let c2304 : Index := 2304#32
  let c0_i32_101 : BitVec 32 := 0#32
  let c0_i32_81 : BitVec 32 := 0#32
  let c1_i32 : BitVec 32 := 1#32
  let arg12 : BitVec 32 := Scf.iv c0_i32_81 c1_i32 k0_t1
  let c1_i32_100 : BitVec 32 := 1#32
  let v144 : BitVec 32 := Scalar.muli arg12 c1_i32_100
  let v145 : BitVec 32 := Scalar.addi c0_i32_101 v144
  let c512_i32 : BitVec 32 := 512#32
  let v146 : BitVec 32 := Scalar.muli v145 c512_i32
  let v147 : BitVec 32 := v146
  let v2334 : Index := Scalar.indexCast v147
  ![2304, v2334.toNat]
def k0_off220 (k0_t1 : Fin k0_t1_loop.trips) : Fin 2 → Nat :=
  let c1168 : Index := 1168#32
  let c0_i32_101 : BitVec 32 := 0#32
  let c0_i32_81 : BitVec 32 := 0#32
  let c1_i32 : BitVec 32 := 1#32
  let arg12 : BitVec 32 := Scf.iv c0_i32_81 c1_i32 k0_t1
  let c1_i32_100 : BitVec 32 := 1#32
  let v144 : BitVec 32 := Scalar.muli arg12 c1_i32_100
  let v145 : BitVec 32 := Scalar.addi c0_i32_101 v144
  let c512_i32 : BitVec 32 := 512#32
  let v146 : BitVec 32 := Scalar.muli v145 c512_i32
  let v147 : BitVec 32 := v146
  let v2338 : Index := Scalar.indexCast v147
  ![1168, v2338.toNat]
def k0_off221 (k0_t1 : Fin k0_t1_loop.trips) : Fin 2 → Nat :=
  let c73 : Index := 73#32
  let c0_i32_101 : BitVec 32 := 0#32
  let c0_i32_81 : BitVec 32 := 0#32
  let c1_i32 : BitVec 32 := 1#32
  let arg12 : BitVec 32 := Scf.iv c0_i32_81 c1_i32 k0_t1
  let c1_i32_100 : BitVec 32 := 1#32
  let v144 : BitVec 32 := Scalar.muli arg12 c1_i32_100
  let v145 : BitVec 32 := Scalar.addi c0_i32_101 v144
  let c512_i32 : BitVec 32 := 512#32
  let v146 : BitVec 32 := Scalar.muli v145 c512_i32
  let v147 : BitVec 32 := v146
  let v2353 : Index := Scalar.indexCast v147
  ![73, v2353.toNat]
def k0_off222 (k0_t1 : Fin k0_t1_loop.trips) : Fin 2 → Nat :=
  let c2336 : Index := 2336#32
  let c0_i32_101 : BitVec 32 := 0#32
  let c0_i32_81 : BitVec 32 := 0#32
  let c1_i32 : BitVec 32 := 1#32
  let arg12 : BitVec 32 := Scf.iv c0_i32_81 c1_i32 k0_t1
  let c1_i32_100 : BitVec 32 := 1#32
  let v144 : BitVec 32 := Scalar.muli arg12 c1_i32_100
  let v145 : BitVec 32 := Scalar.addi c0_i32_101 v144
  let c512_i32 : BitVec 32 := 512#32
  let v146 : BitVec 32 := Scalar.muli v145 c512_i32
  let v147 : BitVec 32 := v146
  let v2364 : Index := Scalar.indexCast v147
  ![2336, v2364.toNat]
def k0_off223 (k0_t1 : Fin k0_t1_loop.trips) : Fin 2 → Nat :=
  let c1184_589 : Index := 1184#32
  let c0_i32_101 : BitVec 32 := 0#32
  let c0_i32_81 : BitVec 32 := 0#32
  let c1_i32 : BitVec 32 := 1#32
  let arg12 : BitVec 32 := Scf.iv c0_i32_81 c1_i32 k0_t1
  let c1_i32_100 : BitVec 32 := 1#32
  let v144 : BitVec 32 := Scalar.muli arg12 c1_i32_100
  let v145 : BitVec 32 := Scalar.addi c0_i32_101 v144
  let c512_i32 : BitVec 32 := 512#32
  let v146 : BitVec 32 := Scalar.muli v145 c512_i32
  let v147 : BitVec 32 := v146
  let v2368 : Index := Scalar.indexCast v147
  ![1184, v2368.toNat]
def k0_off224 (k0_t1 : Fin k0_t1_loop.trips) : Fin 2 → Nat :=
  let c74 : Index := 74#32
  let c0_i32_101 : BitVec 32 := 0#32
  let c0_i32_81 : BitVec 32 := 0#32
  let c1_i32 : BitVec 32 := 1#32
  let arg12 : BitVec 32 := Scf.iv c0_i32_81 c1_i32 k0_t1
  let c1_i32_100 : BitVec 32 := 1#32
  let v144 : BitVec 32 := Scalar.muli arg12 c1_i32_100
  let v145 : BitVec 32 := Scalar.addi c0_i32_101 v144
  let c512_i32 : BitVec 32 := 512#32
  let v146 : BitVec 32 := Scalar.muli v145 c512_i32
  let v147 : BitVec 32 := v146
  let v2383 : Index := Scalar.indexCast v147
  ![74, v2383.toNat]
def k0_off225 (k0_t1 : Fin k0_t1_loop.trips) : Fin 2 → Nat :=
  let c2368 : Index := 2368#32
  let c0_i32_101 : BitVec 32 := 0#32
  let c0_i32_81 : BitVec 32 := 0#32
  let c1_i32 : BitVec 32 := 1#32
  let arg12 : BitVec 32 := Scf.iv c0_i32_81 c1_i32 k0_t1
  let c1_i32_100 : BitVec 32 := 1#32
  let v144 : BitVec 32 := Scalar.muli arg12 c1_i32_100
  let v145 : BitVec 32 := Scalar.addi c0_i32_101 v144
  let c512_i32 : BitVec 32 := 512#32
  let v146 : BitVec 32 := Scalar.muli v145 c512_i32
  let v147 : BitVec 32 := v146
  let v2394 : Index := Scalar.indexCast v147
  ![2368, v2394.toNat]
def k0_off226 (k0_t1 : Fin k0_t1_loop.trips) : Fin 2 → Nat :=
  let c1200 : Index := 1200#32
  let c0_i32_101 : BitVec 32 := 0#32
  let c0_i32_81 : BitVec 32 := 0#32
  let c1_i32 : BitVec 32 := 1#32
  let arg12 : BitVec 32 := Scf.iv c0_i32_81 c1_i32 k0_t1
  let c1_i32_100 : BitVec 32 := 1#32
  let v144 : BitVec 32 := Scalar.muli arg12 c1_i32_100
  let v145 : BitVec 32 := Scalar.addi c0_i32_101 v144
  let c512_i32 : BitVec 32 := 512#32
  let v146 : BitVec 32 := Scalar.muli v145 c512_i32
  let v147 : BitVec 32 := v146
  let v2398 : Index := Scalar.indexCast v147
  ![1200, v2398.toNat]
def k0_off227 (k0_t1 : Fin k0_t1_loop.trips) : Fin 2 → Nat :=
  let c75 : Index := 75#32
  let c0_i32_101 : BitVec 32 := 0#32
  let c0_i32_81 : BitVec 32 := 0#32
  let c1_i32 : BitVec 32 := 1#32
  let arg12 : BitVec 32 := Scf.iv c0_i32_81 c1_i32 k0_t1
  let c1_i32_100 : BitVec 32 := 1#32
  let v144 : BitVec 32 := Scalar.muli arg12 c1_i32_100
  let v145 : BitVec 32 := Scalar.addi c0_i32_101 v144
  let c512_i32 : BitVec 32 := 512#32
  let v146 : BitVec 32 := Scalar.muli v145 c512_i32
  let v147 : BitVec 32 := v146
  let v2413 : Index := Scalar.indexCast v147
  ![75, v2413.toNat]
def k0_off228 (k0_t1 : Fin k0_t1_loop.trips) : Fin 2 → Nat :=
  let c2400 : Index := 2400#32
  let c0_i32_101 : BitVec 32 := 0#32
  let c0_i32_81 : BitVec 32 := 0#32
  let c1_i32 : BitVec 32 := 1#32
  let arg12 : BitVec 32 := Scf.iv c0_i32_81 c1_i32 k0_t1
  let c1_i32_100 : BitVec 32 := 1#32
  let v144 : BitVec 32 := Scalar.muli arg12 c1_i32_100
  let v145 : BitVec 32 := Scalar.addi c0_i32_101 v144
  let c512_i32 : BitVec 32 := 512#32
  let v146 : BitVec 32 := Scalar.muli v145 c512_i32
  let v147 : BitVec 32 := v146
  let v2424 : Index := Scalar.indexCast v147
  ![2400, v2424.toNat]
def k0_off229 (k0_t1 : Fin k0_t1_loop.trips) : Fin 2 → Nat :=
  let c1216_602 : Index := 1216#32
  let c0_i32_101 : BitVec 32 := 0#32
  let c0_i32_81 : BitVec 32 := 0#32
  let c1_i32 : BitVec 32 := 1#32
  let arg12 : BitVec 32 := Scf.iv c0_i32_81 c1_i32 k0_t1
  let c1_i32_100 : BitVec 32 := 1#32
  let v144 : BitVec 32 := Scalar.muli arg12 c1_i32_100
  let v145 : BitVec 32 := Scalar.addi c0_i32_101 v144
  let c512_i32 : BitVec 32 := 512#32
  let v146 : BitVec 32 := Scalar.muli v145 c512_i32
  let v147 : BitVec 32 := v146
  let v2428 : Index := Scalar.indexCast v147
  ![1216, v2428.toNat]
def k0_off230 (k0_t1 : Fin k0_t1_loop.trips) : Fin 2 → Nat :=
  let c76 : Index := 76#32
  let c0_i32_101 : BitVec 32 := 0#32
  let c0_i32_81 : BitVec 32 := 0#32
  let c1_i32 : BitVec 32 := 1#32
  let arg12 : BitVec 32 := Scf.iv c0_i32_81 c1_i32 k0_t1
  let c1_i32_100 : BitVec 32 := 1#32
  let v144 : BitVec 32 := Scalar.muli arg12 c1_i32_100
  let v145 : BitVec 32 := Scalar.addi c0_i32_101 v144
  let c512_i32 : BitVec 32 := 512#32
  let v146 : BitVec 32 := Scalar.muli v145 c512_i32
  let v147 : BitVec 32 := v146
  let v2443 : Index := Scalar.indexCast v147
  ![76, v2443.toNat]
def k0_off231 (k0_t1 : Fin k0_t1_loop.trips) : Fin 2 → Nat :=
  let c2432 : Index := 2432#32
  let c0_i32_101 : BitVec 32 := 0#32
  let c0_i32_81 : BitVec 32 := 0#32
  let c1_i32 : BitVec 32 := 1#32
  let arg12 : BitVec 32 := Scf.iv c0_i32_81 c1_i32 k0_t1
  let c1_i32_100 : BitVec 32 := 1#32
  let v144 : BitVec 32 := Scalar.muli arg12 c1_i32_100
  let v145 : BitVec 32 := Scalar.addi c0_i32_101 v144
  let c512_i32 : BitVec 32 := 512#32
  let v146 : BitVec 32 := Scalar.muli v145 c512_i32
  let v147 : BitVec 32 := v146
  let v2454 : Index := Scalar.indexCast v147
  ![2432, v2454.toNat]
def k0_off232 (k0_t1 : Fin k0_t1_loop.trips) : Fin 2 → Nat :=
  let c1232 : Index := 1232#32
  let c0_i32_101 : BitVec 32 := 0#32
  let c0_i32_81 : BitVec 32 := 0#32
  let c1_i32 : BitVec 32 := 1#32
  let arg12 : BitVec 32 := Scf.iv c0_i32_81 c1_i32 k0_t1
  let c1_i32_100 : BitVec 32 := 1#32
  let v144 : BitVec 32 := Scalar.muli arg12 c1_i32_100
  let v145 : BitVec 32 := Scalar.addi c0_i32_101 v144
  let c512_i32 : BitVec 32 := 512#32
  let v146 : BitVec 32 := Scalar.muli v145 c512_i32
  let v147 : BitVec 32 := v146
  let v2458 : Index := Scalar.indexCast v147
  ![1232, v2458.toNat]
def k0_off233 (k0_t1 : Fin k0_t1_loop.trips) : Fin 2 → Nat :=
  let c77 : Index := 77#32
  let c0_i32_101 : BitVec 32 := 0#32
  let c0_i32_81 : BitVec 32 := 0#32
  let c1_i32 : BitVec 32 := 1#32
  let arg12 : BitVec 32 := Scf.iv c0_i32_81 c1_i32 k0_t1
  let c1_i32_100 : BitVec 32 := 1#32
  let v144 : BitVec 32 := Scalar.muli arg12 c1_i32_100
  let v145 : BitVec 32 := Scalar.addi c0_i32_101 v144
  let c512_i32 : BitVec 32 := 512#32
  let v146 : BitVec 32 := Scalar.muli v145 c512_i32
  let v147 : BitVec 32 := v146
  let v2473 : Index := Scalar.indexCast v147
  ![77, v2473.toNat]
def k0_off234 (k0_t1 : Fin k0_t1_loop.trips) : Fin 2 → Nat :=
  let c2464 : Index := 2464#32
  let c0_i32_101 : BitVec 32 := 0#32
  let c0_i32_81 : BitVec 32 := 0#32
  let c1_i32 : BitVec 32 := 1#32
  let arg12 : BitVec 32 := Scf.iv c0_i32_81 c1_i32 k0_t1
  let c1_i32_100 : BitVec 32 := 1#32
  let v144 : BitVec 32 := Scalar.muli arg12 c1_i32_100
  let v145 : BitVec 32 := Scalar.addi c0_i32_101 v144
  let c512_i32 : BitVec 32 := 512#32
  let v146 : BitVec 32 := Scalar.muli v145 c512_i32
  let v147 : BitVec 32 := v146
  let v2484 : Index := Scalar.indexCast v147
  ![2464, v2484.toNat]
def k0_off235 (k0_t1 : Fin k0_t1_loop.trips) : Fin 2 → Nat :=
  let c1248_615 : Index := 1248#32
  let c0_i32_101 : BitVec 32 := 0#32
  let c0_i32_81 : BitVec 32 := 0#32
  let c1_i32 : BitVec 32 := 1#32
  let arg12 : BitVec 32 := Scf.iv c0_i32_81 c1_i32 k0_t1
  let c1_i32_100 : BitVec 32 := 1#32
  let v144 : BitVec 32 := Scalar.muli arg12 c1_i32_100
  let v145 : BitVec 32 := Scalar.addi c0_i32_101 v144
  let c512_i32 : BitVec 32 := 512#32
  let v146 : BitVec 32 := Scalar.muli v145 c512_i32
  let v147 : BitVec 32 := v146
  let v2488 : Index := Scalar.indexCast v147
  ![1248, v2488.toNat]
def k0_off236 (k0_t1 : Fin k0_t1_loop.trips) : Fin 2 → Nat :=
  let c78 : Index := 78#32
  let c0_i32_101 : BitVec 32 := 0#32
  let c0_i32_81 : BitVec 32 := 0#32
  let c1_i32 : BitVec 32 := 1#32
  let arg12 : BitVec 32 := Scf.iv c0_i32_81 c1_i32 k0_t1
  let c1_i32_100 : BitVec 32 := 1#32
  let v144 : BitVec 32 := Scalar.muli arg12 c1_i32_100
  let v145 : BitVec 32 := Scalar.addi c0_i32_101 v144
  let c512_i32 : BitVec 32 := 512#32
  let v146 : BitVec 32 := Scalar.muli v145 c512_i32
  let v147 : BitVec 32 := v146
  let v2503 : Index := Scalar.indexCast v147
  ![78, v2503.toNat]
def k0_off237 (k0_t1 : Fin k0_t1_loop.trips) : Fin 2 → Nat :=
  let c2496 : Index := 2496#32
  let c0_i32_101 : BitVec 32 := 0#32
  let c0_i32_81 : BitVec 32 := 0#32
  let c1_i32 : BitVec 32 := 1#32
  let arg12 : BitVec 32 := Scf.iv c0_i32_81 c1_i32 k0_t1
  let c1_i32_100 : BitVec 32 := 1#32
  let v144 : BitVec 32 := Scalar.muli arg12 c1_i32_100
  let v145 : BitVec 32 := Scalar.addi c0_i32_101 v144
  let c512_i32 : BitVec 32 := 512#32
  let v146 : BitVec 32 := Scalar.muli v145 c512_i32
  let v147 : BitVec 32 := v146
  let v2514 : Index := Scalar.indexCast v147
  ![2496, v2514.toNat]
def k0_off238 (k0_t1 : Fin k0_t1_loop.trips) : Fin 2 → Nat :=
  let c1264 : Index := 1264#32
  let c0_i32_101 : BitVec 32 := 0#32
  let c0_i32_81 : BitVec 32 := 0#32
  let c1_i32 : BitVec 32 := 1#32
  let arg12 : BitVec 32 := Scf.iv c0_i32_81 c1_i32 k0_t1
  let c1_i32_100 : BitVec 32 := 1#32
  let v144 : BitVec 32 := Scalar.muli arg12 c1_i32_100
  let v145 : BitVec 32 := Scalar.addi c0_i32_101 v144
  let c512_i32 : BitVec 32 := 512#32
  let v146 : BitVec 32 := Scalar.muli v145 c512_i32
  let v147 : BitVec 32 := v146
  let v2518 : Index := Scalar.indexCast v147
  ![1264, v2518.toNat]
def k0_off239 (k0_t1 : Fin k0_t1_loop.trips) : Fin 2 → Nat :=
  let c79 : Index := 79#32
  let c0_i32_101 : BitVec 32 := 0#32
  let c0_i32_81 : BitVec 32 := 0#32
  let c1_i32 : BitVec 32 := 1#32
  let arg12 : BitVec 32 := Scf.iv c0_i32_81 c1_i32 k0_t1
  let c1_i32_100 : BitVec 32 := 1#32
  let v144 : BitVec 32 := Scalar.muli arg12 c1_i32_100
  let v145 : BitVec 32 := Scalar.addi c0_i32_101 v144
  let c512_i32 : BitVec 32 := 512#32
  let v146 : BitVec 32 := Scalar.muli v145 c512_i32
  let v147 : BitVec 32 := v146
  let v2533 : Index := Scalar.indexCast v147
  ![79, v2533.toNat]
def k0_off240 (k0_t1 : Fin k0_t1_loop.trips) : Fin 2 → Nat :=
  let c2528 : Index := 2528#32
  let c0_i32_101 : BitVec 32 := 0#32
  let c0_i32_81 : BitVec 32 := 0#32
  let c1_i32 : BitVec 32 := 1#32
  let arg12 : BitVec 32 := Scf.iv c0_i32_81 c1_i32 k0_t1
  let c1_i32_100 : BitVec 32 := 1#32
  let v144 : BitVec 32 := Scalar.muli arg12 c1_i32_100
  let v145 : BitVec 32 := Scalar.addi c0_i32_101 v144
  let c512_i32 : BitVec 32 := 512#32
  let v146 : BitVec 32 := Scalar.muli v145 c512_i32
  let v147 : BitVec 32 := v146
  let v2544 : Index := Scalar.indexCast v147
  ![2528, v2544.toNat]
def k0_off241 (k0_t1 : Fin k0_t1_loop.trips) : Fin 2 → Nat :=
  let c1280_628 : Index := 1280#32
  let c0_i32_101 : BitVec 32 := 0#32
  let c0_i32_81 : BitVec 32 := 0#32
  let c1_i32 : BitVec 32 := 1#32
  let arg12 : BitVec 32 := Scf.iv c0_i32_81 c1_i32 k0_t1
  let c1_i32_100 : BitVec 32 := 1#32
  let v144 : BitVec 32 := Scalar.muli arg12 c1_i32_100
  let v145 : BitVec 32 := Scalar.addi c0_i32_101 v144
  let c512_i32 : BitVec 32 := 512#32
  let v146 : BitVec 32 := Scalar.muli v145 c512_i32
  let v147 : BitVec 32 := v146
  let v2548 : Index := Scalar.indexCast v147
  ![1280, v2548.toNat]
def k0_off242 (k0_t1 : Fin k0_t1_loop.trips) : Fin 2 → Nat :=
  let c80_634 : Index := 80#32
  let c0_i32_101 : BitVec 32 := 0#32
  let c0_i32_81 : BitVec 32 := 0#32
  let c1_i32 : BitVec 32 := 1#32
  let arg12 : BitVec 32 := Scf.iv c0_i32_81 c1_i32 k0_t1
  let c1_i32_100 : BitVec 32 := 1#32
  let v144 : BitVec 32 := Scalar.muli arg12 c1_i32_100
  let v145 : BitVec 32 := Scalar.addi c0_i32_101 v144
  let c512_i32 : BitVec 32 := 512#32
  let v146 : BitVec 32 := Scalar.muli v145 c512_i32
  let v147 : BitVec 32 := v146
  let v2563 : Index := Scalar.indexCast v147
  ![80, v2563.toNat]
def k0_off243 (k0_t1 : Fin k0_t1_loop.trips) : Fin 2 → Nat :=
  let c2560_636 : Index := 2560#32
  let c0_i32_101 : BitVec 32 := 0#32
  let c0_i32_81 : BitVec 32 := 0#32
  let c1_i32 : BitVec 32 := 1#32
  let arg12 : BitVec 32 := Scf.iv c0_i32_81 c1_i32 k0_t1
  let c1_i32_100 : BitVec 32 := 1#32
  let v144 : BitVec 32 := Scalar.muli arg12 c1_i32_100
  let v145 : BitVec 32 := Scalar.addi c0_i32_101 v144
  let c512_i32 : BitVec 32 := 512#32
  let v146 : BitVec 32 := Scalar.muli v145 c512_i32
  let v147 : BitVec 32 := v146
  let v2574 : Index := Scalar.indexCast v147
  ![2560, v2574.toNat]
def k0_off244 (k0_t1 : Fin k0_t1_loop.trips) : Fin 2 → Nat :=
  let c1296 : Index := 1296#32
  let c0_i32_101 : BitVec 32 := 0#32
  let c0_i32_81 : BitVec 32 := 0#32
  let c1_i32 : BitVec 32 := 1#32
  let arg12 : BitVec 32 := Scf.iv c0_i32_81 c1_i32 k0_t1
  let c1_i32_100 : BitVec 32 := 1#32
  let v144 : BitVec 32 := Scalar.muli arg12 c1_i32_100
  let v145 : BitVec 32 := Scalar.addi c0_i32_101 v144
  let c512_i32 : BitVec 32 := 512#32
  let v146 : BitVec 32 := Scalar.muli v145 c512_i32
  let v147 : BitVec 32 := v146
  let v2578 : Index := Scalar.indexCast v147
  ![1296, v2578.toNat]
def k0_off245 (k0_t1 : Fin k0_t1_loop.trips) : Fin 2 → Nat :=
  let c81 : Index := 81#32
  let c0_i32_101 : BitVec 32 := 0#32
  let c0_i32_81 : BitVec 32 := 0#32
  let c1_i32 : BitVec 32 := 1#32
  let arg12 : BitVec 32 := Scf.iv c0_i32_81 c1_i32 k0_t1
  let c1_i32_100 : BitVec 32 := 1#32
  let v144 : BitVec 32 := Scalar.muli arg12 c1_i32_100
  let v145 : BitVec 32 := Scalar.addi c0_i32_101 v144
  let c512_i32 : BitVec 32 := 512#32
  let v146 : BitVec 32 := Scalar.muli v145 c512_i32
  let v147 : BitVec 32 := v146
  let v2593 : Index := Scalar.indexCast v147
  ![81, v2593.toNat]
def k0_off246 (k0_t1 : Fin k0_t1_loop.trips) : Fin 2 → Nat :=
  let c2592 : Index := 2592#32
  let c0_i32_101 : BitVec 32 := 0#32
  let c0_i32_81 : BitVec 32 := 0#32
  let c1_i32 : BitVec 32 := 1#32
  let arg12 : BitVec 32 := Scf.iv c0_i32_81 c1_i32 k0_t1
  let c1_i32_100 : BitVec 32 := 1#32
  let v144 : BitVec 32 := Scalar.muli arg12 c1_i32_100
  let v145 : BitVec 32 := Scalar.addi c0_i32_101 v144
  let c512_i32 : BitVec 32 := 512#32
  let v146 : BitVec 32 := Scalar.muli v145 c512_i32
  let v147 : BitVec 32 := v146
  let v2604 : Index := Scalar.indexCast v147
  ![2592, v2604.toNat]
def k0_off247 (k0_t1 : Fin k0_t1_loop.trips) : Fin 2 → Nat :=
  let c1312_643 : Index := 1312#32
  let c0_i32_101 : BitVec 32 := 0#32
  let c0_i32_81 : BitVec 32 := 0#32
  let c1_i32 : BitVec 32 := 1#32
  let arg12 : BitVec 32 := Scf.iv c0_i32_81 c1_i32 k0_t1
  let c1_i32_100 : BitVec 32 := 1#32
  let v144 : BitVec 32 := Scalar.muli arg12 c1_i32_100
  let v145 : BitVec 32 := Scalar.addi c0_i32_101 v144
  let c512_i32 : BitVec 32 := 512#32
  let v146 : BitVec 32 := Scalar.muli v145 c512_i32
  let v147 : BitVec 32 := v146
  let v2608 : Index := Scalar.indexCast v147
  ![1312, v2608.toNat]
def k0_off248 (k0_t1 : Fin k0_t1_loop.trips) : Fin 2 → Nat :=
  let c82 : Index := 82#32
  let c0_i32_101 : BitVec 32 := 0#32
  let c0_i32_81 : BitVec 32 := 0#32
  let c1_i32 : BitVec 32 := 1#32
  let arg12 : BitVec 32 := Scf.iv c0_i32_81 c1_i32 k0_t1
  let c1_i32_100 : BitVec 32 := 1#32
  let v144 : BitVec 32 := Scalar.muli arg12 c1_i32_100
  let v145 : BitVec 32 := Scalar.addi c0_i32_101 v144
  let c512_i32 : BitVec 32 := 512#32
  let v146 : BitVec 32 := Scalar.muli v145 c512_i32
  let v147 : BitVec 32 := v146
  let v2623 : Index := Scalar.indexCast v147
  ![82, v2623.toNat]
def k0_off249 (k0_t1 : Fin k0_t1_loop.trips) : Fin 2 → Nat :=
  let c2624 : Index := 2624#32
  let c0_i32_101 : BitVec 32 := 0#32
  let c0_i32_81 : BitVec 32 := 0#32
  let c1_i32 : BitVec 32 := 1#32
  let arg12 : BitVec 32 := Scf.iv c0_i32_81 c1_i32 k0_t1
  let c1_i32_100 : BitVec 32 := 1#32
  let v144 : BitVec 32 := Scalar.muli arg12 c1_i32_100
  let v145 : BitVec 32 := Scalar.addi c0_i32_101 v144
  let c512_i32 : BitVec 32 := 512#32
  let v146 : BitVec 32 := Scalar.muli v145 c512_i32
  let v147 : BitVec 32 := v146
  let v2634 : Index := Scalar.indexCast v147
  ![2624, v2634.toNat]
def k0_off250 (k0_t1 : Fin k0_t1_loop.trips) : Fin 2 → Nat :=
  let c1328 : Index := 1328#32
  let c0_i32_101 : BitVec 32 := 0#32
  let c0_i32_81 : BitVec 32 := 0#32
  let c1_i32 : BitVec 32 := 1#32
  let arg12 : BitVec 32 := Scf.iv c0_i32_81 c1_i32 k0_t1
  let c1_i32_100 : BitVec 32 := 1#32
  let v144 : BitVec 32 := Scalar.muli arg12 c1_i32_100
  let v145 : BitVec 32 := Scalar.addi c0_i32_101 v144
  let c512_i32 : BitVec 32 := 512#32
  let v146 : BitVec 32 := Scalar.muli v145 c512_i32
  let v147 : BitVec 32 := v146
  let v2638 : Index := Scalar.indexCast v147
  ![1328, v2638.toNat]
def k0_off251 (k0_t1 : Fin k0_t1_loop.trips) : Fin 2 → Nat :=
  let c83 : Index := 83#32
  let c0_i32_101 : BitVec 32 := 0#32
  let c0_i32_81 : BitVec 32 := 0#32
  let c1_i32 : BitVec 32 := 1#32
  let arg12 : BitVec 32 := Scf.iv c0_i32_81 c1_i32 k0_t1
  let c1_i32_100 : BitVec 32 := 1#32
  let v144 : BitVec 32 := Scalar.muli arg12 c1_i32_100
  let v145 : BitVec 32 := Scalar.addi c0_i32_101 v144
  let c512_i32 : BitVec 32 := 512#32
  let v146 : BitVec 32 := Scalar.muli v145 c512_i32
  let v147 : BitVec 32 := v146
  let v2653 : Index := Scalar.indexCast v147
  ![83, v2653.toNat]
def k0_off252 (k0_t1 : Fin k0_t1_loop.trips) : Fin 2 → Nat :=
  let c2656 : Index := 2656#32
  let c0_i32_101 : BitVec 32 := 0#32
  let c0_i32_81 : BitVec 32 := 0#32
  let c1_i32 : BitVec 32 := 1#32
  let arg12 : BitVec 32 := Scf.iv c0_i32_81 c1_i32 k0_t1
  let c1_i32_100 : BitVec 32 := 1#32
  let v144 : BitVec 32 := Scalar.muli arg12 c1_i32_100
  let v145 : BitVec 32 := Scalar.addi c0_i32_101 v144
  let c512_i32 : BitVec 32 := 512#32
  let v146 : BitVec 32 := Scalar.muli v145 c512_i32
  let v147 : BitVec 32 := v146
  let v2664 : Index := Scalar.indexCast v147
  ![2656, v2664.toNat]
def k0_off253 (k0_t1 : Fin k0_t1_loop.trips) : Fin 2 → Nat :=
  let c1344_656 : Index := 1344#32
  let c0_i32_101 : BitVec 32 := 0#32
  let c0_i32_81 : BitVec 32 := 0#32
  let c1_i32 : BitVec 32 := 1#32
  let arg12 : BitVec 32 := Scf.iv c0_i32_81 c1_i32 k0_t1
  let c1_i32_100 : BitVec 32 := 1#32
  let v144 : BitVec 32 := Scalar.muli arg12 c1_i32_100
  let v145 : BitVec 32 := Scalar.addi c0_i32_101 v144
  let c512_i32 : BitVec 32 := 512#32
  let v146 : BitVec 32 := Scalar.muli v145 c512_i32
  let v147 : BitVec 32 := v146
  let v2668 : Index := Scalar.indexCast v147
  ![1344, v2668.toNat]
def k0_off254 (k0_t1 : Fin k0_t1_loop.trips) : Fin 2 → Nat :=
  let c84 : Index := 84#32
  let c0_i32_101 : BitVec 32 := 0#32
  let c0_i32_81 : BitVec 32 := 0#32
  let c1_i32 : BitVec 32 := 1#32
  let arg12 : BitVec 32 := Scf.iv c0_i32_81 c1_i32 k0_t1
  let c1_i32_100 : BitVec 32 := 1#32
  let v144 : BitVec 32 := Scalar.muli arg12 c1_i32_100
  let v145 : BitVec 32 := Scalar.addi c0_i32_101 v144
  let c512_i32 : BitVec 32 := 512#32
  let v146 : BitVec 32 := Scalar.muli v145 c512_i32
  let v147 : BitVec 32 := v146
  let v2683 : Index := Scalar.indexCast v147
  ![84, v2683.toNat]
def k0_off255 (k0_t1 : Fin k0_t1_loop.trips) : Fin 2 → Nat :=
  let c2688 : Index := 2688#32
  let c0_i32_101 : BitVec 32 := 0#32
  let c0_i32_81 : BitVec 32 := 0#32
  let c1_i32 : BitVec 32 := 1#32
  let arg12 : BitVec 32 := Scf.iv c0_i32_81 c1_i32 k0_t1
  let c1_i32_100 : BitVec 32 := 1#32
  let v144 : BitVec 32 := Scalar.muli arg12 c1_i32_100
  let v145 : BitVec 32 := Scalar.addi c0_i32_101 v144
  let c512_i32 : BitVec 32 := 512#32
  let v146 : BitVec 32 := Scalar.muli v145 c512_i32
  let v147 : BitVec 32 := v146
  let v2694 : Index := Scalar.indexCast v147
  ![2688, v2694.toNat]
def k0_off256 (k0_t1 : Fin k0_t1_loop.trips) : Fin 2 → Nat :=
  let c1360 : Index := 1360#32
  let c0_i32_101 : BitVec 32 := 0#32
  let c0_i32_81 : BitVec 32 := 0#32
  let c1_i32 : BitVec 32 := 1#32
  let arg12 : BitVec 32 := Scf.iv c0_i32_81 c1_i32 k0_t1
  let c1_i32_100 : BitVec 32 := 1#32
  let v144 : BitVec 32 := Scalar.muli arg12 c1_i32_100
  let v145 : BitVec 32 := Scalar.addi c0_i32_101 v144
  let c512_i32 : BitVec 32 := 512#32
  let v146 : BitVec 32 := Scalar.muli v145 c512_i32
  let v147 : BitVec 32 := v146
  let v2698 : Index := Scalar.indexCast v147
  ![1360, v2698.toNat]
def k0_off257 (k0_t1 : Fin k0_t1_loop.trips) : Fin 2 → Nat :=
  let c85 : Index := 85#32
  let c0_i32_101 : BitVec 32 := 0#32
  let c0_i32_81 : BitVec 32 := 0#32
  let c1_i32 : BitVec 32 := 1#32
  let arg12 : BitVec 32 := Scf.iv c0_i32_81 c1_i32 k0_t1
  let c1_i32_100 : BitVec 32 := 1#32
  let v144 : BitVec 32 := Scalar.muli arg12 c1_i32_100
  let v145 : BitVec 32 := Scalar.addi c0_i32_101 v144
  let c512_i32 : BitVec 32 := 512#32
  let v146 : BitVec 32 := Scalar.muli v145 c512_i32
  let v147 : BitVec 32 := v146
  let v2713 : Index := Scalar.indexCast v147
  ![85, v2713.toNat]
def k0_off258 (k0_t1 : Fin k0_t1_loop.trips) : Fin 2 → Nat :=
  let c2720 : Index := 2720#32
  let c0_i32_101 : BitVec 32 := 0#32
  let c0_i32_81 : BitVec 32 := 0#32
  let c1_i32 : BitVec 32 := 1#32
  let arg12 : BitVec 32 := Scf.iv c0_i32_81 c1_i32 k0_t1
  let c1_i32_100 : BitVec 32 := 1#32
  let v144 : BitVec 32 := Scalar.muli arg12 c1_i32_100
  let v145 : BitVec 32 := Scalar.addi c0_i32_101 v144
  let c512_i32 : BitVec 32 := 512#32
  let v146 : BitVec 32 := Scalar.muli v145 c512_i32
  let v147 : BitVec 32 := v146
  let v2724 : Index := Scalar.indexCast v147
  ![2720, v2724.toNat]
def k0_off259 (k0_t1 : Fin k0_t1_loop.trips) : Fin 2 → Nat :=
  let c1376_669 : Index := 1376#32
  let c0_i32_101 : BitVec 32 := 0#32
  let c0_i32_81 : BitVec 32 := 0#32
  let c1_i32 : BitVec 32 := 1#32
  let arg12 : BitVec 32 := Scf.iv c0_i32_81 c1_i32 k0_t1
  let c1_i32_100 : BitVec 32 := 1#32
  let v144 : BitVec 32 := Scalar.muli arg12 c1_i32_100
  let v145 : BitVec 32 := Scalar.addi c0_i32_101 v144
  let c512_i32 : BitVec 32 := 512#32
  let v146 : BitVec 32 := Scalar.muli v145 c512_i32
  let v147 : BitVec 32 := v146
  let v2728 : Index := Scalar.indexCast v147
  ![1376, v2728.toNat]
def k0_off260 (k0_t1 : Fin k0_t1_loop.trips) : Fin 2 → Nat :=
  let c86 : Index := 86#32
  let c0_i32_101 : BitVec 32 := 0#32
  let c0_i32_81 : BitVec 32 := 0#32
  let c1_i32 : BitVec 32 := 1#32
  let arg12 : BitVec 32 := Scf.iv c0_i32_81 c1_i32 k0_t1
  let c1_i32_100 : BitVec 32 := 1#32
  let v144 : BitVec 32 := Scalar.muli arg12 c1_i32_100
  let v145 : BitVec 32 := Scalar.addi c0_i32_101 v144
  let c512_i32 : BitVec 32 := 512#32
  let v146 : BitVec 32 := Scalar.muli v145 c512_i32
  let v147 : BitVec 32 := v146
  let v2743 : Index := Scalar.indexCast v147
  ![86, v2743.toNat]
def k0_off261 (k0_t1 : Fin k0_t1_loop.trips) : Fin 2 → Nat :=
  let c2752 : Index := 2752#32
  let c0_i32_101 : BitVec 32 := 0#32
  let c0_i32_81 : BitVec 32 := 0#32
  let c1_i32 : BitVec 32 := 1#32
  let arg12 : BitVec 32 := Scf.iv c0_i32_81 c1_i32 k0_t1
  let c1_i32_100 : BitVec 32 := 1#32
  let v144 : BitVec 32 := Scalar.muli arg12 c1_i32_100
  let v145 : BitVec 32 := Scalar.addi c0_i32_101 v144
  let c512_i32 : BitVec 32 := 512#32
  let v146 : BitVec 32 := Scalar.muli v145 c512_i32
  let v147 : BitVec 32 := v146
  let v2754 : Index := Scalar.indexCast v147
  ![2752, v2754.toNat]
def k0_off262 (k0_t1 : Fin k0_t1_loop.trips) : Fin 2 → Nat :=
  let c1392 : Index := 1392#32
  let c0_i32_101 : BitVec 32 := 0#32
  let c0_i32_81 : BitVec 32 := 0#32
  let c1_i32 : BitVec 32 := 1#32
  let arg12 : BitVec 32 := Scf.iv c0_i32_81 c1_i32 k0_t1
  let c1_i32_100 : BitVec 32 := 1#32
  let v144 : BitVec 32 := Scalar.muli arg12 c1_i32_100
  let v145 : BitVec 32 := Scalar.addi c0_i32_101 v144
  let c512_i32 : BitVec 32 := 512#32
  let v146 : BitVec 32 := Scalar.muli v145 c512_i32
  let v147 : BitVec 32 := v146
  let v2758 : Index := Scalar.indexCast v147
  ![1392, v2758.toNat]
def k0_off263 (k0_t1 : Fin k0_t1_loop.trips) : Fin 2 → Nat :=
  let c87 : Index := 87#32
  let c0_i32_101 : BitVec 32 := 0#32
  let c0_i32_81 : BitVec 32 := 0#32
  let c1_i32 : BitVec 32 := 1#32
  let arg12 : BitVec 32 := Scf.iv c0_i32_81 c1_i32 k0_t1
  let c1_i32_100 : BitVec 32 := 1#32
  let v144 : BitVec 32 := Scalar.muli arg12 c1_i32_100
  let v145 : BitVec 32 := Scalar.addi c0_i32_101 v144
  let c512_i32 : BitVec 32 := 512#32
  let v146 : BitVec 32 := Scalar.muli v145 c512_i32
  let v147 : BitVec 32 := v146
  let v2773 : Index := Scalar.indexCast v147
  ![87, v2773.toNat]
def k0_off264 (k0_t1 : Fin k0_t1_loop.trips) : Fin 2 → Nat :=
  let c2784 : Index := 2784#32
  let c0_i32_101 : BitVec 32 := 0#32
  let c0_i32_81 : BitVec 32 := 0#32
  let c1_i32 : BitVec 32 := 1#32
  let arg12 : BitVec 32 := Scf.iv c0_i32_81 c1_i32 k0_t1
  let c1_i32_100 : BitVec 32 := 1#32
  let v144 : BitVec 32 := Scalar.muli arg12 c1_i32_100
  let v145 : BitVec 32 := Scalar.addi c0_i32_101 v144
  let c512_i32 : BitVec 32 := 512#32
  let v146 : BitVec 32 := Scalar.muli v145 c512_i32
  let v147 : BitVec 32 := v146
  let v2784 : Index := Scalar.indexCast v147
  ![2784, v2784.toNat]
def k0_off265 (k0_t1 : Fin k0_t1_loop.trips) : Fin 2 → Nat :=
  let c1408_682 : Index := 1408#32
  let c0_i32_101 : BitVec 32 := 0#32
  let c0_i32_81 : BitVec 32 := 0#32
  let c1_i32 : BitVec 32 := 1#32
  let arg12 : BitVec 32 := Scf.iv c0_i32_81 c1_i32 k0_t1
  let c1_i32_100 : BitVec 32 := 1#32
  let v144 : BitVec 32 := Scalar.muli arg12 c1_i32_100
  let v145 : BitVec 32 := Scalar.addi c0_i32_101 v144
  let c512_i32 : BitVec 32 := 512#32
  let v146 : BitVec 32 := Scalar.muli v145 c512_i32
  let v147 : BitVec 32 := v146
  let v2788 : Index := Scalar.indexCast v147
  ![1408, v2788.toNat]
def k0_off266 (k0_t1 : Fin k0_t1_loop.trips) : Fin 2 → Nat :=
  let c88 : Index := 88#32
  let c0_i32_101 : BitVec 32 := 0#32
  let c0_i32_81 : BitVec 32 := 0#32
  let c1_i32 : BitVec 32 := 1#32
  let arg12 : BitVec 32 := Scf.iv c0_i32_81 c1_i32 k0_t1
  let c1_i32_100 : BitVec 32 := 1#32
  let v144 : BitVec 32 := Scalar.muli arg12 c1_i32_100
  let v145 : BitVec 32 := Scalar.addi c0_i32_101 v144
  let c512_i32 : BitVec 32 := 512#32
  let v146 : BitVec 32 := Scalar.muli v145 c512_i32
  let v147 : BitVec 32 := v146
  let v2803 : Index := Scalar.indexCast v147
  ![88, v2803.toNat]
def k0_off267 (k0_t1 : Fin k0_t1_loop.trips) : Fin 2 → Nat :=
  let c0_689 : Index := 0#32
  let c0_i32_101 : BitVec 32 := 0#32
  let c0_i32_81 : BitVec 32 := 0#32
  let c1_i32 : BitVec 32 := 1#32
  let arg12 : BitVec 32 := Scf.iv c0_i32_81 c1_i32 k0_t1
  let c1_i32_100 : BitVec 32 := 1#32
  let v144 : BitVec 32 := Scalar.muli arg12 c1_i32_100
  let v145 : BitVec 32 := Scalar.addi c0_i32_101 v144
  let c512_i32 : BitVec 32 := 512#32
  let v146 : BitVec 32 := Scalar.muli v145 c512_i32
  let v147 : BitVec 32 := v146
  let v2814 : Index := Scalar.indexCast v147
  ![0, v2814.toNat]
def k0_off268 (k0_t1 : Fin k0_t1_loop.trips) : Fin 2 → Nat :=
  let c1424 : Index := 1424#32
  let c0_i32_101 : BitVec 32 := 0#32
  let c0_i32_81 : BitVec 32 := 0#32
  let c1_i32 : BitVec 32 := 1#32
  let arg12 : BitVec 32 := Scf.iv c0_i32_81 c1_i32 k0_t1
  let c1_i32_100 : BitVec 32 := 1#32
  let v144 : BitVec 32 := Scalar.muli arg12 c1_i32_100
  let v145 : BitVec 32 := Scalar.addi c0_i32_101 v144
  let c512_i32 : BitVec 32 := 512#32
  let v146 : BitVec 32 := Scalar.muli v145 c512_i32
  let v147 : BitVec 32 := v146
  let v2818 : Index := Scalar.indexCast v147
  ![1424, v2818.toNat]
def k0_off269 (k0_t1 : Fin k0_t1_loop.trips) : Fin 2 → Nat :=
  let c89 : Index := 89#32
  let c0_i32_101 : BitVec 32 := 0#32
  let c0_i32_81 : BitVec 32 := 0#32
  let c1_i32 : BitVec 32 := 1#32
  let arg12 : BitVec 32 := Scf.iv c0_i32_81 c1_i32 k0_t1
  let c1_i32_100 : BitVec 32 := 1#32
  let v144 : BitVec 32 := Scalar.muli arg12 c1_i32_100
  let v145 : BitVec 32 := Scalar.addi c0_i32_101 v144
  let c512_i32 : BitVec 32 := 512#32
  let v146 : BitVec 32 := Scalar.muli v145 c512_i32
  let v147 : BitVec 32 := v146
  let v2833 : Index := Scalar.indexCast v147
  ![89, v2833.toNat]
def k0_off270 (k0_t1 : Fin k0_t1_loop.trips) : Fin 2 → Nat :=
  let c32_696 : Index := 32#32
  let c0_i32_101 : BitVec 32 := 0#32
  let c0_i32_81 : BitVec 32 := 0#32
  let c1_i32 : BitVec 32 := 1#32
  let arg12 : BitVec 32 := Scf.iv c0_i32_81 c1_i32 k0_t1
  let c1_i32_100 : BitVec 32 := 1#32
  let v144 : BitVec 32 := Scalar.muli arg12 c1_i32_100
  let v145 : BitVec 32 := Scalar.addi c0_i32_101 v144
  let c512_i32 : BitVec 32 := 512#32
  let v146 : BitVec 32 := Scalar.muli v145 c512_i32
  let v147 : BitVec 32 := v146
  let v2844 : Index := Scalar.indexCast v147
  ![32, v2844.toNat]
def k0_off271 (k0_t1 : Fin k0_t1_loop.trips) : Fin 2 → Nat :=
  let c0_697 : Index := 0#32
  let c0_i32_101 : BitVec 32 := 0#32
  let c0_i32_81 : BitVec 32 := 0#32
  let c1_i32 : BitVec 32 := 1#32
  let arg12 : BitVec 32 := Scf.iv c0_i32_81 c1_i32 k0_t1
  let c1_i32_100 : BitVec 32 := 1#32
  let v144 : BitVec 32 := Scalar.muli arg12 c1_i32_100
  let v145 : BitVec 32 := Scalar.addi c0_i32_101 v144
  let c512_i32 : BitVec 32 := 512#32
  let v146 : BitVec 32 := Scalar.muli v145 c512_i32
  let v147 : BitVec 32 := v146
  let v2848 : Index := Scalar.indexCast v147
  ![0, v2848.toNat]
def k0_off272 (k0_t1 : Fin k0_t1_loop.trips) : Fin 2 → Nat :=
  let c64_698 : Index := 64#32
  let c0_i32_101 : BitVec 32 := 0#32
  let c0_i32_81 : BitVec 32 := 0#32
  let c1_i32 : BitVec 32 := 1#32
  let arg12 : BitVec 32 := Scf.iv c0_i32_81 c1_i32 k0_t1
  let c1_i32_100 : BitVec 32 := 1#32
  let v144 : BitVec 32 := Scalar.muli arg12 c1_i32_100
  let v145 : BitVec 32 := Scalar.addi c0_i32_101 v144
  let c512_i32 : BitVec 32 := 512#32
  let v146 : BitVec 32 := Scalar.muli v145 c512_i32
  let v147 : BitVec 32 := v146
  let v2850 : Index := Scalar.indexCast v147
  ![64, v2850.toNat]
def k0_off273 (k0_t1 : Fin k0_t1_loop.trips) : Fin 2 → Nat :=
  let c80_700 : Index := 80#32
  let c0_i32_101 : BitVec 32 := 0#32
  let c0_i32_81 : BitVec 32 := 0#32
  let c1_i32 : BitVec 32 := 1#32
  let arg12 : BitVec 32 := Scf.iv c0_i32_81 c1_i32 k0_t1
  let c1_i32_100 : BitVec 32 := 1#32
  let v144 : BitVec 32 := Scalar.muli arg12 c1_i32_100
  let v145 : BitVec 32 := Scalar.addi c0_i32_101 v144
  let c512_i32 : BitVec 32 := 512#32
  let v146 : BitVec 32 := Scalar.muli v145 c512_i32
  let v147 : BitVec 32 := v146
  let v2855 : Index := Scalar.indexCast v147
  ![80, v2855.toNat]
def cc0_transform_0 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x2880x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1440x5120 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S90x5120 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S90x5120 .i8 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S16x90 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S16x5120 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x5120 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S24x1024x2880 : Shape := ⟨3, ![24, 1024, 2880]⟩
abbrev S1440x5120 : Shape := ⟨2, ![1440, 5120]⟩
abbrev S90x5120 : Shape := ⟨2, ![90, 5120]⟩
abbrev S90x16 : Shape := ⟨2, ![90, 16]⟩
abbrev S16x5120 : Shape := ⟨2, ![16, 5120]⟩
abbrev S_ : Shape := ⟨0, ![]⟩
abbrev S1440x1x5120 : Shape := ⟨3, ![1440, 1, 5120]⟩
abbrev S1440x2x5120 : Shape := ⟨3, ![1440, 2, 5120]⟩
abbrev S90x32x5120 : Shape := ⟨3, ![90, 32, 5120]⟩
abbrev S90x1x5120 : Shape := ⟨3, ![90, 1, 5120]⟩
abbrev S2880x5120 : Shape := ⟨2, ![2880, 5120]⟩
abbrev S24x1024x5120 : Shape := ⟨3, ![24, 1024, 5120]⟩
abbrev S24x1024x90x32 : Shape := ⟨4, ![24, 1024, 90, 32]⟩
abbrev S24x1024x90 : Shape := ⟨3, ![24, 1024, 90]⟩
abbrev S24x1024x16 : Shape := ⟨3, ![24, 1024, 16]⟩

abbrev nBuf : Space → Nat
  | .hbm => 44
  | .vmem => 0
  | .smem => 0
  | _ => 0

abbrev bufTy : (tb : Table) → Fin (tcTables nBuf tb) → BufTy
  | .hbm, ⟨0, _⟩ => ⟨S24x1024x2880, .bf16⟩
  | .hbm, ⟨1, _⟩ => ⟨S1440x5120, .i8⟩
  | .hbm, ⟨2, _⟩ => ⟨S90x5120, .bf16⟩
  | .hbm, ⟨3, _⟩ => ⟨S90x5120, .i8⟩
  | .hbm, ⟨4, _⟩ => ⟨S90x16, .bf16⟩
  | .hbm, ⟨5, _⟩ => ⟨S16x5120, .bf16⟩
  | .hbm, ⟨6, _⟩ => ⟨S1440x5120, .i32⟩
  | .hbm, ⟨7, _⟩ => ⟨S_, .i32⟩
  | .hbm, ⟨8, _⟩ => ⟨S1440x5120, .i32⟩
  | .hbm, ⟨9, _⟩ => ⟨S1440x5120, .i32⟩
  | .hbm, ⟨10, _⟩ => ⟨S_, .i32⟩
  | .hbm, ⟨11, _⟩ => ⟨S1440x5120, .i32⟩
  | .hbm, ⟨12, _⟩ => ⟨S1440x5120, .i32⟩
  | .hbm, ⟨13, _⟩ => ⟨S1440x1x5120, .i32⟩
  | .hbm, ⟨14, _⟩ => ⟨S1440x1x5120, .i32⟩
  | .hbm, ⟨15, _⟩ => ⟨S1440x2x5120, .i32⟩
  | .hbm, ⟨16, _⟩ => ⟨S1440x2x5120, .bf16⟩
  | .hbm, ⟨17, _⟩ => ⟨S90x32x5120, .bf16⟩
  | .hbm, ⟨18, _⟩ => ⟨S90x5120, .i32⟩
  | .hbm, ⟨19, _⟩ => ⟨S90x5120, .bf16⟩
  | .hbm, ⟨20, _⟩ => ⟨S90x1x5120, .bf16⟩
  | .hbm, ⟨21, _⟩ => ⟨S90x1x5120, .bf16⟩
  | .hbm, ⟨22, _⟩ => ⟨S90x32x5120, .bf16⟩
  | .hbm, ⟨23, _⟩ => ⟨S90x32x5120, .bf16⟩
  | .hbm, ⟨24, _⟩ => ⟨S90x32x5120, .bf16⟩
  | .hbm, ⟨25, _⟩ => ⟨S90x32x5120, .bf16⟩
  | .hbm, ⟨26, _⟩ => ⟨S2880x5120, .bf16⟩
  | .hbm, ⟨27, _⟩ => ⟨S24x1024x5120, .f32⟩
  | .hbm, ⟨28, _⟩ => ⟨S24x1024x2880, .f32⟩
  | .hbm, ⟨29, _⟩ => ⟨S24x1024x90x32, .f32⟩
  | .hbm, ⟨30, _⟩ => ⟨S_, .f32⟩
  | .hbm, ⟨31, _⟩ => ⟨S24x1024x90, .f32⟩
  | .hbm, ⟨32, _⟩ => ⟨S_, .f32⟩
  | .hbm, ⟨33, _⟩ => ⟨S24x1024x90, .f32⟩
  | .hbm, ⟨34, _⟩ => ⟨S24x1024x90, .f32⟩
  | .hbm, ⟨35, _⟩ => ⟨S24x1024x90, .bf16⟩
  | .hbm, ⟨36, _⟩ => ⟨S24x1024x16, .f32⟩
  | .hbm, ⟨37, _⟩ => ⟨S_, .f32⟩
  | .hbm, ⟨38, _⟩ => ⟨S24x1024x16, .f32⟩
  | .hbm, ⟨39, _⟩ => ⟨S24x1024x16, .f32⟩
  | .hbm, ⟨40, _⟩ => ⟨S24x1024x16, .bf16⟩
  | .hbm, ⟨41, _⟩ => ⟨S24x1024x5120, .f32⟩
  | .hbm, ⟨42, _⟩ => ⟨S24x1024x5120, .f32⟩
  | .hbm, ⟨43, _⟩ => ⟨S24x1024x5120, .bf16⟩
  | _, _ => ⟨S24x1024x2880, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst : Ref sig .tc := ⟨.hbm, 30, rfl⟩
abbrev main_v22 : Ref sig .tc := ⟨.hbm, 31, rfl⟩
abbrev main_cst_1 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_2 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩

abbrev nD : Nat := 1
abbrev τ : Topo := Topo.v7x

variable {F : FTy → Type} [FloatOps F]
-- ==== Proof.Weights.lean ====
module

public import proofs.«01_k».proof.Proof.Gen.KernelIdeal.Loops
public import Idealize.ShloMosaic.Lib.Pipeline.ReadBack
public import Idealize.ShloMosaic.Lib.ValueIdxCore

@[expose] public section

set_option maxRecDepth 16384

noncomputable section

namespace Cert.KernelIdeal.Value

open Cert.KernelIdeal Cert.KernelIdeal.Gen
open Idealize.ShloMosaic.ValueIdx
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## The two weight buffers as functions of the operands -/

/-- The dequantized weight tile of group `g` in column chunk `c`: the kernel's own tile expression on
    the group's sixteen rows of packed codes and on its row of zero points and of scales. -/
def deq (x1 : Vec F S1440x5120 .i8) (x2 : Vec F S90x5120 .bf16) (x3 : Vec F S90x5120 .i8) (g : Fin 90) (c : Fin 10) :
    Vec F S32x512 .bf16 :=
  k0_pay3 (fun z : S16x512.Idx => x1 (ix2 ⟨16 * g.val + (z 0).val, by have := idx2_lt0 z; omega⟩ ⟨512 * c.val + (z 1).val, by have := idx2_lt1 z; omega⟩))
    (fun z : S1x512.Idx => x3 (ix2 g ⟨512 * c.val + (z 1).val, by have := idx2_lt1 z; omega⟩))
    (fun z : S1x512.Idx => x2 (ix2 g ⟨512 * c.val + (z 1).val, by have := idx2_lt1 z; omega⟩))

/-- The column chunk of a column. -/
def chunk (y : Fin 5120) : Fin 10 := ⟨y.val / 512, by omega⟩
/-- The column inside its chunk. -/
def inChunk (y : Fin 5120) : Fin 512 := ⟨y.val % 512, by omega⟩

/-- The first weight buffer after the loop: the tiles of groups 0 to 87. -/
def WM (x1 : Vec F S1440x5120 .i8) (x2 : Vec F S90x5120 .bf16) (x3 : Vec F S90x5120 .i8) : Vec F S2816x5120 .bf16 :=
  fun y => deq x1 x2 x3 ⟨(y 0).val / 32, by have := idx2_lt0 y; omega⟩ (chunk (y 1)) (ix2 ⟨(y 0).val % 32, by omega⟩ (inChunk (y 1)))

/-- The tail weight buffer after the loop: the tiles of groups 88 and 89, then the second adapter factor, then zeros. -/
def WT (x1 : Vec F S1440x5120 .i8) (x2 : Vec F S90x5120 .bf16) (x3 : Vec F S90x5120 .i8) (x5 : Vec F S16x5120 .bf16) :
    Vec F S256x5120 .bf16 :=
  fun y =>
    if h : (y 0).val < 64 then
      deq x1 x2 x3 ⟨88 + (y 0).val / 32, by omega⟩ (chunk (y 1)) (ix2 ⟨(y 0).val % 32, by omega⟩ (inChunk (y 1)))
    else if h2 : (y 0).val < 80 then
      k0_pay243 (fun z : S16x512.Idx => x5 (ix2 (z 0) ⟨512 * (chunk (y 1)).val + (z 1).val, by have := idx2_lt1 z; omega⟩))
        (ix2 ⟨(y 0).val - 64, by omega⟩ (inChunk (y 1)))
    else k0_pay244 (ix2 ⟨(y 0).val - 80, by have := idx2_lt0 y; omega⟩ (inChunk (y 1)))

/-! ## Lists of stores that fill one column chunk from the bottom row up -/

/-- The stores of the list are blocks of `G` and together hold the rows below `n` of column chunk `c`. -/
def Fills {N : ℕ} (G : (⟨2, ![N, 5120]⟩ : Shape).Idx → Elt F .bf16) (c : ℕ) : ℕ → List (View.Piece (Elt F) (⟨2, ![N, 5120]⟩ : Shape) .bf16) → Prop
  | n, [] => n = 0
  | n, p :: L => ∃ n', (∀ x : p.1.shape.Idx, p.2 x = G (p.1.emb x))
      ∧ (∀ y : (⟨2, ![N, 5120]⟩ : Shape).Idx, n' ≤ (y 0).val → (y 0).val < n → 512 * c ≤ (y 1).val → (y 1).val < 512 * c + 512 → y ∈ p.1.set)
      ∧ Fills G c n' L

theorem Fills.mem {N : ℕ} {G : (⟨2, ![N, 5120]⟩ : Shape).Idx → Elt F .bf16} {c : ℕ} :
    ∀ {n : ℕ} {L : List (View.Piece (Elt F) (⟨2, ![N, 5120]⟩ : Shape) .bf16)}, Fills G c n L →
      ∀ p ∈ L, ∀ x : p.1.shape.Idx, p.2 x = G (p.1.emb x)
  | _, [], _, _, hp, _ => absurd hp List.not_mem_nil
  | _, _ :: _, ⟨_, h, _, h'⟩, p, hp, x => by
    rcases List.mem_cons.mp hp with rfl | hp
    · exact h x
    · exact h'.mem p hp x

theorem Fills.cover {N : ℕ} {G : (⟨2, ![N, 5120]⟩ : Shape).Idx → Elt F .bf16} {c : ℕ} :
    ∀ {n : ℕ} {L : List (View.Piece (Elt F) (⟨2, ![N, 5120]⟩ : Shape) .bf16)}, Fills G c n L →
      ∀ y : (⟨2, ![N, 5120]⟩ : Shape).Idx, (y 0).val < n → 512 * c ≤ (y 1).val → (y 1).val < 512 * c + 512 → ∃ p ∈ L, y ∈ p.1.set
  | n, [], h, y, hy, _, _ => by have : n = 0 := h; omega
  | _, p :: L, ⟨n', _, hc, h'⟩, y, hy, h1, h2 => by
    by_cases h : n' ≤ (y 0).val
    · exact ⟨p, List.mem_cons_self, hc y h hy h1 h2⟩
    · obtain ⟨q, hq, hy'⟩ := h'.cover y (by omega) h1 h2
      exact ⟨q, List.mem_cons_of_mem _ hq, hy'⟩

/-- One more store in front: a rectangle of `R` rows from `n'` in the chunk, whose payload is a block of `G`. -/
theorem Fills.cons {N R : ℕ} {G : (⟨2, ![N, 5120]⟩ : Shape).Idx → Elt F .bf16} {c n n' : ℕ}
    {L : List (View.Piece (Elt F) (⟨2, ![N, 5120]⟩ : Shape) .bf16)} {off : Fin 2 → ℕ}
    {inb : ∀ a, off a + (![R, 512] : Fin 2 → ℕ) a ≤ (⟨2, ![N, 5120]⟩ : Shape).size a}
    {P : (⟨2, ![R, 512]⟩ : Shape).Idx → Elt F .bf16}
    (hoff : off = ![n', 512 * c]) (hn : n' + R = n)
    (hP : ∀ (z : (⟨2, ![R, 512]⟩ : Shape).Idx) (y : (⟨2, ![N, 5120]⟩ : Shape).Idx), (y 0).val = n' + (z 0).val → (y 1).val = 512 * c + (z 1).val → P z = G y)
    (hL : Fills G c n' L) : Fills G c n (⟨Rect.unit (s := ⟨2, ![N, 5120]⟩) off ![R, 512] inb, P⟩ :: L) := by
  subst hoff
  refine ⟨n', fun x => hP x _ ?_ ?_, fun y h0 h1 h2 h3 => ?_, hL⟩
  · show n' + 1 * (x 0).val = n' + (x 0).val; omega
  · show 512 * c + 1 * (x 1).val = 512 * c + (x 1).val; omega
  · have h4 : (y 0).val < n' + R := by omega
    exact (Rect.mem_set_unit (inb := inb)).mpr (Fin.forall_fin_two.mpr ⟨⟨h0, h4⟩, ⟨h2, h3⟩⟩)

/-- A load of `R` rows from row `r` of column chunk `c`, read at an index. -/
theorem load_eq {N R : ℕ} {e : EltTy} (v : View sig .tc .vmem (⟨2, ![N, 5120]⟩ : Shape) e) (f : v.ty.Contents (Elt F)) {off : Fin 2 → ℕ}
    {inb : ∀ a, off a + (![R, 512] : Fin 2 → ℕ) a ≤ (⟨2, ![N, 5120]⟩ : Shape).size a} {r c : ℕ} (hoff : off = ![r, 512 * c])
    (hr : r + R ≤ N) (hc : c < 10) (z : (⟨2, ![R, 512]⟩ : Shape).Idx) :
    v.readAt (Elt F) (Rect.unit (s := ⟨2, ![N, 5120]⟩) off ![R, 512] inb).toLoadRect f z
      = v.read (Elt F) f (ix2 ⟨r + (z 0).val, by have := idx2_lt0 z; omega⟩ ⟨512 * c + (z 1).val, by have := idx2_lt1 z; omega⟩) := by
  subst hoff
  rw [View.readAt_apply]
  congr 1
  funext a
  match a with
  | ⟨0, _⟩ => exact Fin.ext (show r + 1 * (z 0).val = r + (z 0).val by omega)
  | ⟨1, _⟩ => exact Fin.ext (show 512 * c + 1 * (z 1).val = 512 * c + (z 1).val by omega)

/-- The kernel's tile expression on the loads of group `g` in chunk `c` is the group's tile. -/
theorem tile_eq (v2 : View sig .tc .vmem S1440x5120 .i8) (v3 : View sig .tc .vmem S90x5120 .bf16) (v4 : View sig .tc .vmem S90x5120 .i8)
    (X2 : v2.ty.Contents (Elt F)) (X3 : v3.ty.Contents (Elt F)) (X4 : v4.ty.Contents (Elt F)) {off2 off3 off4 : Fin 2 → ℕ}
    {inb2 : ∀ a, off2 a + (![16, 512] : Fin 2 → ℕ) a ≤ S1440x5120.size a} {inb3 : ∀ a, off3 a + (![1, 512] : Fin 2 → ℕ) a ≤ S90x5120.size a}
    {inb4 : ∀ a, off4 a + (![1, 512] : Fin 2 → ℕ) a ≤ S90x5120.size a} {g c : ℕ}
    (h2 : off2 = ![16 * g, 512 * c]) (h3 : off3 = ![g, 512 * c]) (h4 : off4 = ![g, 512 * c]) (hg : g < 90) (hc : c < 10) :
    k0_pay3 (v2.readAt (Elt F) (Rect.unit (s := S1440x5120) off2 ![16, 512] inb2).toLoadRect X2)
        (v4.readAt (Elt F) (Rect.unit (s := S90x5120) off4 ![1, 512] inb4).toLoadRect X4)
        (v3.readAt (Elt F) (Rect.unit (s := S90x5120) off3 ![1, 512] inb3).toLoadRect X3)
      = deq (v2.read (Elt F) X2) (v3.read (Elt F) X3) (v4.read (Elt F) X4) ⟨g, hg⟩ ⟨c, hc⟩ := by
  have e2 := funext fun z : S16x512.Idx => load_eq (inb := inb2) v2 X2 h2 (by omega) hc z
  have e3 := funext fun z : S1x512.Idx => load_eq (inb := inb3) v3 X3 h3 (by omega) hc z
  have e4 := funext fun z : S1x512.Idx => load_eq (inb := inb4) v4 X4 h4 (by omega) hc z
  unfold deq
  refine congr (congr (congrArg k0_pay3 (e2.trans rfl)) (e4.trans ?_)) (e3.trans ?_)
  all_goals
    funext z
    have hz : (z 0).val = 0 := by have := idx2_lt0 z; omega
    congr 1
    funext a
    match a with
    | ⟨0, _⟩ => exact Fin.ext (show g + (z 0).val = g by omega)
    | ⟨1, _⟩ => rfl

/-- A store of group `g`'s tile into the first weight buffer, in front of the stores of the groups before. -/
theorem Fills.consW (v2 : View sig .tc .vmem S1440x5120 .i8) (v3 : View sig .tc .vmem S90x5120 .bf16) (v4 : View sig .tc .vmem S90x5120 .i8)
    (X2 : v2.ty.Contents (Elt F)) (X3 : v3.ty.Contents (Elt F)) (X4 : v4.ty.Contents (Elt F)) {off2 off3 off4 off8 : Fin 2 → ℕ}
    {inb2 : ∀ a, off2 a + (![16, 512] : Fin 2 → ℕ) a ≤ S1440x5120.size a} {inb3 : ∀ a, off3 a + (![1, 512] : Fin 2 → ℕ) a ≤ S90x5120.size a}
    {inb4 : ∀ a, off4 a + (![1, 512] : Fin 2 → ℕ) a ≤ S90x5120.size a} {g c n n' : ℕ}
    {inb8 : ∀ a, off8 a + (![32, 512] : Fin 2 → ℕ) a ≤ S2816x5120.size a} {P : S32x512.Idx → Elt F .bf16}
    {L : List (View.Piece (Elt F) S2816x5120 .bf16)}
    (hP : P = k0_pay3 (v2.readAt (Elt F) (Rect.unit (s := S1440x5120) off2 ![16, 512] inb2).toLoadRect X2)
        (v4.readAt (Elt F) (Rect.unit (s := S90x5120) off4 ![1, 512] inb4).toLoadRect X4)
        (v3.readAt (Elt F) (Rect.unit (s := S90x5120) off3 ![1, 512] inb3).toLoadRect X3))
    (h8 : off8 = ![n', 512 * c]) (h3 : off3 = ![g, 512 * c]) (h4 : off4 = ![g, 512 * c]) (h2 : off2 = ![16 * g, 512 * c])
    (hn : n' + 32 = n) (hg' : n' = 32 * g) (hg : g < 88) (hc : c < 10)
    (hL : Fills (WM (v2.read (Elt F) X2) (v3.read (Elt F) X3) (v4.read (Elt F) X4)) c n' L) :
    Fills (WM (v2.read (Elt F) X2) (v3.read (Elt F) X3) (v4.read (Elt F) X4)) c n (⟨Rect.unit (s := S2816x5120) off8 ![32, 512] inb8, P⟩ :: L) := by
  refine Fills.cons h8 hn (fun z y h0 h1 => ?_) hL
  rw [hP, tile_eq v2 v3 v4 X2 X3 X4 h2 h3 h4 (by omega) hc]
  have z0 := idx2_lt0 z
  have z1 := idx2_lt1 z
  have eg : (⟨g, by omega⟩ : Fin 90) = ⟨(y 0).val / 32, by have := idx2_lt0 y; omega⟩ := Fin.ext (by show g = (y 0).val / 32; omega)
  have ec : (⟨c, hc⟩ : Fin 10) = chunk (y 1) := Fin.ext (by show c = (y 1).val / 512; omega)
  unfold WM
  rw [← eg, ← ec]
  congr 1
  funext a
  match a with
  | ⟨0, _⟩ => exact Fin.ext (show (z 0).val = (y 0).val % 32 by omega)
  | ⟨1, _⟩ => exact Fin.ext (show (z 1).val = (y 1).val % 512 by omega)

/-- A store of group `88 + n' / 32`'s tile into the tail weight buffer. -/
theorem Fills.consT (v2 : View sig .tc .vmem S1440x5120 .i8) (v3 : View sig .tc .vmem S90x5120 .bf16) (v4 : View sig .tc .vmem S90x5120 .i8)
    (X2 : v2.ty.Contents (Elt F)) (X3 : v3.ty.Contents (Elt F)) (X4 : v4.ty.Contents (Elt F)) (x5 : Vec F S16x5120 .bf16) {off2 off3 off4 off8 : Fin 2 → ℕ}
    {inb2 : ∀ a, off2 a + (![16, 512] : Fin 2 → ℕ) a ≤ S1440x5120.size a} {inb3 : ∀ a, off3 a + (![1, 512] : Fin 2 → ℕ) a ≤ S90x5120.size a}
    {inb4 : ∀ a, off4 a + (![1, 512] : Fin 2 → ℕ) a ≤ S90x5120.size a} {g c n n' : ℕ}
    {inb8 : ∀ a, off8 a + (![32, 512] : Fin 2 → ℕ) a ≤ S256x5120.size a} {P : S32x512.Idx → Elt F .bf16}
    {L : List (View.Piece (Elt F) S256x5120 .bf16)}
    (hP : P = k0_pay3 (v2.readAt (Elt F) (Rect.unit (s := S1440x5120) off2 ![16, 512] inb2).toLoadRect X2)
        (v4.readAt (Elt F) (Rect.unit (s := S90x5120) off4 ![1, 512] inb4).toLoadRect X4)
        (v3.readAt (Elt F) (Rect.unit (s := S90x5120) off3 ![1, 512] inb3).toLoadRect X3))
    (h8 : off8 = ![n', 512 * c]) (h3 : off3 = ![g, 512 * c]) (h4 : off4 = ![g, 512 * c]) (h2 : off2 = ![16 * g, 512 * c])
    (hn : n' + 32 = n) (hg' : n' + 32 * 88 = 32 * g) (hg : g < 90) (hc : c < 10)
    (hL : Fills (WT (v2.read (Elt F) X2) (v3.read (Elt F) X3) (v4.read (Elt F) X4) x5) c n' L) :
    Fills (WT (v2.read (Elt F) X2) (v3.read (Elt F) X3) (v4.read (Elt F) X4) x5) c n (⟨Rect.unit (s := S256x5120) off8 ![32, 512] inb8, P⟩ :: L) := by
  refine Fills.cons h8 hn (fun z y h0 h1 => ?_) hL
  rw [hP, tile_eq v2 v3 v4 X2 X3 X4 h2 h3 h4 (by omega) hc]
  have z0 := idx2_lt0 z
  have z1 := idx2_lt1 z
  have hy : (y 0).val < 64 := by omega
  have eg : (⟨g, by omega⟩ : Fin 90) = ⟨88 + (y 0).val / 32, by omega⟩ := Fin.ext (by show g = 88 + (y 0).val / 32; omega)
  have ec : (⟨c, hc⟩ : Fin 10) = chunk (y 1) := Fin.ext (by show c = (y 1).val / 512; omega)
  unfold WT
  rw [dif_pos hy, ← eg, ← ec]
  congr 1
  funext a
  match a with
  | ⟨0, _⟩ => exact Fin.ext (show (z 0).val = (y 0).val % 32 by omega)
  | ⟨1, _⟩ => exact Fin.ext (show (z 1).val = (y 1).val % 512 by omega)

set_option maxHeartbeats 4000000 in
/-- One trip's stores into the first weight buffer fill column chunk `k` with its tiles. -/
theorem trip_W (𝒱 : Variants) (c : Dev nD) (bd : Option 𝒱.V) (i : grid0.Coords) (arg1 : Memref sig .tc .vmem S1x2880x512 .bf16) (harg1 : arg1.IsWhole) (arg2 : Memref sig .tc .vmem S1440x5120 .i8) (harg2 : arg2.IsWhole) (arg3 : Memref sig .tc .vmem S90x5120 .bf16) (harg3 : arg3.IsWhole) (arg4 : Memref sig .tc .vmem S90x5120 .i8) (harg4 : arg4.IsWhole) (arg5 : Memref sig .tc .vmem S16x90 .bf16) (harg5 : arg5.IsWhole) (arg6 : Memref sig .tc .vmem S16x5120 .bf16) (harg6 : arg6.IsWhole) (arg7 : Memref sig .tc .vmem S512x5120 .bf16) (harg7 : arg7.IsWhole) (arg8 : Memref sig .tc .vmem S2816x5120 .bf16) (harg8 : arg8.IsWhole) (arg9 : Memref sig .tc .vmem S256x5120 .bf16) (harg9 : arg9.IsWhole) (arg10 : Memref sig .tc .vmem S2880x128 .bf16) (harg10 : arg10.IsWhole) (arg11 : Memref sig .tc .vmem S128x256 .bf16) (harg11 : arg11.IsWhole) (k0_h1 : k0_cond1 i = 1#1) (X_arg2 : BufTy.Contents (Elt F) arg2.view.ty) (X_arg3 : BufTy.Contents (Elt F) arg3.view.ty) (X_arg4 : BufTy.Contents (Elt F) arg4.view.ty) (X_arg6 : BufTy.Contents (Elt F) arg6.view.ty) (k : Fin k0_t1_loop.trips) :
    Fills (WM (arg2.view.read (Elt F) X_arg2) (arg3.view.read (Elt F) X_arg3) (arg4.view.read (Elt F) X_arg4)) k.val 2816
      (tripL_k0_t1 (F := F) 𝒱 c bd i arg1 harg1 arg2 harg2 arg3 harg3 arg4 harg4 arg5 harg5 arg6 harg6 arg7 harg7 arg8 harg8 arg9 harg9 arg10 harg10 arg11 harg11 k0_h1 X_arg2 X_arg3 X_arg4 X_arg6 k).1 := by
  have hk : k.val < 10 := Nat.lt_of_lt_of_le k.isLt k0_t1_abs.2.1
  unfold tripL_k0_t1 trip_k0_t1
  dsimp only
  repeat
    refine Fills.consW arg2.view arg3.view arg4.view X_arg2 X_arg3 X_arg4 (by exact rfl) (by exact ClosedOff.eq) (by exact ClosedOff.eq)
      (by exact ClosedOff.eq) (by exact ClosedOff.eq) (by exact rfl) (by exact rfl) (by decide) hk ?_
  exact rfl

set_option maxHeartbeats 4000000 in
/-- One trip's stores into the tail weight buffer fill column chunk `k`. -/
theorem trip_T (𝒱 : Variants) (c : Dev nD) (bd : Option 𝒱.V) (i : grid0.Coords) (arg1 : Memref sig .tc .vmem S1x2880x512 .bf16) (harg1 : arg1.IsWhole) (arg2 : Memref sig .tc .vmem S1440x5120 .i8) (harg2 : arg2.IsWhole) (arg3 : Memref sig .tc .vmem S90x5120 .bf16) (harg3 : arg3.IsWhole) (arg4 : Memref sig .tc .vmem S90x5120 .i8) (harg4 : arg4.IsWhole) (arg5 : Memref sig .tc .vmem S16x90 .bf16) (harg5 : arg5.IsWhole) (arg6 : Memref sig .tc .vmem S16x5120 .bf16) (harg6 : arg6.IsWhole) (arg7 : Memref sig .tc .vmem S512x5120 .bf16) (harg7 : arg7.IsWhole) (arg8 : Memref sig .tc .vmem S2816x5120 .bf16) (harg8 : arg8.IsWhole) (arg9 : Memref sig .tc .vmem S256x5120 .bf16) (harg9 : arg9.IsWhole) (arg10 : Memref sig .tc .vmem S2880x128 .bf16) (harg10 : arg10.IsWhole) (arg11 : Memref sig .tc .vmem S128x256 .bf16) (harg11 : arg11.IsWhole) (k0_h1 : k0_cond1 i = 1#1) (X_arg2 : BufTy.Contents (Elt F) arg2.view.ty) (X_arg3 : BufTy.Contents (Elt F) arg3.view.ty) (X_arg4 : BufTy.Contents (Elt F) arg4.view.ty) (X_arg6 : BufTy.Contents (Elt F) arg6.view.ty) (k : Fin k0_t1_loop.trips) :
    Fills (WT (arg2.view.read (Elt F) X_arg2) (arg3.view.read (Elt F) X_arg3) (arg4.view.read (Elt F) X_arg4) (arg6.view.read (Elt F) X_arg6)) k.val 256
      (tripL_k0_t1 (F := F) 𝒱 c bd i arg1 harg1 arg2 harg2 arg3 harg3 arg4 harg4 arg5 harg5 arg6 harg6 arg7 harg7 arg8 harg8 arg9 harg9 arg10 harg10 arg11 harg11 k0_h1 X_arg2 X_arg3 X_arg4 X_arg6 k).2 := by
  have hk : k.val < 10 := Nat.lt_of_lt_of_le k.isLt k0_t1_abs.2.1
  unfold tripL_k0_t1 trip_k0_t1
  dsimp only
  refine Fills.cons (n' := 80) ClosedOff.eq rfl (fun z y h0 h1 => ?_) ?_
  · have z1 := idx2_lt1 z
    unfold WT
    rw [dif_neg (by omega), dif_neg (by omega)]
    rfl
  refine Fills.cons (n' := 64) ClosedOff.eq rfl (fun z y h0 h1 => ?_) ?_
  · have z0 := idx2_lt0 z
    have z1 := idx2_lt1 z
    have ec : chunk (y 1) = ⟨k.val, hk⟩ := Fin.ext (by show (y 1).val / 512 = k.val; omega)
    unfold WT
    rw [dif_neg (by omega), dif_pos (by omega)]
    refine congr (congrArg k0_pay243 ?_) ?_
    · funext z
      refine (load_eq (r := 0) (c := k.val) arg6.view X_arg6 ClosedOff.eq (by decide) hk z).trans ?_
      congr 1
      funext a
      match a with
      | ⟨0, _⟩ => exact Fin.ext (show 0 + (z 0).val = (z 0).val by omega)
      | ⟨1, _⟩ => exact Fin.ext (show 512 * k.val + (z 1).val = 512 * (chunk (y 1)).val + (z 1).val by rw [ec])
    · funext a
      match a with
      | ⟨0, _⟩ => exact Fin.ext (show (z 0).val = (y 0).val - 64 by omega)
      | ⟨1, _⟩ => exact Fin.ext (show (z 1).val = (y 1).val % 512 by omega)
  repeat
    refine Fills.consT arg2.view arg3.view arg4.view X_arg2 X_arg3 X_arg4 _ (by exact rfl) (by exact ClosedOff.eq) (by exact ClosedOff.eq)
      (by exact ClosedOff.eq) (by exact ClosedOff.eq) (by exact rfl) (by exact rfl) (by decide) hk ?_
  exact rfl

/-- The stores of the trips before `k` are blocks of the two weight buffers and hold every column below `512 k`. -/
theorem pb_ok (𝒱 : Variants) (c : Dev nD) (bd : Option 𝒱.V) (i : grid0.Coords) (arg1 : Memref sig .tc .vmem S1x2880x512 .bf16) (harg1 : arg1.IsWhole) (arg2 : Memref sig .tc .vmem S1440x5120 .i8) (harg2 : arg2.IsWhole) (arg3 : Memref sig .tc .vmem S90x5120 .bf16) (harg3 : arg3.IsWhole) (arg4 : Memref sig .tc .vmem S90x5120 .i8) (harg4 : arg4.IsWhole) (arg5 : Memref sig .tc .vmem S16x90 .bf16) (harg5 : arg5.IsWhole) (arg6 : Memref sig .tc .vmem S16x5120 .bf16) (harg6 : arg6.IsWhole) (arg7 : Memref sig .tc .vmem S512x5120 .bf16) (harg7 : arg7.IsWhole) (arg8 : Memref sig .tc .vmem S2816x5120 .bf16) (harg8 : arg8.IsWhole) (arg9 : Memref sig .tc .vmem S256x5120 .bf16) (harg9 : arg9.IsWhole) (arg10 : Memref sig .tc .vmem S2880x128 .bf16) (harg10 : arg10.IsWhole) (arg11 : Memref sig .tc .vmem S128x256 .bf16) (harg11 : arg11.IsWhole) (k0_h1 : k0_cond1 i = 1#1) (X_arg2 : BufTy.Contents (Elt F) arg2.view.ty) (X_arg3 : BufTy.Contents (Elt F) arg3.view.ty) (X_arg4 : BufTy.Contents (Elt F) arg4.view.ty) (X_arg6 : BufTy.Contents (Elt F) arg6.view.ty)  :
    ∀ k : ℕ, k ≤ k0_t1_loop.trips →
      ((∀ p ∈ (pb_k0_t1 (F := F) 𝒱 c bd i arg1 harg1 arg2 harg2 arg3 harg3 arg4 harg4 arg5 harg5 arg6 harg6 arg7 harg7 arg8 harg8 arg9 harg9 arg10 harg10 arg11 harg11 k0_h1 X_arg2 X_arg3 X_arg4 X_arg6 k).1, ∀ x : p.1.shape.Idx,
          p.2 x = WM (arg2.view.read (Elt F) X_arg2) (arg3.view.read (Elt F) X_arg3) (arg4.view.read (Elt F) X_arg4) (p.1.emb x))
        ∧ (∀ y : S2816x5120.Idx, (y 1).val < 512 * k → ∃ p ∈ (pb_k0_t1 (F := F) 𝒱 c bd i arg1 harg1 arg2 harg2 arg3 harg3 arg4 harg4 arg5 harg5 arg6 harg6 arg7 harg7 arg8 harg8 arg9 harg9 arg10 harg10 arg11 harg11 k0_h1 X_arg2 X_arg3 X_arg4 X_arg6 k).1, y ∈ p.1.set))
      ∧ (∀ p ∈ (pb_k0_t1 (F := F) 𝒱 c bd i arg1 harg1 arg2 harg2 arg3 harg3 arg4 harg4 arg5 harg5 arg6 harg6 arg7 harg7 arg8 harg8 arg9 harg9 arg10 harg10 arg11 harg11 k0_h1 X_arg2 X_arg3 X_arg4 X_arg6 k).2, ∀ x : p.1.shape.Idx,
          p.2 x = WT (arg2.view.read (Elt F) X_arg2) (arg3.view.read (Elt F) X_arg3) (arg4.view.read (Elt F) X_arg4) (arg6.view.read (Elt F) X_arg6) (p.1.emb x))
        ∧ (∀ y : S256x5120.Idx, (y 1).val < 512 * k → ∃ p ∈ (pb_k0_t1 (F := F) 𝒱 c bd i arg1 harg1 arg2 harg2 arg3 harg3 arg4 harg4 arg5 harg5 arg6 harg6 arg7 harg7 arg8 harg8 arg9 harg9 arg10 harg10 arg11 harg11 k0_h1 X_arg2 X_arg3 X_arg4 X_arg6 k).2, y ∈ p.1.set)
  | 0, _ => ⟨⟨fun p hp => absurd hp List.not_mem_nil, fun y hy => by omega⟩, fun p hp => absurd hp List.not_mem_nil, fun y hy => by omega⟩
  | k + 1, hk => by
    have ih := pb_ok 𝒱 c bd i arg1 harg1 arg2 harg2 arg3 harg3 arg4 harg4 arg5 harg5 arg6 harg6 arg7 harg7 arg8 harg8 arg9 harg9 arg10 harg10 arg11 harg11 k0_h1 X_arg2 X_arg3 X_arg4 X_arg6 k (by omega)
    have hW := trip_W (F := F) 𝒱 c bd i arg1 harg1 arg2 harg2 arg3 harg3 arg4 harg4 arg5 harg5 arg6 harg6 arg7 harg7 arg8 harg8 arg9 harg9 arg10 harg10 arg11 harg11 k0_h1 X_arg2 X_arg3 X_arg4 X_arg6 ⟨k, hk⟩
    have hT := trip_T (F := F) 𝒱 c bd i arg1 harg1 arg2 harg2 arg3 harg3 arg4 harg4 arg5 harg5 arg6 harg6 arg7 harg7 arg8 harg8 arg9 harg9 arg10 harg10 arg11 harg11 k0_h1 X_arg2 X_arg3 X_arg4 X_arg6 ⟨k, hk⟩
    rw [pb_k0_t1_succ (F := F) 𝒱 c bd i arg1 harg1 arg2 harg2 arg3 harg3 arg4 harg4 arg5 harg5 arg6 harg6 arg7 harg7 arg8 harg8 arg9 harg9 arg10 harg10 arg11 harg11 k0_h1 X_arg2 X_arg3 X_arg4 X_arg6 ⟨k, hk⟩]
    refine ⟨⟨fun p hp x => ?_, fun y hy => ?_⟩, fun p hp x => ?_, fun y hy => ?_⟩
    · rcases List.mem_append.mp hp with hp | hp
      · exact hW.mem p hp x
      · exact ih.1.1 p hp x
    · by_cases h : (y 1).val < 512 * k
      · obtain ⟨p, hp, hy'⟩ := ih.1.2 y h
        exact ⟨p, List.mem_append_right _ hp, hy'⟩
      · obtain ⟨p, hp, hy'⟩ := hW.cover y (idx2_lt0 y) (by show 512 * k ≤ _; omega) (by show _ < 512 * k + 512; omega)
        exact ⟨p, List.mem_append_left _ hp, hy'⟩
    · rcases List.mem_append.mp hp with hp | hp
      · exact hT.mem p hp x
      · exact ih.2.1 p hp x
    · by_cases h : (y 1).val < 512 * k
      · obtain ⟨p, hp, hy'⟩ := ih.2.2 y h
        exact ⟨p, List.mem_append_right _ hp, hy'⟩
      · obtain ⟨p, hp, hy'⟩ := hT.cover y (idx2_lt0 y) (by show 512 * k ≤ _; omega) (by show _ < 512 * k + 512; omega)
        exact ⟨p, List.mem_append_left _ hp, hy'⟩

/-- After the loop the first weight buffer reads `WM`, whatever it held. -/
theorem read_W (𝒱 : Variants) (c : Dev nD) (bd : Option 𝒱.V) (i : grid0.Coords) (arg1 : Memref sig .tc .vmem S1x2880x512 .bf16) (harg1 : arg1.IsWhole) (arg2 : Memref sig .tc .vmem S1440x5120 .i8) (harg2 : arg2.IsWhole) (arg3 : Memref sig .tc .vmem S90x5120 .bf16) (harg3 : arg3.IsWhole) (arg4 : Memref sig .tc .vmem S90x5120 .i8) (harg4 : arg4.IsWhole) (arg5 : Memref sig .tc .vmem S16x90 .bf16) (harg5 : arg5.IsWhole) (arg6 : Memref sig .tc .vmem S16x5120 .bf16) (harg6 : arg6.IsWhole) (arg7 : Memref sig .tc .vmem S512x5120 .bf16) (harg7 : arg7.IsWhole) (arg8 : Memref sig .tc .vmem S2816x5120 .bf16) (harg8 : arg8.IsWhole) (arg9 : Memref sig .tc .vmem S256x5120 .bf16) (harg9 : arg9.IsWhole) (arg10 : Memref sig .tc .vmem S2880x128 .bf16) (harg10 : arg10.IsWhole) (arg11 : Memref sig .tc .vmem S128x256 .bf16) (harg11 : arg11.IsWhole) (k0_h1 : k0_cond1 i = 1#1) (X_arg2 : BufTy.Contents (Elt F) arg2.view.ty) (X_arg3 : BufTy.Contents (Elt F) arg3.view.ty) (X_arg4 : BufTy.Contents (Elt F) arg4.view.ty) (X_arg6 : BufTy.Contents (Elt F) arg6.view.ty)  (f : arg8.view.ty.Contents (Elt F)) :
    arg8.view.read (Elt F) (arg8.view.writes (Elt F) f (pb_k0_t1 (F := F) 𝒱 c bd i arg1 harg1 arg2 harg2 arg3 harg3 arg4 harg4 arg5 harg5 arg6 harg6 arg7 harg7 arg8 harg8 arg9 harg9 arg10 harg10 arg11 harg11 k0_h1 X_arg2 X_arg3 X_arg4 X_arg6 k0_t1_loop.trips).1)
      = WM (arg2.view.read (Elt F) X_arg2) (arg3.view.read (Elt F) X_arg3) (arg4.view.read (Elt F) X_arg4) :=
  funext fun y => View.read_writes_apply_of_pieces arg8.view f _ _ (pb_ok 𝒱 c bd i arg1 harg1 arg2 harg2 arg3 harg3 arg4 harg4 arg5 harg5 arg6 harg6 arg7 harg7 arg8 harg8 arg9 harg9 arg10 harg10 arg11 harg11 k0_h1 X_arg2 X_arg3 X_arg4 X_arg6 _ le_rfl).1.1 y
    ((pb_ok 𝒱 c bd i arg1 harg1 arg2 harg2 arg3 harg3 arg4 harg4 arg5 harg5 arg6 harg6 arg7 harg7 arg8 harg8 arg9 harg9 arg10 harg10 arg11 harg11 k0_h1 X_arg2 X_arg3 X_arg4 X_arg6 _ le_rfl).1.2 y (by have := idx2_lt1 y; have : k0_t1_loop.trips = 10 := rfl; omega))

/-- After the loop the tail weight buffer reads `WT`, whatever it held. -/
theorem read_T (𝒱 : Variants) (c : Dev nD) (bd : Option 𝒱.V) (i : grid0.Coords) (arg1 : Memref sig .tc .vmem S1x2880x512 .bf16) (harg1 : arg1.IsWhole) (arg2 : Memref sig .tc .vmem S1440x5120 .i8) (harg2 : arg2.IsWhole) (arg3 : Memref sig .tc .vmem S90x5120 .bf16) (harg3 : arg3.IsWhole) (arg4 : Memref sig .tc .vmem S90x5120 .i8) (harg4 : arg4.IsWhole) (arg5 : Memref sig .tc .vmem S16x90 .bf16) (harg5 : arg5.IsWhole) (arg6 : Memref sig .tc .vmem S16x5120 .bf16) (harg6 : arg6.IsWhole) (arg7 : Memref sig .tc .vmem S512x5120 .bf16) (harg7 : arg7.IsWhole) (arg8 : Memref sig .tc .vmem S2816x5120 .bf16) (harg8 : arg8.IsWhole) (arg9 : Memref sig .tc .vmem S256x5120 .bf16) (harg9 : arg9.IsWhole) (arg10 : Memref sig .tc .vmem S2880x128 .bf16) (harg10 : arg10.IsWhole) (arg11 : Memref sig .tc .vmem S128x256 .bf16) (harg11 : arg11.IsWhole) (k0_h1 : k0_cond1 i = 1#1) (X_arg2 : BufTy.Contents (Elt F) arg2.view.ty) (X_arg3 : BufTy.Contents (Elt F) arg3.view.ty) (X_arg4 : BufTy.Contents (Elt F) arg4.view.ty) (X_arg6 : BufTy.Contents (Elt F) arg6.view.ty)  (f : arg9.view.ty.Contents (Elt F)) :
    arg9.view.read (Elt F) (arg9.view.writes (Elt F) f (pb_k0_t1 (F := F) 𝒱 c bd i arg1 harg1 arg2 harg2 arg3 harg3 arg4 harg4 arg5 harg5 arg6 harg6 arg7 harg7 arg8 harg8 arg9 harg9 arg10 harg10 arg11 harg11 k0_h1 X_arg2 X_arg3 X_arg4 X_arg6 k0_t1_loop.trips).2)
      = WT (arg2.view.read (Elt F) X_arg2) (arg3.view.read (Elt F) X_arg3) (arg4.view.read (Elt F) X_arg4) (arg6.view.read (Elt F) X_arg6) :=
  funext fun y => View.read_writes_apply_of_pieces arg9.view f _ _ (pb_ok 𝒱 c bd i arg1 harg1 arg2 harg2 arg3 harg3 arg4 harg4 arg5 harg5 arg6 harg6 arg7 harg7 arg8 harg8 arg9 harg9 arg10 harg10 arg11 harg11 k0_h1 X_arg2 X_arg3 X_arg4 X_arg6 _ le_rfl).2.1 y
    ((pb_ok 𝒱 c bd i arg1 harg1 arg2 harg2 arg3 harg3 arg4 harg4 arg5 harg5 arg6 harg6 arg7 harg7 arg8 harg8 arg9 harg9 arg10 harg10 arg11 harg11 k0_h1 X_arg2 X_arg3 X_arg4 X_arg6 _ le_rfl).2.2 y (by have := idx2_lt1 y; have : k0_t1_loop.trips = 10 := rfl; omega))

end Cert.KernelIdeal.Value

end
-- ==== Proof.Runs.lean ====
module

public import proofs.«01_k».proof.Proof.Gen.KernelIdeal.Frame
public import proofs.«01_k».proof.Proof.Gen.KernelIdeal.Loops
public import Idealize.ShloMosaic.Lib.ValueIdxCore
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.VecWindow
public import Idealize.ShloMosaic.Lib.WholeRead
public import proofs.«01_k».proof.Proof.Weights

@[expose] public section

-- membership in a rectangle of production extents (`View.cover_of_tiled`): the elaborator's structural look
-- recurses once per coordinate of the long axes
set_option maxRecDepth 16384

noncomputable section

namespace Cert.KernelIdeal.Value

open Cert.KernelIdeal Cert.KernelIdeal.Gen
open Idealize.ShloMosaic.ValueIdx
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- All rows of one column chunk. -/
def colsOf {N : ℕ} (w : (⟨2, ![N, 5120]⟩ : Shape).Idx → Elt F .bf16) (c : Fin 10) : (⟨2, ![N, 512]⟩ : Shape).Idx → Elt F .bf16 :=
  fun z => w (ix2 (z 0) ⟨512 * c.val + (z 1).val, by have := idx2_lt1 z; omega⟩)

/-- What a grid point writes into the result block from its block of activations and the four scratch buffers: column
    chunk by column chunk the kernel's own expression of the two products' sum. -/
def OUT (x0 : Vec F S1x2880x512 .bf16) (w : Vec F S2816x5120 .bf16) (wt : Vec F S256x5120 .bf16) (p : Vec F S2880x128 .bf16)
    (a : Vec F S128x256 .bf16) : Vec F S512x5120 .bf16 :=
  fun y => k0_pay250 x0 p a (colsOf w (chunk (y 1))) (colsOf wt (chunk (y 1))) (ix2 (y 0) (inChunk (y 1)))

/-- The padded first adapter factor: its transpose in the corner of a zero buffer. -/
def AP (x4 : Vec F S16x90 .bf16) : Vec F S128x256 .bf16 :=
  fun y => if h : (y 0).val < 90 ∧ (y 1).val < 16 then k0_pay247 x4 (ix2 ⟨(y 0).val, h.1⟩ ⟨(y 1).val, h.2⟩) else k0_pay246 y

/-! ## The result block's ten stores -/

/-- The stores of the list are column blocks of `G` and together hold the columns below `n`. -/
def FillsO (G : S512x5120.Idx → Elt F .bf16) : ℕ → List (View.Piece (Elt F) S512x5120 .bf16) → Prop
  | n, [] => n = 0
  | n, p :: L => ∃ n', (∀ x : p.1.shape.Idx, p.2 x = G (p.1.emb x))
      ∧ (∀ y : S512x5120.Idx, n' ≤ (y 1).val → (y 1).val < n → y ∈ p.1.set)
      ∧ FillsO G n' L

theorem FillsO.read {G : S512x5120.Idx → Elt F .bf16} (v : View sig .tc .vmem S512x5120 .bf16) (f : v.ty.Contents (Elt F)) :
    ∀ {n : ℕ} {L : List (View.Piece (Elt F) S512x5120 .bf16)}, FillsO G n L →
      ∀ y : S512x5120.Idx, (y 1).val < n → v.read (Elt F) (v.writes (Elt F) f L) y = G y
  | n, [], h, y, hy => by have : n = 0 := h; omega
  | _, ⟨r, w⟩ :: L, ⟨n', hG, hc, h'⟩, y, hy => by
    by_cases hm : y ∈ r.set
    · obtain ⟨x, rfl⟩ : ∃ x, r.emb x = y := r.exists_idx_of_mem hm
      rw [View.read_writes_cons_emb]
      exact hG x
    · rw [View.read_writes_cons_miss _ _ _ _ _ hm]
      refine h'.read v f y ?_
      by_contra hn
      exact hm (hc y (by omega) hy)

/-- One more store in front: column chunk `c`, the kernel's expression on the loads of the two weight buffers' chunk. -/
theorem FillsO.cons {x0 X0 : Vec F S1x2880x512 .bf16} {w : Vec F S2816x5120 .bf16} {wt : Vec F S256x5120 .bf16} {p P0 : Vec F S2880x128 .bf16}
    {a A0 : Vec F S128x256 .bf16} {W : Vec F S2816x512 .bf16} {T : Vec F S256x512 .bf16} {n n' c : ℕ}
    {L : List (View.Piece (Elt F) S512x5120 .bf16)} {off : Fin 2 → ℕ}
    {inb : ∀ a, off a + (![512, 512] : Fin 2 → ℕ) a ≤ S512x5120.size a} {P : S512x512.Idx → Elt F .bf16}
    (hP : P = k0_pay250 X0 P0 A0 W T) (hoff : off = ![0, n']) (hn : n' + 512 = n) (hc : n' = 512 * c) (hlt : c < 10)
    (hx : X0 = x0) (hp : P0 = p) (ha : A0 = a)
    (hw : ∀ z : S2816x512.Idx, W z = w (ix2 (z 0) ⟨512 * c + (z 1).val, by have := idx2_lt1 z; omega⟩))
    (ht : ∀ z : S256x512.Idx, T z = wt (ix2 (z 0) ⟨512 * c + (z 1).val, by have := idx2_lt1 z; omega⟩))
    (hL : FillsO (OUT x0 w wt p a) n' L) : FillsO (OUT x0 w wt p a) n (⟨Rect.unit (s := S512x5120) off ![512, 512] inb, P⟩ :: L) := by
  subst hoff hx hp ha hP hc
  refine ⟨512 * c, fun z => ?_, fun y h0 h1 => ?_, hL⟩
  · have z0 : (z 0).val < 512 := idx2_lt0 (n0 := 512) (n1 := 512) z
    have z1 : (z 1).val < 512 := idx2_lt1 (n0 := 512) (n1 := 512) z
    have e0 : (Rect.unit (s := S512x5120) ![0, 512 * c] ![512, 512] inb).emb z 0 = ⟨(z 0).val, z0⟩ :=
      Fin.ext (show 0 + 1 * (z 0).val = (z 0).val by omega)
    have e1 : ((Rect.unit (s := S512x5120) ![0, 512 * c] ![512, 512] inb).emb z 1).val = 512 * c + (z 1).val :=
      show 512 * c + 1 * (z 1).val = 512 * c + (z 1).val by omega
    have ec : chunk ((Rect.unit (s := S512x5120) ![0, 512 * c] ![512, 512] inb).emb z 1) = ⟨c, hlt⟩ :=
      Fin.ext (by show ((Rect.unit (s := S512x5120) ![0, 512 * c] ![512, 512] inb).emb z 1).val / 512 = c; rw [e1]; omega)
    have ei : inChunk ((Rect.unit (s := S512x5120) ![0, 512 * c] ![512, 512] inb).emb z 1) = ⟨(z 1).val, z1⟩ :=
      Fin.ext (by show ((Rect.unit (s := S512x5120) ![0, 512 * c] ![512, 512] inb).emb z 1).val % 512 = (z 1).val; rw [e1]; omega)
    have eW : W = colsOf w ⟨c, hlt⟩ := funext hw
    have eT : T = colsOf wt ⟨c, hlt⟩ := funext ht
    show k0_pay250 X0 P0 A0 W T z = k0_pay250 X0 P0 A0 (colsOf w (chunk ((Rect.unit (s := S512x5120) ![0, 512 * c] ![512, 512] inb).emb z 1)))
      (colsOf wt (chunk ((Rect.unit (s := S512x5120) ![0, 512 * c] ![512, 512] inb).emb z 1)))
      (ix2 ((Rect.unit (s := S512x5120) ![0, 512 * c] ![512, 512] inb).emb z 0) (inChunk ((Rect.unit (s := S512x5120) ![0, 512 * c] ![512, 512] inb).emb z 1)))
    rw [ec, ei, e0, eW, eT]
    exact congrArg _ (eq_ix2 (n0 := 512) (n1 := 512) z)
  · have h4 : (y 1).val < 512 * c + 512 := by omega
    exact (Rect.mem_set_unit (inb := inb)).mpr (Fin.forall_fin_two.mpr ⟨⟨Nat.zero_le _, by show (y 0).val < 0 + 512; have := idx2_lt0 y; omega⟩, ⟨h0, h4⟩⟩)

/-- The same with the chunk number read off the column offset. -/
theorem FillsO.step {x0 X0 : Vec F S1x2880x512 .bf16} {w : Vec F S2816x5120 .bf16} {wt : Vec F S256x5120 .bf16} {p P0 : Vec F S2880x128 .bf16}
    {a A0 : Vec F S128x256 .bf16} {W : Vec F S2816x512 .bf16} {T : Vec F S256x512 .bf16} {n n' : ℕ}
    {L : List (View.Piece (Elt F) S512x5120 .bf16)} {off : Fin 2 → ℕ}
    {inb : ∀ a, off a + (![512, 512] : Fin 2 → ℕ) a ≤ S512x5120.size a} {P : S512x512.Idx → Elt F .bf16}
    (hP : P = k0_pay250 X0 P0 A0 W T) (hoff : off = ![0, n']) (hn : n' + 512 = n) (hc : n' = 512 * (n' / 512)) (hlt : n' / 512 < 10)
    (hx : X0 = x0) (hp : P0 = p) (ha : A0 = a)
    (hw : ∀ z : S2816x512.Idx, W z = w (ix2 (z 0) ⟨512 * (n' / 512) + (z 1).val, by have := idx2_lt1 z; omega⟩))
    (ht : ∀ z : S256x512.Idx, T z = wt (ix2 (z 0) ⟨512 * (n' / 512) + (z 1).val, by have := idx2_lt1 z; omega⟩))
    (hL : FillsO (OUT x0 w wt p a) n' L) : FillsO (OUT x0 w wt p a) n (⟨Rect.unit (s := S512x5120) off ![512, 512] inb, P⟩ :: L) :=
  FillsO.cons (c := n' / 512) hP hoff hn hc hlt hx hp ha hw ht hL

/-- A load of all rows of column chunk `c`, of contents that the view reads as `x`. -/
theorem loadCols {N c : ℕ} (v : View sig .tc .vmem (⟨2, ![N, 5120]⟩ : Shape) .bf16) (f : v.ty.Contents (Elt F))
    (x : (⟨2, ![N, 5120]⟩ : Shape).Idx → Elt F .bf16) (hf : v.read (Elt F) f = x) {off : Fin 2 → ℕ}
    {inb : ∀ a, off a + (![N, 512] : Fin 2 → ℕ) a ≤ (⟨2, ![N, 5120]⟩ : Shape).size a} (hoff : off = ![0, 512 * c]) (hc : c < 10)
    (z : (⟨2, ![N, 512]⟩ : Shape).Idx) :
    v.readAt (Elt F) (Rect.unit (s := ⟨2, ![N, 5120]⟩) off ![N, 512] inb).toLoadRect f z
      = x (ix2 (z 0) ⟨512 * c + (z 1).val, by have := idx2_lt1 z; omega⟩) := by
  refine (load_eq (r := 0) v f hoff (by omega) hc z).trans ?_
  rw [hf]
  congr 1
  funext a
  match a with
  | ⟨0, _⟩ => exact Fin.ext (show 0 + (z 0).val = (z 0).val by omega)
  | ⟨1, _⟩ => rfl

/-- One store of a whole buffer leaves its payload. -/
theorem read_whole {s : Shape} {e : EltTy} (v : View sig .tc .vmem s e) (f : v.ty.Contents (Elt F)) {off : Fin s.rank → ℕ}
    {inb : ∀ a, off a + s.size a ≤ s.size a} (w : s.Idx → Elt F e) (L : List (View.Piece (Elt F) s e)) :
    v.read (Elt F) (v.writes (Elt F) f (⟨Rect.unit off s.size inb, w⟩ :: L)) = w := by
  funext y
  have e : (Rect.unit off s.size inb).emb y = y :=
    Rect.emb_eq_of_coords _ _ _ fun a => by show (y a).val = off a + 1 * (y a).val; have := inb a; omega
  have h := View.read_writes_cons_emb v f (Rect.unit off s.size inb) w L y
  rwa [e] at h

/-- The zero fill and the corner store leave the padded first adapter factor. -/
theorem read_AP (v : View sig .tc .vmem S128x256 .bf16) (f : v.ty.Contents (Elt F)) (x4 : Vec F S16x90 .bf16)
    {inb : ∀ a, (![0, 0] : Fin 2 → ℕ) a + S90x16.size a ≤ S128x256.size a} {inb' : ∀ a, (![0, 0] : Fin 2 → ℕ) a + S128x256.size a ≤ S128x256.size a} :
    v.read (Elt F) (v.writes (Elt F) f [⟨Rect.unit (s := S128x256) ![0, 0] S90x16.size inb, k0_pay247 x4⟩,
      ⟨Rect.unit (s := S128x256) ![0, 0] S128x256.size inb', k0_pay246⟩]) = AP x4 := by
  funext y
  unfold AP
  by_cases h : (y 0).val < 90 ∧ (y 1).val < 16
  · rw [dif_pos h]
    have e : (Rect.unit (s := S128x256) ![0, 0] S90x16.size inb).emb (ix2 ⟨(y 0).val, h.1⟩ ⟨(y 1).val, h.2⟩ : S90x16.Idx) = y :=
      Rect.emb_eq_of_coords _ _ _ (Fin.forall_fin_two.mpr ⟨show (y 0).val = 0 + 1 * (y 0).val by omega, show (y 1).val = 0 + 1 * (y 1).val by omega⟩)
    have h' := View.read_writes_cons_emb v f (Rect.unit (s := S128x256) ![0, 0] S90x16.size inb) (k0_pay247 x4)
      [⟨Rect.unit (s := S128x256) ![0, 0] S128x256.size inb', k0_pay246⟩] (ix2 ⟨(y 0).val, h.1⟩ ⟨(y 1).val, h.2⟩ : S90x16.Idx)
    rwa [e] at h'
  · rw [dif_neg h, View.read_writes_cons_miss, read_whole]
    intro hm
    have := (Rect.mem_set_unit (inb := inb)).mp hm
    exact h ⟨by have := (this 0).2; show (y 0).val < 90; exact (Nat.zero_add 90) ▸ this, by have := (this 1).2; show (y 1).val < 16; exact (Nat.zero_add 16) ▸ this⟩

end Cert.KernelIdeal.Value

end
-- ==== Proof.RunA.lean ====
module

public import proofs.«01_k».proof.Proof.Gen.KernelIdeal.Frame
public import proofs.«01_k».proof.Proof.Gen.KernelIdeal.Loops
public import Idealize.ShloMosaic.Lib.ValueIdxCore
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.VecWindow
public import Idealize.ShloMosaic.Lib.WholeRead
public import proofs.«01_k».proof.Proof.Runs

@[expose] public section

-- membership in a rectangle of production extents (`View.cover_of_tiled`): the elaborator's structural look
-- recurses once per coordinate of the long axes
set_option maxRecDepth 16384

noncomputable section

namespace Cert.KernelIdeal.Value

open Cert.KernelIdeal Cert.KernelIdeal.Gen
open Idealize.ShloMosaic.ValueIdx
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at the first point: it fills the scratch buffers with the weights, the group indicator and the padded factor, and the result block. -/
theorem runA (c : Dev nD) (i : grid0.Coords) (arg1 : Memref sig .tc .vmem S1x2880x512 .bf16) (harg1 : arg1.IsWhole) (arg2 : Memref sig .tc .vmem S1440x5120 .i8) (harg2 : arg2.IsWhole) (arg3 : Memref sig .tc .vmem S90x5120 .bf16) (harg3 : arg3.IsWhole) (arg4 : Memref sig .tc .vmem S90x5120 .i8) (harg4 : arg4.IsWhole) (arg5 : Memref sig .tc .vmem S16x90 .bf16) (harg5 : arg5.IsWhole) (arg6 : Memref sig .tc .vmem S16x5120 .bf16) (harg6 : arg6.IsWhole) (arg7 : Memref sig .tc .vmem S512x5120 .bf16) (harg7 : arg7.IsWhole) (arg8 : Memref sig .tc .vmem S2816x5120 .bf16) (harg8 : arg8.IsWhole) (arg9 : Memref sig .tc .vmem S256x5120 .bf16) (harg9 : arg9.IsWhole) (arg10 : Memref sig .tc .vmem S2880x128 .bf16) (harg10 : arg10.IsWhole) (arg11 : Memref sig .tc .vmem S128x256 .bf16) (harg11 : arg11.IsWhole) (hc0 : k0_cond1 i = 1#1)
    (x0 : Vec F S1x2880x512 .bf16) (x1 : Vec F S1440x5120 .i8) (x2 : Vec F S90x5120 .bf16) (x3 : Vec F S90x5120 .i8) (x4 : Vec F S16x90 .bf16) (x5 : Vec F S16x5120 .bf16)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (OUT x0 (WM x1 x2 x3) (WT x1 x2 x3 x5) k0_pay245 (AP x4)) ∗ owns (c : Thread nD τ) arg8 fullShare (WM x1 x2 x3) ∗ owns (c : Thread nD τ) arg9 fullShare (WT x1 x2 x3 x5) ∗ owns (c : Thread nD τ) arg10 fullShare k0_pay245 ∗ owns (c : Thread nD τ) arg11 fullShare (AP x4)) -∗ K ⟨⟩))
      ⊢ wp frame (wpE (defs₀ (F := F)) Variants.none c none) E (cc0_qalora i arg1 harg1 arg2 harg2 arg3 harg3 arg4 harg4 arg5 harg5 arg6 harg6 arg7 harg7 arg8 harg8 arg9 harg9 arg10 harg10 arg11 harg11) K := by
  simp only [cc0_qalora_eq_skeleton]; unfold cc0_qalora_skel
  simp only [k0_part63_eq_skeleton, k0_part62_eq_skeleton, k0_part64_eq_skeleton, k0_part65_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%ds0, %fs0, -, HS0⟩, ⟨%ds1, %fs1, -, HS1⟩, ⟨%ds2, %fs2, -, HS2⟩, ⟨%ds3, %fs3, -, HS3⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5
  sl_exec (disch := first | sl_exact hc0)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  have eW := congr (congr (congrArg (WM (F := F)) (harg2.read_unread (Val := Elt F) x1)) (harg3.read_unread (Val := Elt F) x2)) (harg4.read_unread (Val := Elt F) x3)
  have eT := congr (congr (congr (congrArg (WT (F := F)) (harg2.read_unread (Val := Elt F) x1)) (harg3.read_unread (Val := Elt F) x2)) (harg4.read_unread (Val := Elt F) x3)) (harg6.read_unread (Val := Elt F) x5)
  have hW := fun f => (read_W (F := F) Variants.none c none i arg1 harg1 arg2 harg2 arg3 harg3 arg4 harg4 arg5 harg5 arg6 harg6 arg7 harg7 arg8 harg8 arg9 harg9 arg10 harg10 arg11 harg11 hc0 (harg2.unread x1) (harg3.unread x2) (harg4.unread x3) (harg6.unread x5) f).trans eW
  have hT := fun f => (read_T (F := F) Variants.none c none i arg1 harg1 arg2 harg2 arg3 harg3 arg4 harg4 arg5 harg5 arg6 harg6 arg7 harg7 arg8 harg8 arg9 harg9 arg10 harg10 arg11 harg11 hc0 (harg2.unread x1) (harg3.unread x2) (harg4.unread x3) (harg6.unread x5) f).trans eT
  have hA : ∀ f, arg11.view.read (Elt F) (arg11.view.writes (Elt F) f [⟨Rect.unit (s := S128x256) ![0, 0] S90x16.size inb_S128x256_S90x16_0_0, k0_pay247 (arg5.view.readAt (Elt F) (Rect.unit (s := S16x90) ![0, 0] S16x90.size inb_S16x90_S16x90_0_0).toLoadRect (harg5.unread x4))⟩,
      ⟨Rect.unit (s := S128x256) ![0, 0] S128x256.size inb_S128x256_S128x256_0_0, k0_pay246⟩]) = AP x4 := fun f => by
    have e : arg5.view.readAt (Elt F) (Rect.unit (s := S16x90) ![0, 0] S16x90.size inb_S16x90_S16x90_0_0).toLoadRect (harg5.unread x4) = x4 :=
      (View.readAt_full _ _ _).trans (harg5.read_unread _)
    rw [e]
    exact read_AP arg11.view f x4
  isplitl [H6]
  · iexists _; isplitr
    swap
    · iexact H6
    · ipureintro
      refine funext fun y => FillsO.read (n := 5120) arg7.view f6 ?_ y (idx2_lt1 y)
      iterate 10
        refine FillsO.step (by exact rfl) (by exact rfl) (by exact rfl) (by exact rfl) (by decide)
          ((View.readAt_full _ _ _).trans (harg1.read_unread _)) ((View.readAt_full arg10.view _ _).trans (read_whole arg10.view _ _ _))
          ((View.readAt_full arg11.view _ _).trans (hA _))
          (fun z => loadCols arg8.view _ _ (hW _) (by exact rfl) (by decide) z)
          (fun z => loadCols arg9.view _ _ (hT _) (by exact rfl) (by decide) z) ?_
      exact rfl
  isplitl [HS0]
  · iexists _; isplitr
    swap
    · iexact HS0
    · ipureintro; exact hW _
  isplitl [HS1]
  · iexists _; isplitr
    swap
    · iexact HS1
    · ipureintro; exact hT _
  isplitl [HS2]
  · iexists _; isplitr
    swap
    · iexact HS2
    · ipureintro; exact read_whole arg10.view _ _ _
  iexists _; isplitr
  swap
  · iexact HS3
  · ipureintro; exact hA _

end Cert.KernelIdeal.Value

end
-- ==== Proof.RunB.lean ====
module

public import proofs.«01_k».proof.Proof.Gen.KernelIdeal.Frame
public import proofs.«01_k».proof.Proof.Gen.KernelIdeal.Loops
public import Idealize.ShloMosaic.Lib.ValueIdxCore
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.VecWindow
public import Idealize.ShloMosaic.Lib.WholeRead
public import proofs.«01_k».proof.Proof.Runs

@[expose] public section

-- membership in a rectangle of production extents (`View.cover_of_tiled`): the elaborator's structural look
-- recurses once per coordinate of the long axes
set_option maxRecDepth 16384

noncomputable section

namespace Cert.KernelIdeal.Value

open Cert.KernelIdeal Cert.KernelIdeal.Gen
open Idealize.ShloMosaic.ValueIdx
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at any later point: the scratch buffers are kept, the result block is computed from them. -/
theorem runB (c : Dev nD) (i : grid0.Coords) (arg1 : Memref sig .tc .vmem S1x2880x512 .bf16) (harg1 : arg1.IsWhole) (arg2 : Memref sig .tc .vmem S1440x5120 .i8) (harg2 : arg2.IsWhole) (arg3 : Memref sig .tc .vmem S90x5120 .bf16) (harg3 : arg3.IsWhole) (arg4 : Memref sig .tc .vmem S90x5120 .i8) (harg4 : arg4.IsWhole) (arg5 : Memref sig .tc .vmem S16x90 .bf16) (harg5 : arg5.IsWhole) (arg6 : Memref sig .tc .vmem S16x5120 .bf16) (harg6 : arg6.IsWhole) (arg7 : Memref sig .tc .vmem S512x5120 .bf16) (harg7 : arg7.IsWhole) (arg8 : Memref sig .tc .vmem S2816x5120 .bf16) (harg8 : arg8.IsWhole) (arg9 : Memref sig .tc .vmem S256x5120 .bf16) (harg9 : arg9.IsWhole) (arg10 : Memref sig .tc .vmem S2880x128 .bf16) (harg10 : arg10.IsWhole) (arg11 : Memref sig .tc .vmem S128x256 .bf16) (harg11 : arg11.IsWhole) (hc0 : ¬ k0_cond1 i = 1#1)
    (x0 : Vec F S1x2880x512 .bf16) (x1 : Vec F S1440x5120 .i8) (x2 : Vec F S90x5120 .bf16) (x3 : Vec F S90x5120 .i8) (x4 : Vec F S16x90 .bf16) (x5 : Vec F S16x5120 .bf16) (w : Vec F S2816x5120 .bf16) (wt : Vec F S256x5120 .bf16) (p : Vec F S2880x128 .bf16) (a : Vec F S128x256 .bf16)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare w ∗ owns (c : Thread nD τ) arg9 fullShare wt ∗ owns (c : Thread nD τ) arg10 fullShare p ∗ owns (c : Thread nD τ) arg11 fullShare a
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (OUT x0 w wt p a) ∗ owns (c : Thread nD τ) arg8 fullShare w ∗ owns (c : Thread nD τ) arg9 fullShare wt ∗ owns (c : Thread nD τ) arg10 fullShare p ∗ owns (c : Thread nD τ) arg11 fullShare a) -∗ K ⟨⟩))
      ⊢ wp frame (wpE (defs₀ (F := F)) Variants.none c none) E (cc0_qalora i arg1 harg1 arg2 harg2 arg3 harg3 arg4 harg4 arg5 harg5 arg6 harg6 arg7 harg7 arg8 harg8 arg9 harg9 arg10 harg10 arg11 harg11) K := by
  simp only [cc0_qalora_eq_skeleton]; unfold cc0_qalora_skel
  simp only [k0_part63_eq_skeleton, k0_part64_eq_skeleton, k0_part65_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, ⟨%fs1, %hfs1, HS1⟩, ⟨%fs2, %hfs2, HS2⟩, ⟨%fs3, %hfs3, HS3⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5
  obtain rfl := harg8.eq_unread hfs0
  obtain rfl := harg9.eq_unread hfs1
  obtain rfl := harg10.eq_unread hfs2
  obtain rfl := harg11.eq_unread hfs3
  sl_exec (disch := first | sl_exact hc0)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr
    swap
    · iexact H6
    · ipureintro
      refine funext fun y => FillsO.read (n := 5120) arg7.view f6 ?_ y (idx2_lt1 y)
      iterate 10
        refine FillsO.step (by exact rfl) (by exact rfl) (by exact rfl) (by exact rfl) (by decide)
          ((View.readAt_full _ _ _).trans (harg1.read_unread _)) ((View.readAt_full _ _ _).trans (harg10.read_unread _))
          ((View.readAt_full _ _ _).trans (harg11.read_unread _))
          (fun z => loadCols arg8.view _ _ (harg8.read_unread _) (by exact rfl) (by decide) z)
          (fun z => loadCols arg9.view _ _ (harg9.read_unread _) (by exact rfl) (by decide) z) ?_
      exact rfl
  isplitl [HS0]
  · iexists _; isplitr; · ipureintro; exact harg8.read_unread _
    iexact HS0
  isplitl [HS1]
  · iexists _; isplitr; · ipureintro; exact harg9.read_unread _
    iexact HS1
  isplitl [HS2]
  · iexists _; isplitr; · ipureintro; exact harg10.read_unread _
    iexact HS2
  iexists _; isplitr; · ipureintro; exact harg11.read_unread _
  iexact HS3

end Cert.KernelIdeal.Value

end
-- ==== Proof.FrameKI.lean ====
module

public import proofs.«01_k».proof.Proof.Gen.KernelIdeal.Frame
public import proofs.«01_k».proof.Proof.Gen.KernelIdeal.Loops
public import Idealize.ShloMosaic.Lib.ValueIdxCore
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.VecWindow
public import Idealize.ShloMosaic.Lib.WholeRead
public import Idealize.ShloMosaic.Lib.Claim
public import proofs.«01_k».proof.Proof.RunA
public import proofs.«01_k».proof.Proof.RunB

@[expose] public section

-- membership in a rectangle of production extents (`View.cover_of_tiled`): the elaborator's structural look
-- recurses once per coordinate of the long axes
set_option maxRecDepth 16384

noncomputable section

namespace Cert.KernelIdeal.Value

open Cert.KernelIdeal Cert.KernelIdeal.Gen
open Idealize.ShloMosaic.ValueIdx
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 48 = 0 :=
  (fun t => by
    have ht : t.val < 48 := Nat.lt_of_lt_of_eq t.isLt N_0
    have e0 : (grid0.coords t 0).val = t.val / 1 % 48 := Pipeline.Grid.coords_val t 0 (by decide) rfl
    simp only [cond0_0, k0_cond1, e0]
    word_cmp
   : ∀ t : Fin grid0.N, cond0_0 (grid0.coords t) ↔ t.val % 48 = 0)

/-! ## The kernel body on any staging memrefs: a subtype the run finds -/

/-- One staging buffer of output window 6, through which its contents are stated (`View.read_writes_of_cover`: the
    choice does not matter). -/
abbrev VO0_6 : View sig .tc .vmem S512x5120 .bf16 := (Memref.whole cc0_stg6_0 : Memref sig .tc .vmem S512x5120 .bf16).view
/-- Each window's current staging memref at point `t`, spelled as the pipeline passes it (`bodyAt0`), and its wholeness. -/
abbrev ms0_0 (t : Fin cfg0.N) : Memref sig .tc .vmem S1x2880x512 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1440x5120 .i8 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S90x5120 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S90x5120 .i8 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S16x90 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S16x5120 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S512x5120 .bf16 := win0_6.stage (cfg0.slots t 6)
abbrev hs0_6 (t : Fin cfg0.N) : (ms0_6 t).IsWhole := hstage0_6 ((cfg0.slots t 6).cast nbuf0_6)
/-- The scratch operands: whole scoped buffers of the kernel's own, passed beside the windows. -/
abbrev scM0_0 : Memref sig .tc .vmem S2816x5120 .bf16 := Memref.whole cc0_scratch0
abbrev scM0_1 : Memref sig .tc .vmem S256x5120 .bf16 := Memref.whole cc0_scratch1
abbrev scM0_2 : Memref sig .tc .vmem S2880x128 .bf16 := Memref.whole cc0_scratch2
abbrev scM0_3 : Memref sig .tc .vmem S128x256 .bf16 := Memref.whole cc0_scratch3
/-- The scratch `arg8` the kernel carries between points, as a view: what it holds is stated through it. -/
abbrev VS0_0 : View sig .tc .vmem S2816x5120 .bf16 := scM0_0.view
/-- The scratch `arg9` the kernel carries between points, as a view: what it holds is stated through it. -/
abbrev VS0_1 : View sig .tc .vmem S256x5120 .bf16 := scM0_1.view
/-- The scratch `arg10` the kernel carries between points, as a view: what it holds is stated through it. -/
abbrev VS0_2 : View sig .tc .vmem S2880x128 .bf16 := scM0_2.view
/-- The scratch `arg11` the kernel carries between points, as a view: what it holds is stated through it. -/
abbrev VS0_3 : View sig .tc .vmem S128x256 .bf16 := scM0_3.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

/-- The grid's first point. -/
def p0 : Fin cfg0.N := ⟨0, by rw [show cfg0.N = 48 from N_0]; decide⟩

/-- The dequantized weight the first point leaves in the kernel's weight buffers: the rows below 2816, -/
def WMs (c : Dev nD) : Vec F S2816x5120 .bf16 := WM (iblk m c 1 p0) (iblk m c 2 p0) (iblk m c 3 p0)
/-- the last 64 rows with the second adapter factor below them, -/
def WTs (c : Dev nD) : Vec F S256x5120 .bf16 := WT (iblk m c 1 p0) (iblk m c 2 p0) (iblk m c 3 p0) (iblk m c 5 p0)
/-- and the padded first adapter factor. -/
def APs (c : Dev nD) : Vec F S128x256 .bf16 := AP (iblk m c 4 p0)

/-- The invariant: before the first point anything in the kernel's own buffers, afterwards what the first point left. -/
def PhiS (c : Dev nD) : (n : ℕ) → n ≤ cfg0.N → sProp 𝕄
  | 0, _ => Pipeline.ΦA spec0 c
  | n + 1, hn => iprop(iprop(owns (c : Thread nD τ) scM0_0 fullShare (WMs m c) ∗ owns (c : Thread nD τ) scM0_1 fullShare (WTs m c) ∗ owns (c : Thread nD τ) scM0_2 fullShare k0_pay245 ∗ owns (c : Thread nD τ) scM0_3 fullShare (APs m c)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare (WMs m c) ∗ owns (c : Thread nD τ) scM0_1 fullShare (WTs m c) ∗ owns (c : Thread nD τ) scM0_2 fullShare k0_pay245 ∗ owns (c : Thread nD τ) scM0_3 fullShare (APs m c)) ∗ (∃ r, prngReg c r)) := rfl

theorem PhiS_pos (c : Dev nD) (n : ℕ) (h : n ≤ cfg0.N) (hz : n ≠ 0) :
    PhiS m c n h = iprop(iprop(owns (c : Thread nD τ) scM0_0 fullShare (WMs m c) ∗ owns (c : Thread nD τ) scM0_1 fullShare (WTs m c) ∗ owns (c : Thread nD τ) scM0_2 fullShare k0_pay245 ∗ owns (c : Thread nD τ) scM0_3 fullShare (APs m c)) ∗ (∃ r, prngReg c r)) := by
  cases n with
  | zero => exact absurd rfl hz
  | succ n => rfl

/-! ## The pipeline's proof data -/

/-- The pipeline's proof data: after the body at a point each input's buffer holds its block, the output's the product. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => OUT (iblk m c 0 t) (WMs m c) (WTs m c) k0_pay245 (APs m c)
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = OUT (iblk m c 0 t) (WMs m c) (WTs m c) k0_pay245 (APs m c) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t))

set_option maxHeartbeats 6400000 in
/-- The body at any point: the first point fills the kernel's buffers, every later one keeps them. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl,
    after0_0, after0_1, after0_2, after0_3, after0_4, after0_5, after0_6]
  rw [show (dats m 0 c).Φ t.succ = PhiS m c (t.val + 1) t.isLt from rfl, PhiS_succ]
  have hN : t.val < 48 := lt_of_lt_of_eq t.isLt (show cfg0.N = 48 from N_0)
  by_cases hz : t.val = 0
  · obtain rfl : t = p0 := Fin.ext hz
    rw [PhiS_castSucc m c p0, PhiS_zero m c p0.val _ rfl, PhiA0_eq]
    iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩⟩
    iapply (runA c (grid0.coords p0) (ms0_0 p0) (hs0_0 p0) (ms0_1 p0) (hs0_1 p0) (ms0_2 p0) (hs0_2 p0) (ms0_3 p0) (hs0_3 p0) (ms0_4 p0) (hs0_4 p0) (ms0_5 p0) (hs0_5 p0) (ms0_6 p0) (hs0_6 p0) scM0_0 (Memref.isWhole_whole _) scM0_1 (Memref.isWhole_whole _) scM0_2 (Memref.isWhole_whole _) scM0_3 (Memref.isWhole_whole _) ((hcond0_0 p0).mpr rfl) (iblk m c 0 p0) (iblk m c 1 p0) (iblk m c 2 p0) (iblk m c 3 p0) (iblk m c 4 p0) (iblk m c 5 p0) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS0]; · iexact HS0
    isplitl [HS1]; · iexact HS1
    isplitl [HS2]; · iexact HS2
    isplitl [HS3]; · iexact HS3
    iintro ⟨H0, H1, H2, H3, H4, H5, H6, HS0, HS1, HS2, HS3⟩
    isplitl [HS0 HS1 HS2 HS3 Hg]
    · isplitl [HS0 HS1 HS2 HS3]
      · isplitl [HS0]; · iexact HS0
        isplitl [HS1]; · iexact HS1
        isplitl [HS2]; · iexact HS2
        iexact HS3
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · have h0 : ¬ t.val % 48 = 0 := by omega
    rw [PhiS_castSucc m c t, PhiS_pos m c _ _ hz]
    iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩⟩
    iapply (runB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (fun h => h0 ((hcond0_0 t).mp h)) (iblk m c 0 t) (iblk m c 1 t) (iblk m c 2 t) (iblk m c 3 t) (iblk m c 4 t) (iblk m c 5 t) (WMs m c) (WTs m c) k0_pay245 (APs m c) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS0]; · iexact HS0
    isplitl [HS1]; · iexact HS1
    isplitl [HS2]; · iexact HS2
    isplitl [HS3]; · iexact HS3
    iintro ⟨H0, H1, H2, H3, H4, H5, H6, HS0, HS1, HS2, HS3⟩
    isplitl [HS0 HS1 HS2 HS3 Hg]
    · isplitl [HS0 HS1 HS2 HS3]
      · isplitl [HS0]; · iexact HS0
        isplitl [HS1]; · iexact HS1
        isplitl [HS2]; · iexact HS2
        iexact HS3
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, HS3⟩, Hg⟩
  isplitl [HS0 HS1 HS2 HS3]
  · isplitl [HS0]
    · iexists _; iexact HS0
    isplitl [HS1]
    · iexists _; iexact HS1
    isplitl [HS2]
    · iexists _; iexact HS2
    iexists _; iexact HS3
  iexact Hg

/-- The same after the last point. -/
theorem hout (c : Dev nD) : (dats m 0 c).Φ (Fin.last cfg0.N) ⊢ Pipeline.ΦA spec0 c :=
  Phi_out m c _ (by rw [Fin.val_last]; have : cfg0.N = 48 := N_0; omega)

/-! ## The run and the frame -/

-- `θ_run_frame_around_track`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the lines after the region leave it (Lib/Pipeline/Frame.lean `FramePost`). -/
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

/-- Every execution of the kernel's ideal program terminates with its arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.KernelIdeal.Value

end
-- ==== Proof.Spec.lean ====
module

public import Idealize.ShloMosaic.PureOps.Ideal
public import Idealize.ShloMosaic.Lib.ValueIdxCore
public import Idealize.ShloMosaic.Lib.IdealHost

@[expose] public section

noncomputable section

namespace Cert.Spec

open Idealize.ShloMosaic Idealize.ShloMosaic.ValueIdx
open scoped BigOperators

/-! ## The result of the problem, one element at a time, over the extended reals -/

/-- The four-bit code at row `k` and column `n`: even rows are the low nibbles of the packed bytes, odd rows the high ones. -/
def code (x1 : (⟨2, ![1440, 5120]⟩ : Shape).Idx → BitVec 8) (k : Fin 2880) (n : Fin 5120) : ℕ :=
  if k.val % 2 = 0 then (x1 (ix2 ⟨k.val / 2, by omega⟩ n)).toNat % 16 else (x1 (ix2 ⟨k.val / 2, by omega⟩ n)).toNat / 16

/-- The dequantized weight at row `k` and column `n`: code less zero point, times scale, both of the row's group of 32. -/
def weight (x1 : (⟨2, ![1440, 5120]⟩ : Shape).Idx → BitVec 8) (x2 : (⟨2, ![90, 5120]⟩ : Shape).Idx → EReal)
    (x3 : (⟨2, ![90, 5120]⟩ : Shape).Idx → BitVec 8) (k : Fin 2880) (n : Fin 5120) : EReal :=
  (((code x1 k n : ℝ) : EReal) - (((x3 (ix2 ⟨k.val / 32, by omega⟩ n)).toNat : ℝ) : EReal)) * x2 (ix2 ⟨k.val / 32, by omega⟩ n)

/-- The mean of group `g` of a row of activations (the sum times one thirty-second). -/
def mean (x : Fin 2880 → EReal) (g : Fin 90) : EReal :=
  (∑ i : Fin 32, x ⟨32 * g.val + i.val, by omega⟩) * Ideal.ofBits .f32 0x3D000000#32

/-- Entry `r` of the low-rank branch's inner vector: the group means times the first factor. -/
def inner (x : Fin 2880 → EReal) (x4 : (⟨2, ![90, 16]⟩ : Shape).Idx → EReal) (r : Fin 16) : EReal :=
  ∑ g : Fin 90, mean x g * x4 (ix2 g r)

/-- One element of the result: the row of activations times the weight column, plus the low-rank branch. -/
def result (x : Fin 2880 → EReal) (x1 : (⟨2, ![1440, 5120]⟩ : Shape).Idx → BitVec 8) (x2 : (⟨2, ![90, 5120]⟩ : Shape).Idx → EReal)
    (x3 : (⟨2, ![90, 5120]⟩ : Shape).Idx → BitVec 8) (x4 : (⟨2, ![90, 16]⟩ : Shape).Idx → EReal)
    (x5 : (⟨2, ![16, 5120]⟩ : Shape).Idx → EReal) (n : Fin 5120) : EReal :=
  ∑ k : Fin 2880, x k * weight x1 x2 x3 k n + ∑ r : Fin 16, inner x x4 r * x5 (ix2 r n)

end Cert.Spec

end
-- ==== Proof.Deq.lean ====
module

public import proofs.«01_k».proof.Proof.Weights
public import proofs.«01_k».proof.Proof.Spec
public import Idealize.ShloMosaic.Lib.BitcastPair
public import Idealize.ShloMosaic.Lib.ValueLayout
public import Idealize.ShloMosaic.Lib.ValueIdx
public import Idealize.ShloMosaic.Lib.Pipeline.Value

@[expose] public section

set_option maxRecDepth 16384

noncomputable section

namespace Cert.KernelIdeal.Value

open Cert.KernelIdeal Cert.KernelIdeal.Gen
open Idealize.ShloMosaic.ValueIdx
open Idealize.ShloMosaic

/-! ## The dequantization of one tile over the extended reals -/

/-- A sixteen-bit pattern with clear sign, exponent field 134 and fraction `q` is the extended real 128 + q. -/
theorem ofBits_fields (b : BitVec 16) (q : ℕ) (h1 : b.extractLsb' 15 1 = 0#1) (h2 : (b.extractLsb' 7 8).toNat = 134)
    (h3 : (b.extractLsb' 0 7).toNat = q) : Ideal.ofBits .bf16 b = (((128 + q : ℕ) : ℝ) : EReal) := by
  simp only [Ideal.ofBits, Ideal.ieee]
  rw [show (8 + 7 : ℕ) = 15 from rfl, h1, h2, h3]
  norm_num

/-- The word the kernel assembles from one packed byte: each nibble in its half, under the pattern of 128. -/
def word (c : BitVec 8) : BitVec 32 :=
  IntOp.ori (IntOp.ori (IntOp.andi (c.setWidth 32) 15#32) (IntOp.shli .vector (IntOp.andi (c.setWidth 32) 240#32) 12#32)) 1124090624#32

/-- The low half of the word holds the low nibble in its fraction … -/
theorem word_low (c : BitVec 8) : ((word c).extractLsb' 0 16).extractLsb' 15 1 = 0#1
    ∧ (((word c).extractLsb' 0 16).extractLsb' 7 8).toNat = 134 ∧ (((word c).extractLsb' 0 16).extractLsb' 0 7).toNat = c.toNat % 16 := by
  revert c; decide +kernel

/-- … and the high half the high nibble. -/
theorem word_high (c : BitVec 8) : ((word c).extractLsb' 16 16).extractLsb' 15 1 = 0#1
    ∧ (((word c).extractLsb' 16 16).extractLsb' 7 8).toNat = 134 ∧ (((word c).extractLsb' 16 16).extractLsb' 0 7).toNat = c.toNat / 16 := by
  revert c; decide +kernel

/-- The two halves of the word, read as floats, less 128: the nibbles. -/
theorem word_code (c : BitVec 8) (r : ℕ) :
    Ideal.ofBits .bf16 ((word c).extractLsb' (16 * (r % 2)) 16) - Ideal.ofBits .bf16 0x4300#16
      = (((if r % 2 = 0 then c.toNat % 16 else c.toNat / 16 : ℕ) : ℝ) : EReal) := by
  have e128 : Ideal.ofBits .bf16 0x4300#16 = (((128 + 0 : ℕ) : ℝ) : EReal) :=
    ofBits_fields _ 0 (by decide) (by decide) (by decide)
  rcases Nat.mod_two_eq_zero_or_one r with h | h
  · obtain ⟨h1, h2, h3⟩ := word_low c
    rw [h, if_pos rfl, ofBits_fields _ _ h1 h2 h3, e128, ← EReal.coe_sub]
    congr 1; push_cast; ring
  · obtain ⟨h1, h2, h3⟩ := word_high c
    rw [h, if_neg Nat.one_ne_zero, ofBits_fields _ _ h1 h2 h3, e128, ← EReal.coe_sub]
    congr 1; push_cast; ring

/-- A byte widened with zeros and read as a signed integer is its unsigned value. -/
theorem toInt_byte (c : BitVec 8) : (c.setWidth 32).toInt = (c.toNat : ℤ) := by
  revert c; decide +kernel

/-- One element of the tile expression: nibble less zero point, times scale. -/
theorem pay3_apply (c : Vec Ideal S16x512 .i8) (z : Vec Ideal S1x512 .i8) (s : Vec Ideal S1x512 .bf16) (r : Fin 32) (n : Fin 512) :
    k0_pay3 c z s (ix2 r n)
      = ((((if r.val % 2 = 0 then (c (ix2 ⟨r.val / 2, by omega⟩ n)).toNat % 16 else (c (ix2 ⟨r.val / 2, by omega⟩ n)).toNat / 16 : ℕ) : ℝ) : EReal)
          - (((z (ix2 0 n)).toNat : ℝ) : EReal)) * s (ix2 0 n) := by
  have hz : truncf .bf16 (sitofp .f32 (extui 32 z natLt_8_32) : FVec Ideal S1x512 .f32) bitsLt_bf16_f32 (ix2 0 n)
      = (((z (ix2 0 n)).toNat : ℝ) : EReal) := by
    show ((((z (ix2 0 n)).setWidth 32).toInt : ℝ) : EReal) = _
    rw [toInt_byte]; simp
  have hs : ∀ (hp : ∀ a : Fin S16x512.rank, a.val + 2 = S16x512.rank → S32x512.row (ix2 r n) / 2 < S16x512.size a),
      bitcasts_S16x512_w32_S32x512_w16.srcIdx (ix2 r n) (S32x512.row (ix2 r n) / 2) hp = ix2 ⟨r.val / 2, by omega⟩ n := by
    intro hp
    funext a
    match a with
    | ⟨0, _⟩ => rfl
    | ⟨1, _⟩ => rfl
  unfold k0_pay3
  rw [shapeCast_apply _ _ (ix2 r n) (ix2 r n) rfl, mulf_apply, subf_apply, subf_apply, broadcastTo_1b_ab_apply, broadcastTo_1b_ab_apply, hz]
  refine congrArg (fun t : EReal => (t - _) * _) ?_
  have hw := word_code (c (ix2 ⟨r.val / 2, by omega⟩ n)) r.val
  refine Eq.trans ?_ hw
  refine congrArg (fun t : BitVec 16 => Ideal.ofBits .bf16 t - Ideal.ofBits .bf16 0x4300#16) ?_
  rw [bitcast_32_16, hs]
  rfl

/-- One element of a group's tile is the dequantized weight at that row and column. -/
theorem deq_apply (x1 : Vec Ideal S1440x5120 .i8) (x2 : Vec Ideal S90x5120 .bf16) (x3 : Vec Ideal S90x5120 .i8) (k : Fin 2880) (n : Fin 5120)
    (g : Fin 90) (r : Fin 32) (hk : k.val = 32 * g.val + r.val) :
    deq x1 x2 x3 g (chunk n) (ix2 r (inChunk n)) = Spec.weight x1 x2 x3 k n := by
  have hn : (⟨512 * (chunk n).val + (inChunk n).val, by have := (chunk n).isLt; have := (inChunk n).isLt; omega⟩ : Fin 5120) = n :=
    Fin.ext (by show 512 * (n.val / 512) + n.val % 512 = n.val; omega)
  have hg : (⟨k.val / 32, by omega⟩ : Fin 90) = g := Fin.ext (by show k.val / 32 = g.val; omega)
  have hr : (⟨16 * g.val + r.val / 2, by omega⟩ : Fin 1440) = ⟨k.val / 2, by omega⟩ := Fin.ext (by show 16 * g.val + r.val / 2 = k.val / 2; omega)
  have h2 : r.val % 2 = k.val % 2 := by omega
  have e1 : x1 (ix2 ⟨16 * g.val + r.val / 2, by omega⟩ ⟨512 * (chunk n).val + (inChunk n).val, by have := (chunk n).isLt; have := (inChunk n).isLt; omega⟩)
      = x1 (ix2 ⟨k.val / 2, by omega⟩ n) := by rw [hr, hn]
  have e3 : x3 (ix2 g ⟨512 * (chunk n).val + (inChunk n).val, by have := (chunk n).isLt; have := (inChunk n).isLt; omega⟩)
      = x3 (ix2 ⟨k.val / 32, by omega⟩ n) := by rw [hg, hn]
  have e2 : x2 (ix2 g ⟨512 * (chunk n).val + (inChunk n).val, by have := (chunk n).isLt; have := (inChunk n).isLt; omega⟩)
      = x2 (ix2 ⟨k.val / 32, by omega⟩ n) := by rw [hg, hn]
  unfold deq
  rw [pay3_apply]
  unfold Spec.weight Spec.code
  rw [← e1, ← e2, ← e3, ← h2]

end Cert.KernelIdeal.Value

end
-- ==== Proof.Elem.lean ====
module

public import proofs.«01_k».proof.Proof.Runs
public import proofs.«01_k».proof.Proof.Deq
public import Idealize.ShloMosaic.Lib.MatmulPlain
public import Idealize.ShloMosaic.Lib.FinSumWindow
public import Idealize.ShloMosaic.Lib.Pointwise.Sums

@[expose] public section

set_option maxRecDepth 16384

noncomputable section

namespace Cert.KernelIdeal.Value

open Cert.KernelIdeal Cert.KernelIdeal.Gen
open Idealize.ShloMosaic.ValueIdx
open Idealize.ShloMosaic hiding ix2 ix3
open scoped BigOperators

/-! ## The group indicator and the padded factor over the extended reals -/

/-- The kernel's group number of a row: the floor division by 32 as it is printed. -/
def groupWord (k : BitVec 32) : BitVec 32 :=
  Scalar.select (IntOp.andi (IntOp.cmpi .ne (IntOp.subi ((IntOp.cmpi .sgt k 0#32).setWidth 32) ((IntOp.cmpi .slt k 0#32).setWidth 32))
      (Scalar.subi (Scalar.extui (Scalar.cmpi .sgt 32#32 0#32)) (Scalar.extui (Scalar.cmpi .slt 32#32 0#32))))
      (IntOp.cmpi .ne (IntOp.remsi .vector k 32#32) 0#32))
    (IntOp.subi (IntOp.divsi .vector k 32#32) 1#32) (IntOp.divsi .vector k 32#32)

/-- It is the row number over 32. -/
theorem groupWord_eq (k : Fin 2880) : groupWord (BitVec.ofNat 32 k.val) = BitVec.ofNat 32 (k.val / 32) := by
  revert k; decide +kernel

/-- The indicator's entry at row `k` and lane `g`: one where `k` lies in group `g`, zero elsewhere. -/
theorem pay245_apply (k : Fin 2880) (g : Fin 128) : (k0_pay245 : FVec Ideal S2880x128 .bf16) (ix2 k g) = if k.val / 32 = g.val then 1 else 0 := by
  unfold k0_pay245
  rw [shapeCast_apply _ _ (ix2 k g) (ix2 k g) rfl]
  have e0 : (iota .tc S2880x128 32 [0] iota_S2880x128_d0_w32) (ix2 k g) = BitVec.ofNat 32 k.val := iota_single_apply _ _ _ _ _ _
  have e1 : (iota .tc S2880x128 32 [1] iota_S2880x128_d1_w32) (ix2 k g) = BitVec.ofNat 32 g.val := iota_single_apply _ _ _ _ _ _
  have h : IntOp.cmpi .eq (groupWord ((iota .tc S2880x128 32 [0] iota_S2880x128_d0_w32) (ix2 k g))) ((iota .tc S2880x128 32 [1] iota_S2880x128_d1_w32) (ix2 k g))
      = BitVec.ofBool (decide (k.val / 32 = g.val)) := by
    rw [e0, e1, groupWord_eq]
    unfold IntOp.cmpi
    refine congrArg BitVec.ofBool ?_
    rw [Bool.eq_iff_iff]
    simp only [beq_iff_eq, decide_eq_true_eq]
    constructor
    · intro h
      have := congrArg BitVec.toNat h
      simp only [BitVec.toNat_ofNat] at this
      omega
    · intro h; rw [h]
  refine Eq.trans (congrArg (fun b => Scalar.select b (Ideal.ofBits .f32 0x3F800000#32) (Ideal.ofBits .f32 0x00000000#32)) h) ?_
  rw [Ideal.ofBits_one_f32, Ideal.ofBits_zero_f32]
  by_cases hk : k.val / 32 = g.val
  · rw [if_pos hk, decide_eq_true hk]; rfl
  · rw [if_neg hk, decide_eq_false hk]; rfl

/-- The padded factor inside its corner is the factor … -/
theorem AP_corner (x4 : Vec Ideal S16x90 .bf16) (g : Fin 128) (r : Fin 256) (hg : g.val < 90) (hr : r.val < 16) :
    AP x4 (ix2 g r) = x4 (ix2 ⟨r.val, hr⟩ ⟨g.val, hg⟩) := by
  unfold AP
  rw [dif_pos (show ((ix2 g r : S128x256.Idx) 0).val < 90 ∧ ((ix2 g r : S128x256.Idx) 1).val < 16 from ⟨hg, hr⟩)]
  unfold k0_pay247
  rw [shapeCast_apply _ _ _ _ rfl]
  show transpose S90x16 [1, 0] _ _ (ix2 (⟨g.val, hg⟩ : Fin 90) (⟨r.val, hr⟩ : Fin 16)) = _
  rw [transpose_ix2_apply, shapeCast_apply _ _ _ _ rfl]

/-- … and in the rows below it is zero. -/
theorem AP_below (x4 : Vec Ideal S16x90 .bf16) (g : Fin 128) (r : Fin 256) (hg : ¬ g.val < 90) : AP x4 (ix2 g r) = 0 := by
  unfold AP
  rw [dif_neg (fun h => hg h.1)]
  unfold k0_pay246
  rw [shapeCast_apply _ _ _ _ rfl]
  exact Ideal.ofBits_zero_bf16

/-! ## The two weight buffers over the extended reals -/

/-- The first weight buffer at row `k`: the dequantized weight. -/
theorem WM_apply (x1 : Vec Ideal S1440x5120 .i8) (x2 : Vec Ideal S90x5120 .bf16) (x3 : Vec Ideal S90x5120 .i8) (k : Fin 2816) (n : Fin 5120) :
    WM x1 x2 x3 (ix2 k n) = Spec.weight x1 x2 x3 ⟨k.val, by omega⟩ n :=
  deq_apply x1 x2 x3 ⟨k.val, by omega⟩ n ⟨k.val / 32, by omega⟩ ⟨k.val % 32, by omega⟩ (by show k.val = 32 * (k.val / 32) + k.val % 32; omega)

/-- The tail buffer's first 64 rows: the dequantized weight from row 2816 on. -/
theorem WT_top (x1 : Vec Ideal S1440x5120 .i8) (x2 : Vec Ideal S90x5120 .bf16) (x3 : Vec Ideal S90x5120 .i8) (x5 : Vec Ideal S16x5120 .bf16)
    (k : Fin 64) (n : Fin 5120) :
    WT x1 x2 x3 x5 (ix2 ⟨k.val, by omega⟩ n) = Spec.weight x1 x2 x3 ⟨2816 + k.val, by omega⟩ n := by
  unfold WT
  rw [dif_pos (show ((ix2 (⟨k.val, by omega⟩ : Fin 256) n : S256x5120.Idx) 0).val < 64 from k.isLt)]
  exact deq_apply x1 x2 x3 ⟨2816 + k.val, by omega⟩ n ⟨88 + k.val / 32, by omega⟩ ⟨k.val % 32, by omega⟩
    (by show 2816 + k.val = 32 * (88 + k.val / 32) + k.val % 32; omega)

/-- Its next sixteen rows: the second factor. -/
theorem WT_mid (x1 : Vec Ideal S1440x5120 .i8) (x2 : Vec Ideal S90x5120 .bf16) (x3 : Vec Ideal S90x5120 .i8) (x5 : Vec Ideal S16x5120 .bf16)
    (r : Fin 16) (n : Fin 5120) : WT x1 x2 x3 x5 (ix2 ⟨64 + r.val, by omega⟩ n) = x5 (ix2 r n) := by
  have hn : (⟨512 * (chunk n).val + (inChunk n).val, by have := (chunk n).isLt; have := (inChunk n).isLt; omega⟩ : Fin 5120) = n :=
    Fin.ext (by show 512 * (n.val / 512) + n.val % 512 = n.val; omega)
  have hr : (⟨64 + r.val - 64, by omega⟩ : Fin 16) = r := Fin.ext (by show 64 + r.val - 64 = r.val; omega)
  unfold WT
  rw [dif_neg (show ¬ ((ix2 (⟨64 + r.val, by omega⟩ : Fin 256) n : S256x5120.Idx) 0).val < 64 from by show ¬ 64 + r.val < 64; omega),
    dif_pos (show ((ix2 (⟨64 + r.val, by omega⟩ : Fin 256) n : S256x5120.Idx) 0).val < 80 from by show 64 + r.val < 80; omega)]
  unfold k0_pay243
  rw [shapeCast_apply _ _ _ _ rfl]
  show x5 (ix2 (⟨64 + r.val - 64, by omega⟩ : Fin 16) (⟨512 * (chunk n).val + (inChunk n).val, by have := (chunk n).isLt; have := (inChunk n).isLt; omega⟩ : Fin 5120)) = _
  rw [hr, hn]

/-- The rest: zeros. -/
theorem WT_bottom (x1 : Vec Ideal S1440x5120 .i8) (x2 : Vec Ideal S90x5120 .bf16) (x3 : Vec Ideal S90x5120 .i8) (x5 : Vec Ideal S16x5120 .bf16)
    (k : Fin 256) (hk : 80 ≤ k.val) (n : Fin 5120) : WT x1 x2 x3 x5 (ix2 k n) = 0 := by
  unfold WT
  rw [dif_neg (show ¬ ((ix2 k n : S256x5120.Idx) 0).val < 64 from by show ¬ k.val < 64; omega),
    dif_neg (show ¬ ((ix2 k n : S256x5120.Idx) 0).val < 80 from by show ¬ k.val < 80; omega)]
  unfold k0_pay244
  rw [shapeCast_apply _ _ _ _ rfl]
  exact Ideal.ofBits_zero_bf16

/-! ## The two products of a grid point over the extended reals -/

/-- The transposed block of activations. -/
theorem pay248_apply (x0 : Vec Ideal S1x2880x512 .bf16) (i : Fin 512) (k : Fin 2880) : k0_pay248 x0 (ix2 i k) = x0 (ix3 (0 : Fin 1) k i) := by
  unfold k0_pay248
  rw [transpose_ix2_apply, shapeCast_1ab_ab_apply]

/-- The kernel's products are plain ones: the group sums, -/
theorem dot1 : (dot_S512x2880_S2880x128_S512x128_1_0_0_1_n_n : DotDims _ _ _) = DotDims.plain 512 2880 128 := rfl
/-- the means times the first adapter factor, -/
theorem dot2 : (dot_S512x128_S128x256_S512x256_1_0_0_1_n_n : DotDims _ _ _) = DotDims.plain 512 128 256 := rfl
/-- the first 2816 features times their weights, -/
theorem dot3 : (dot_S512x2816_S2816x512_S512x512_1_0_0_1_n_n : DotDims _ _ _) = DotDims.plain 512 2816 512 := rfl
/-- the remaining features and the inner vector times the rows below them. -/
theorem dot4 : (dot_S512x256_S256x512_S512x512_1_0_0_1_n_n : DotDims _ _ _) = DotDims.plain 512 256 512 := rfl

/-- A product with the group indicator sums the group. -/
theorem sum_group (x : Fin 2880 → EReal) (g : Fin 90) :
    ∑ k : Fin 2880, x k * (k0_pay245 : FVec Ideal S2880x128 .bf16) (ix2 k ⟨g.val, by omega⟩) = ∑ i : Fin 32, x ⟨32 * g.val + i.val, by omega⟩ := by
  rw [FinSumWindow.sum_window (W := 32) (32 * g.val) (by omega)]
  · refine Finset.sum_congr rfl fun i _ => ?_
    rw [pay245_apply, if_pos (by show (32 * g.val + i.val) / 32 = g.val; omega), mul_one]
  · intro k hk
    rw [pay245_apply, if_neg (by show ¬ k.val / 32 = g.val; omega), mul_zero]

/-- The kernel's inner vector of the low-rank branch, at one of its sixteen used lanes. -/
theorem inner_apply (x0 : Vec Ideal S1x2880x512 .bf16) (x4 : Vec Ideal S16x90 .bf16) (i : Fin 512) (r : Fin 16) :
    (mulf (matmul (φ₂ := .bf16) dot_S512x128_S128x256_S512x256_1_0_0_1_n_n none
        (truncf .bf16 (mulf (matmul dot_S512x2880_S2880x128_S512x128_1_0_0_1_n_n none (k0_pay248 x0) k0_pay245 (constant S512x128 .f32 0x00000000#32) : FVec Ideal S512x128 .f32)
          (broadcast S512x128 (Scalar.ofBits .f32 0x3D000000#32))) bitsLt_bf16_f32) (AP x4) (constant S512x256 .f32 0x00000000#32))
      (broadcast S512x256 (Scalar.ofBits .f32 0x3F800000#32)) : FVec Ideal S512x256 .f32) (ix2 i ⟨r.val, by omega⟩)
      = Spec.inner (fun k => x0 (ix3 (0 : Fin 1) k i)) (fun y => x4 (ix2 (y 1) (y 0))) r := by
  have hmean : ∀ g : Fin 90, (mulf (matmul dot_S512x2880_S2880x128_S512x128_1_0_0_1_n_n none (k0_pay248 x0) k0_pay245 (constant S512x128 .f32 0x00000000#32) : FVec Ideal S512x128 .f32)
          (broadcast S512x128 (Scalar.ofBits .f32 0x3D000000#32)) : FVec Ideal S512x128 .f32) (ix2 i ⟨g.val, by omega⟩)
        = Spec.mean (fun k => x0 (ix3 (0 : Fin 1) k i)) g := by
    intro g
    rw [mulf_apply, dot1]
    refine Eq.trans (congrArg (fun t : EReal => t * Ideal.ofBits .f32 0x3D000000#32)
      (Ideal.matmul_plain_apply (φ₁ := .bf16) (φ₂ := .bf16) none (k0_pay248 x0) k0_pay245 (constant S512x128 .f32 0x00000000#32) i ⟨g.val, by omega⟩)) ?_
    rw [constant_apply, Ideal.ofBits_zero_f32, zero_add]
    refine Eq.trans ?_ (congrArg (fun t : EReal => t * Ideal.ofBits .f32 0x3D000000#32) (sum_group (fun k => x0 (ix3 (0 : Fin 1) k i)) g))
    refine congrArg (fun t : EReal => t * Ideal.ofBits .f32 0x3D000000#32) ?_
    exact Finset.sum_congr rfl fun k _ => by rw [pay248_apply]
  rw [mulf_apply, dot2]
  refine Eq.trans (congrArg (fun t : EReal => t * Ideal.ofBits .f32 0x3F800000#32)
    (Ideal.matmul_plain_apply (φ₁ := .bf16) (φ₂ := .bf16) none (truncf .bf16 (mulf (matmul dot_S512x2880_S2880x128_S512x128_1_0_0_1_n_n none (k0_pay248 x0) k0_pay245 (constant S512x128 .f32 0x00000000#32) : FVec Ideal S512x128 .f32)
          (broadcast S512x128 (Scalar.ofBits .f32 0x3D000000#32))) bitsLt_bf16_f32) (AP x4) (constant S512x256 .f32 0x00000000#32) i ⟨r.val, by omega⟩)) ?_
  rw [constant_apply, Ideal.ofBits_zero_f32, zero_add, Ideal.ofBits_one_f32, mul_one]
  rw [FinSumWindow.sum_window (W := 90) 0 (by omega)]
  · unfold Spec.inner
    refine Finset.sum_congr rfl fun g _ => ?_
    have hg : (⟨0 + g.val, by omega⟩ : Fin 128) = ⟨g.val, by omega⟩ := Fin.ext (Nat.zero_add _)
    rw [hg, truncf_apply, hmean, AP_corner x4 _ _ g.isLt r.isLt]
  · intro g hg
    rw [AP_below x4 g _ (by omega), mul_zero]

/-- One element of a column chunk's stored block: the product over the first 2816 features plus the product over the 256
    rows of the second buffer. -/
theorem pay250_apply (x0 : Vec Ideal S1x2880x512 .bf16) (p : FVec Ideal S2880x128 .bf16) (a : FVec Ideal S128x256 .bf16)
    (u : FVec Ideal S2816x512 .bf16) (v : FVec Ideal S256x512 .bf16) (i j : Fin 512) :
    k0_pay250 (F := Ideal) x0 p a u v (ix2 i j)
      = ∑ k : Fin 2816, x0 (ix3 (0 : Fin 1) ⟨k.val, by omega⟩ i) * u (ix2 k j) + ∑ k : Fin 256, k0_pay249 x0 p a (ix2 i k) * v (ix2 k j) := by
  unfold k0_pay250
  rw [truncf_apply, addf_apply, dot3, dot4]
  generalize k0_pay249 x0 p a = t
  have e1 := Ideal.matmul_plain_apply (φ₁ := .bf16) (φ₂ := .bf16) none (extractStridedSlice S512x2816 ![0, 0] (k0_pay248 x0) slices_S512x2880_o0_0_S512x2816)
      u (constant S512x512 .f32 0x00000000#32) i j
  have e2 := Ideal.matmul_plain_apply (φ₁ := .bf16) (φ₂ := .bf16) none t v (constant S512x512 .f32 0x00000000#32) i j
  rw [constant_apply, Ideal.ofBits_zero_f32, zero_add] at e1 e2
  refine (congrArg₂ (fun s t : EReal => s + t) e1 e2).trans ?_
  refine congrArg (fun s : EReal => s + _) (Finset.sum_congr rfl fun k _ => ?_)
  rw [slice2_axis1_apply 0 _ _ i k (⟨k.val, by omega⟩ : Fin 2880) (Nat.zero_add _).symm, pay248_apply]

/-- One element of what a grid point writes, from any contents of the scratch buffers: the product over the first 2816
    features plus the product over the 256 rows of the second buffer. -/
theorem OUT_sums (x0 : Vec Ideal S1x2880x512 .bf16) (w : FVec Ideal S2816x5120 .bf16) (wt : FVec Ideal S256x5120 .bf16) (p : FVec Ideal S2880x128 .bf16)
    (a : FVec Ideal S128x256 .bf16) (i : Fin 512) (n : Fin 5120) :
    OUT x0 w wt p a (ix2 i n)
      = ∑ k : Fin 2816, x0 (ix3 (0 : Fin 1) ⟨k.val, by omega⟩ i) * w (ix2 k n)
        + ∑ k : Fin 256, k0_pay249 x0 p a (ix2 i k) * wt (ix2 k n) := by
  have hn : (⟨512 * (chunk n).val + (inChunk n).val, by have := (chunk n).isLt; have := (inChunk n).isLt; omega⟩ : Fin 5120) = n :=
    Fin.ext (by show 512 * (n.val / 512) + n.val % 512 = n.val; omega)
  have hM : ∀ k : Fin 2816, colsOf (F := Ideal) w (chunk n) (ix2 k (inChunk n)) = w (ix2 k n) := fun k => by
    show w (ix2 k (⟨512 * (chunk n).val + (inChunk n).val, by have := (chunk n).isLt; have := (inChunk n).isLt; omega⟩ : Fin 5120)) = _
    rw [hn]
  have hT : ∀ k : Fin 256, colsOf (F := Ideal) wt (chunk n) (ix2 k (inChunk n)) = wt (ix2 k n) := fun k => by
    show wt (ix2 k (⟨512 * (chunk n).val + (inChunk n).val, by have := (chunk n).isLt; have := (inChunk n).isLt; omega⟩ : Fin 5120)) = _
    rw [hn]
  have h0 : OUT x0 w wt p a (ix2 i n) = k0_pay250 x0 p a (colsOf (F := Ideal) w (chunk n)) (colsOf (F := Ideal) wt (chunk n)) (ix2 i (inChunk n)) := rfl
  rw [h0, pay250_apply]
  refine congrArg₂ (fun s t : EReal => s + t) (Finset.sum_congr rfl fun k _ => ?_) (Finset.sum_congr rfl fun k _ => ?_)
  · rw [hM]
  · rw [hT]

/-- A column below 64 of the second product's left operand: one of the last 64 features. -/
theorem pay249_low (x0 : Vec Ideal S1x2880x512 .bf16) (p : FVec Ideal S2880x128 .bf16) (a : FVec Ideal S128x256 .bf16) (i : Fin 512) (k : Fin 64) :
    k0_pay249 x0 p a (ix2 i ⟨k.val, by omega⟩) = x0 (ix3 (0 : Fin 1) ⟨2816 + k.val, by omega⟩ i) := by
  unfold k0_pay249
  rw [concatenate_pair_apply_left (s₁ := S512x64) (s₂ := S512x192) (t := S512x256) 1 _ _ _ (ix2 i ⟨k.val, by omega⟩) rfl (ix2 i k) (fun b => match b with | ⟨0, _⟩ => rfl | ⟨1, _⟩ => rfl),
    slice2_axis1_apply 2816 _ _ i k ⟨2816 + k.val, by omega⟩ rfl, pay248_apply]

/-- A column from 64 on of the second product's left operand, below the adapter's 16: the adapter's first product. -/
theorem pay249_high (x0 : Vec Ideal S1x2880x512 .bf16) (x4 : Vec Ideal S16x90 .bf16) (i : Fin 512) (r : Fin 16) :
    k0_pay249 x0 (k0_pay245 : FVec Ideal S2880x128 .bf16) (AP x4) (ix2 i ⟨64 + r.val, by omega⟩)
      = Spec.inner (fun k => x0 (ix3 (0 : Fin 1) k i)) (fun y => x4 (ix2 (y 1) (y 0))) r := by
  rw [← inner_apply]
  unfold k0_pay249
  rw [concatenate_pair_apply_right (s₁ := S512x64) (s₂ := S512x192) (t := S512x256) 1 _ _ _ (ix2 i ⟨64 + r.val, by omega⟩) rfl rfl (ix2 i (⟨r.val, by omega⟩ : Fin 192))
      (fun b hb => match b, hb with | ⟨0, _⟩, _ => rfl | ⟨1, _⟩, hb => absurd rfl hb) (Nat.add_comm _ _),
    slice2_axis1_apply 0 _ _ i (⟨r.val, by omega⟩ : Fin 192) (⟨r.val, by omega⟩ : Fin 256) (Nat.zero_add _).symm, truncf_apply]

/-- One element of what a grid point writes: the problem's result on its row of activations. -/
theorem OUT_apply (x0 : Vec Ideal S1x2880x512 .bf16) (x1 : Vec Ideal S1440x5120 .i8) (x2 : Vec Ideal S90x5120 .bf16) (x3 : Vec Ideal S90x5120 .i8)
    (x4 : Vec Ideal S16x90 .bf16) (x5 : Vec Ideal S16x5120 .bf16) (i : Fin 512) (n : Fin 5120) :
    OUT x0 (WM x1 x2 x3) (WT x1 x2 x3 x5) (k0_pay245 : FVec Ideal S2880x128 .bf16) (AP x4) (ix2 i n)
      = Spec.result (fun k => x0 (ix3 (0 : Fin 1) k i)) x1 x2 x3 (fun y => x4 (ix2 (y 1) (y 0))) x5 n := by
  refine (OUT_sums x0 (WM x1 x2 x3) (WT x1 x2 x3 x5) k0_pay245 (AP x4) i n).trans ?_
  have hp : ∀ r : Fin 16, _ := pay249_high x0 x4 i
  have hq : ∀ k : Fin 64, _ := pay249_low x0 (k0_pay245 : FVec Ideal S2880x128 .bf16) (AP x4) i
  generalize k0_pay249 x0 (k0_pay245 : FVec Ideal S2880x128 .bf16) (AP x4) = u at hp hq ⊢
  rw [Fin.sum_univ_two_halves 64 192 rfl (fun k : Fin 256 => u (ix2 i k) * WT x1 x2 x3 x5 (ix2 k n)), ← add_assoc]
  unfold Spec.result
  rw [Fin.sum_univ_two_halves 2816 64 rfl (fun k : Fin 2880 => x0 (ix3 (0 : Fin 1) k i) * Spec.weight x1 x2 x3 k n)]
  refine congrArg₂ (fun s t : EReal => s + t) (congrArg₂ (fun s t : EReal => s + t) (Finset.sum_congr rfl fun k _ => ?_) (Finset.sum_congr rfl fun k _ => ?_)) ?_
  · rw [WM_apply]
  · rw [WT_top, hq]
  · rw [FinSumWindow.sum_window (W := 16) 0 (by omega)]
    · refine Finset.sum_congr rfl fun r _ => ?_
      have hr : (⟨64 + (0 + r.val), by omega⟩ : Fin 256) = ⟨64 + r.val, by omega⟩ := Fin.ext (by show 64 + (0 + r.val) = 64 + r.val; omega)
      rw [hr, WT_mid, hp]
    · intro k hk
      rw [WT_bottom x1 x2 x3 x5 _ (by show 80 ≤ 64 + k.val; omega), mul_zero]

end Cert.KernelIdeal.Value

end
-- ==== Proof.KernelRun.lean ====
module

public import proofs.«01_k».proof.Proof.FrameKI
public import proofs.«01_k».proof.Proof.Elem
public import Idealize.ShloMosaic.Lib.Pipeline.ValueKit
public import Idealize.ShloMosaic.Lib.Claim

@[expose] public section

set_option maxRecDepth 16384

noncomputable section

namespace Cert.KernelIdeal.Value

open Cert.KernelIdeal Cert.KernelIdeal.Gen
open Idealize.ShloMosaic.ValueIdx
open Idealize.ShloMosaic hiding ix2 ix3
open Idealize.ShloMosaic.TcCoe
open Idealize.SL.Sem
open Idealize.ShloMosaic.Pipeline (Dat)

variable (m : (ℓ : Loc nD τ sig) → Buf (Elt Ideal) ℓ) (ρ : Dev nD → PrngReg)

/-! ## The input blocks as elements of the arguments -/

/-- The windows' block indices at a grid point: half the point and its parity for the activations, the point for the
    result, zero for the rest. -/
theorem idx : ∀ t : Fin cfg0.N, win0_0.index t = ![t.val / 2, 0, t.val % 2] ∧ win0_1.index t = ![0, 0] ∧ win0_2.index t = ![0, 0]
    ∧ win0_3.index t = ![0, 0] ∧ win0_4.index t = ![0, 0] ∧ win0_5.index t = ![0, 0] ∧ win0_6.index t = ![t.val, 0] :=
  (by decide +kernel : ∀ t : Fin grid0.N, _)

/-- The transposed activations as the region finds them, -/
theorem V_v0 (c : Dev nD) : V m c main_v0 = transpose S24x2880x1024 [0, 2, 1] (m ((c : Thread nD τ).loc main_arg0)) transposes_S24x1024x2880_S24x2880x1024_0_2_1 := by
  rfl
/-- and the transposed first adapter factor. -/
theorem V_v1 (c : Dev nD) : V m c main_v1 = transpose S16x90 [1, 0] (m ((c : Thread nD τ).loc main_arg4)) transposes_S90x16_S16x90_1_0 := by
  rfl

/-- A block of activations: features down, 512 rows of one sequence across. -/
theorem blk0 (c : Dev nD) (t : Fin cfg0.N) (k : Fin 2880) (i : Fin 512) (b : Fin 24) (s : Fin 1024) (hb : b.val = t.val / 2) (hs : s.val = 512 * (t.val % 2) + i.val) :
    iblk m c 0 t (ix3 (0 : Fin 1) k i) = m ((c : Thread nD τ).loc main_arg0) (ix3 b s k) := by
  have e : ((cfg0.win 0).blk t).view.emb (ix3 (0 : Fin 1) k i) = (ix3 b k s : S24x2880x1024.Idx) := by
    blk_ext [idx t]
    · exact hb.symm
    · show t.val % 2 * 512 + i.val = s.val; omega
  show V m c main_v0 (((cfg0.win 0).blk t).view.emb (ix3 (0 : Fin 1) k i)) = _
  rw [V_v0, e, transpose_ix3_021_apply]
/-- The other inputs' one block is the whole array: the packed codes, -/
theorem blk1 (c : Dev nD) (t : Fin cfg0.N) : iblk m c 1 t = m ((c : Thread nD τ).loc main_arg1) := by
  funext y
  blk_ext [iblk, V, idx t]
/-- the scales, -/
theorem blk2 (c : Dev nD) (t : Fin cfg0.N) : iblk m c 2 t = m ((c : Thread nD τ).loc main_arg2) := by
  funext y
  blk_ext [iblk, V, idx t]
/-- the zero points, -/
theorem blk3 (c : Dev nD) (t : Fin cfg0.N) : iblk m c 3 t = m ((c : Thread nD τ).loc main_arg3) := by
  funext y
  blk_ext [iblk, V, idx t]
/-- the first adapter factor transposed, -/
theorem blk4 (c : Dev nD) (t : Fin cfg0.N) (r : Fin 16) (g : Fin 90) : iblk m c 4 t (ix2 r g) = m ((c : Thread nD τ).loc main_arg4) (ix2 g r) := by
  have e : ((cfg0.win 4).blk t).view.emb (ix2 r g) = (ix2 r g : S16x90.Idx) := by
    blk_ext [idx t]
  show V m c main_v1 (((cfg0.win 4).blk t).view.emb (ix2 r g)) = _
  rw [V_v1, e, transpose_ix2_apply]
/-- the second adapter factor. -/
theorem blk5 (c : Dev nD) (t : Fin cfg0.N) : iblk m c 5 t = m ((c : Thread nD τ).loc main_arg5) := by
  funext y
  blk_ext [iblk, V, idx t]

/-! ## The result array -/

/-- The result of the problem on the kernel's arguments, at a row of one sequence and a column. -/
def value (c : Dev nD) (b : Fin 24) (s : Fin 1024) (n : Fin 5120) : EReal :=
  Spec.result (fun k => m ((c : Thread nD τ).loc main_arg0) (ix3 b s k)) (m ((c : Thread nD τ).loc main_arg1)) (m ((c : Thread nD τ).loc main_arg2))
    (m ((c : Thread nD τ).loc main_arg3)) (m ((c : Thread nD τ).loc main_arg4)) (m ((c : Thread nD τ).loc main_arg5)) n

/-- What the body leaves in the result's block at a grid point. -/
theorem point (c : Dev nD) (t : Fin cfg0.N) (i : Fin 512) (n : Fin 5120) (b : Fin 24) (s : Fin 1024) (hb : b.val = t.val / 2) (hs : s.val = 512 * (t.val % 2) + i.val) :
    OUT (iblk m c 0 t) (WMs m c) (WTs m c) (k0_pay245 : FVec Ideal S2880x128 .bf16) (APs m c) (ix2 i n) = value m c b s n := by
  unfold WMs WTs APs value
  rw [blk1, blk2, blk3, blk5]
  refine (OUT_apply (iblk m c 0 t) _ _ _ (iblk m c 4 p0) _ i n).trans ?_
  have e0 : (fun k : Fin 2880 => iblk m c 0 t (ix3 (0 : Fin 1) k i)) = fun k => m ((c : Thread nD τ).loc main_arg0) (ix3 b s k) :=
    funext fun k => blk0 m c t k i b s hb hs
  have e4 : (fun y : S90x16.Idx => iblk m c 4 p0 (ix2 (y 1) (y 0))) = m ((c : Thread nD τ).loc main_arg4) :=
    funext fun y => (blk4 m c p0 (y 1) (y 0)).trans (congrArg _ (by funext a; match a with | ⟨0, _⟩ => rfl | ⟨1, _⟩ => rfl))
  rw [e0]
  exact congrArg (fun z => Spec.result _ _ _ _ z _ n) e4

/-- The rows of the 24 sequences one after another. -/
def flat (c : Dev nD) : FVec Ideal S24576x5120 .bf16 := fun y =>
  value m c ⟨(y 0).val / 1024, by have : (y 0).val < 24576 := (y 0).isLt; omega⟩ ⟨(y 0).val % 1024, by omega⟩ (y 1)

/-- The region's result array after the run. -/
theorem final (c : Dev nD) : (dats m 0 c).arrAt 6 cfg0.N = flat m c := by
  refine (dats m 0 c).arrAt_eq_of_covers 6 _ (by decide +kernel) fun t _ y => ?_
  have ht : t.val < 48 := t.isLt
  have hy : (y 0).val < 512 := (y 0).isLt
  have h0 : (((cfg0.win 6).blk t).view.emb y 0).val = t.val * 512 + (y 0).val := by blk_simp [idx t]
  have h1 : (((cfg0.win 6).blk t).view.emb y 1).val = (y 1).val := by blk_simp [idx t]
  blk_simp
  rw [after0_6]
  generalize ((cfg0.win 6).blk t).view.emb y = z at h0 h1 ⊢
  have hz : (z 1 : Fin 5120) = (y 1 : Fin 5120) := Fin.ext h1
  have e : y = ix2 (y 0 : Fin 512) (y 1 : Fin 5120) := by funext a; match a with | ⟨0, _⟩ => rfl | ⟨1, _⟩ => rfl
  unfold flat
  rw [hz]
  refine (congrArg _ e).trans (point m c t (y 0) (y 1) _ _ ?_ ?_)
  · show (z 0).val / 1024 = t.val / 2; omega
  · show (z 0).val % 1024 = 512 * (t.val % 2) + (y 0).val; omega

/-- The program's result after the run: the problem's result at every element. -/
def out (c : Dev nD) : FVec Ideal S24x1024x5120 .bf16 := fun j => value m c (j 0) (j 1) (j 2)

/-- The lines after the region turn the region's array into the program's result. -/
theorem W_main_v3 (c : Dev nD) : Pipeline.afterTail₀ cfgs (dats m) 0 (V0 m) [hostOps1] c main_v3 = out m c := by
  unfold Pipeline.afterTail₀
  have h : Pipeline.withArrays (cfgs 0).spec c (V0 m c) (fun w => (dats m 0 c).arrAt w (cfgs 0).N) (Proc.devRef .tc main_v2) = flat m c :=
    (Pipeline.withArrays_arr (cfgs 0).spec (by decide) c (V0 m c) (fun w => (dats m 0 c).arrAt w (cfgs 0).N) 6).trans (final m c)
  generalize Pipeline.withArrays (cfgs 0).spec c (V0 m c) (fun w => (dats m 0 c).arrAt w (cfgs 0).N) = σ at h ⊢
  have e : StableHlo.after [hostOps1].flatten σ (Proc.devRef .tc main_v3)
      = shapeCast S24x1024x5120 (σ (Proc.devRef .tc main_v2)) shapeCasts_S24576x5120_S24x1024x5120 := by
    rfl
  rw [e, h]
  funext j
  have h0 : (j 0).val < 24 := (j 0).isLt
  have h1 : (j 1).val < 1024 := (j 1).isLt
  refine (shapeCast_apply (flat m c) shapeCasts_S24576x5120_S24x1024x5120 j (ix2 (⟨(j 0).val * 1024 + (j 1).val, by omega⟩ : Fin 24576) (j 2 : Fin 5120)) (by
    rw [Shape.rowMajor_val_two, Shape.rowMajor_val_three]; rfl)).trans ?_
  show value m c ⟨((j 0).val * 1024 + (j 1).val) / 1024, _⟩ ⟨((j 0).val * 1024 + (j 1).val) % 1024, _⟩ (j 2) = value m c (j 0) (j 1) (j 2)
  have e0 : (⟨((j 0).val * 1024 + (j 1).val) / 1024, by omega⟩ : Fin 24) = j 0 := Fin.ext (by show ((j 0).val * 1024 + (j 1).val) / 1024 = (j 0).val; omega)
  have e1 : (⟨((j 0).val * 1024 + (j 1).val) % 1024, by omega⟩ : Fin 1024) = j 1 := Fin.ext (by show ((j 0).val * 1024 + (j 1).val) % 1024 = (j 1).val; omega)
  rw [e0, e1]

/-- Every execution of the kernel's ideal program terminates with the problem's result in its result and its arguments unchanged. -/
theorem run_out : θ_run defs (onTc (τ := τ) (main (F := Ideal))) ⟨m, fun _ => 0, ρ⟩ (fun r => ∀ c : Dev nD,
      r.2.mem ((c.tc : Thread nD τ).loc main_v3) = out m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h.1.rest_eq c main_v3 (by decide)).trans (W_main_v3 m c), h.2 c⟩)
    (θ_run_and (run_main m ρ) (unchanged m ρ))

end Cert.KernelIdeal.Value

end
-- ==== Proof.RefElem.lean ====
module

public import proofs.«01_k».proof.Proof.Gen.ReferenceIdeal.Run
public import proofs.«01_k».proof.Proof.Spec
public import Idealize.ShloMosaic.Lib.ValueIdx
public import Idealize.ShloMosaic.Lib.ValueLayout
public import Idealize.ShloMosaic.Lib.Pipeline.Value
public import Idealize.ShloMosaic.Lib.IdealHost
public import Idealize.ShloMosaic.PureOps.Ideal.Laws

@[expose] public section

set_option maxRecDepth 16384

noncomputable section

namespace Cert.ReferenceIdeal.Value

open Cert.ReferenceIdeal Cert.ReferenceIdeal.Gen
open Idealize.ShloMosaic Idealize.ShloMosaic.ValueIdx
open scoped BigOperators

/-! ## The product of a stack of matrices with one matrix -/

/-- The dimension numbers of `[B, M, K] × [K, N]`: last axis against first. -/
def stacked (B M K N : ℕ) : DotDims ⟨3, ![B, M, K]⟩ ⟨2, ![K, N]⟩ ⟨3, ![B, M, N]⟩ where
  lhsContracting := [2]
  rhsContracting := [0]
  lhsNonContracting := [0, 1]
  rhsNonContracting := [1]
  lhsBatch := []
  rhsBatch := []
  wf := ⟨rfl, by simp, rfl, by simp, by simp, by simp, by simpa [List.finRange] using (List.Perm.refl _),
    by simpa [List.finRange] using List.Perm.swap 0 1 [], rfl, Nat.succ_pos 2, fun b => by fin_cases b <;> rfl⟩

/-- Its contraction index has one coordinate … -/
theorem stacked_rank (B M K N : ℕ) : (stacked B M K N).contr.rank = 1 := rfl
/-- … over the `K` contracted positions. -/
theorem stacked_size (B M K N : ℕ) : (stacked B M K N).contr.size ⟨0, by rw [stacked_rank]; exact Nat.one_pos⟩ = K := rfl

/-- An element of the product of a stack of matrices with one matrix: the sum over the contracted axis. -/
theorem stacked_apply {B M K N : ℕ} {φ₁ φ₂ : FTy} (lhs : FVec Ideal ⟨3, ![B, M, K]⟩ φ₁) (rhs : FVec Ideal ⟨2, ![K, N]⟩ φ₂)
    (b : Fin B) (r : Fin M) (c : Fin N) :
    Host.dotGeneral (stacked B M K N) none lhs rhs (ix3 b r c) = ∑ k : Fin K, lhs (ix3 b r k) * rhs (ix2 k c) := by
  rw [Host.dotGeneral, Ideal.dotGeneral_apply, ← Equiv.sum_comp (contrEquiv1 _ K (stacked_rank B M K N) (stacked_size B M K N)).symm]
  refine Finset.sum_congr rfl fun k _ => ?_
  have hk := contrEquiv1_symm_val _ K (stacked_rank B M K N) (stacked_size B M K N) k
  have el : (stacked B M K N).lhsIdx (ix3 b r c) ((contrEquiv1 _ K (stacked_rank B M K N) (stacked_size B M K N)).symm k) = ix3 b r k := by
    funext a; apply Fin.ext
    match a with
    | ⟨0, _⟩ => rfl
    | ⟨1, _⟩ => rfl
    | ⟨2, _⟩ => exact hk
  have er : (stacked B M K N).rhsIdx (ix3 b r c) ((contrEquiv1 _ K (stacked_rank B M K N) (stacked_size B M K N)).symm k) = ix2 k c := by
    funext a; apply Fin.ext
    match a with
    | ⟨0, _⟩ => exact hk
    | ⟨1, _⟩ => rfl
  rw [el, er]

/-- The reference's three products have these dimension numbers: the activations times the weight, -/
theorem dot1 : (dot_S24x1024x2880_S2880x5120_S24x1024x5120_2_0_01_1_n_n : DotDims _ _ _) = stacked 24 1024 2880 5120 := rfl
/-- the means times the first adapter factor, -/
theorem dot2 : (dot_S24x1024x90_S90x16_S24x1024x16_2_0_01_1_n_n : DotDims _ _ _) = stacked 24 1024 90 16 := rfl
/-- and the inner vector times the second. -/
theorem dot3 : (dot_S24x1024x16_S16x5120_S24x1024x5120_2_0_01_1_n_n : DotDims _ _ _) = stacked 24 1024 16 5120 := rfl

/-! ## The dequantized weight -/

/-- The low four bits of a byte, taken in a 32-bit word. -/
theorem low_nibble (b : BitVec 8) : (IntOp.andi (b.setWidth 32) 15#32).toNat = b.toNat % 16 := by
  revert b; decide +kernel

/-- The high four bits of a byte, shifted down in a 32-bit word. -/
theorem high_nibble (b : BitVec 8) : (IntOp.shrui .host (b.setWidth 32) 4#32).toNat = b.toNat / 16 := by
  revert b; decide +kernel

/-- A byte keeps its value in a 32-bit word. -/
theorem byte_word (b : BitVec 8) : (b.setWidth 32).toNat = b.toNat := by
  revert b; decide +kernel

/-- The reference's unpacked codes: the low and the high nibbles interleaved along a new middle axis. -/
def codes (x1 : IVec S1440x5120 8) : IVec S1440x2x5120 32 :=
  concatenate S1440x2x5120 1 [⟨S1440x1x5120, (broadcastInDim S1440x1x5120 ![0, 2] bcast_S1440x5120_S1440x1x5120_0_2 (andi (extui 32 x1 natLt_8_32) (broadcastInDim S1440x5120 ![] bcast_S_S1440x5120 (constantI S_ 32 15#32))))⟩, ⟨S1440x1x5120, (broadcastInDim S1440x1x5120 ![0, 2] bcast_S1440x5120_S1440x1x5120_0_2 (Host.shrui (extui 32 x1 natLt_8_32) (broadcastInDim S1440x5120 ![] bcast_S_S1440x5120 (constantI S_ 32 4#32))))⟩] concatenates_S1440x1x5120_S1440x1x5120_S1440x2x5120_d1

/-- One unpacked code: the nibble of the row's parity. -/
theorem codes_apply (x1 : IVec S1440x5120 8) (k : Fin 2880) (n : Fin 5120) :
    (codes x1 (ix3 (⟨k.val / 2, by omega⟩ : Fin 1440) (⟨k.val % 2, by omega⟩ : Fin 2) n)).toNat = Spec.code x1 k n := by
  have hb : ∀ (v : IVec S1440x5120 32) (p : Fin 1440), broadcastInDim S1440x1x5120 ![0, 2] bcast_S1440x5120_S1440x1x5120_0_2 v (ix3 p (0 : Fin 1) n) = v (ix2 p n) :=
    fun v p => broadcastInDim_apply _ _ _ _ _ (fun a => match a with | ⟨0, _⟩ => rfl | ⟨1, _⟩ => rfl)
  unfold codes Spec.code
  rcases Nat.mod_two_eq_zero_or_one k.val with h | h
  · rw [if_pos h, concatenate_pair_apply_left (s₁ := S1440x1x5120) (s₂ := S1440x1x5120) (t := S1440x2x5120) 1 _ _ _ (ix3 (⟨k.val / 2, by omega⟩ : Fin 1440) (⟨k.val % 2, by omega⟩ : Fin 2) n) rfl
      (ix3 (⟨k.val / 2, by omega⟩ : Fin 1440) (0 : Fin 1) n) (fun b => match b with | ⟨0, _⟩ => rfl | ⟨1, _⟩ => h.symm | ⟨2, _⟩ => rfl), hb]
    exact low_nibble _
  · rw [if_neg (by omega), concatenate_pair_apply_right (s₁ := S1440x1x5120) (s₂ := S1440x1x5120) (t := S1440x2x5120) 1 _ _ _ (ix3 (⟨k.val / 2, by omega⟩ : Fin 1440) (⟨k.val % 2, by omega⟩ : Fin 2) n) rfl rfl
      (ix3 (⟨k.val / 2, by omega⟩ : Fin 1440) (0 : Fin 1) n) (fun b hb => match b, hb with | ⟨0, _⟩, _ => rfl | ⟨1, _⟩, hb => absurd rfl hb | ⟨2, _⟩, _ => rfl) h.symm, hb]
    exact high_nibble _

/-- The reference's dequantized weight. -/
def weights (x1 : IVec S1440x5120 8) (x2 : FVec Ideal S90x5120 .bf16) (x3 : IVec S90x5120 8) : FVec Ideal S2880x5120 .bf16 :=
  shapeCast _ (mulf (subf (shapeCast _ (uitofp .bf16 (codes x1)) shapeCasts_S1440x2x5120_S90x32x5120) (broadcastInDim S90x32x5120 ![0, 1, 2] bcast_S90x1x5120_S90x32x5120_0_1_2 (broadcastInDim S90x1x5120 ![0, 2] bcast_S90x5120_S90x1x5120_0_2 (uitofp .bf16 (extui 32 x3 natLt_8_32))))) (broadcastInDim S90x32x5120 ![0, 1, 2] bcast_S90x1x5120_S90x32x5120_0_1_2 (broadcastInDim S90x1x5120 ![0, 2] bcast_S90x5120_S90x1x5120_0_2 x2))) shapeCasts_S90x32x5120_S2880x5120

/-- One element of it is the problem's weight. -/
theorem weights_apply (x1 : IVec S1440x5120 8) (x2 : FVec Ideal S90x5120 .bf16) (x3 : IVec S90x5120 8) (k : Fin 2880) (n : Fin 5120) :
    weights x1 x2 x3 (ix2 k n) = Spec.weight x1 x2 x3 k n := by
  have hb : ∀ (v : FVec Ideal S90x5120 .bf16) (g : Fin 90) (r : Fin 32), broadcastInDim S90x32x5120 ![0, 1, 2] bcast_S90x1x5120_S90x32x5120_0_1_2
      (broadcastInDim S90x1x5120 ![0, 2] bcast_S90x5120_S90x1x5120_0_2 v) (ix3 g r n) = v (ix2 g n) := fun v g r =>
    (broadcastInDim_apply _ _ _ _ (ix3 g (0 : Fin 1) n) (fun a => match a with | ⟨0, _⟩ => rfl | ⟨1, _⟩ => rfl | ⟨2, _⟩ => rfl)).trans
      (broadcastInDim_apply _ _ _ _ (ix2 g n) (fun a => match a with | ⟨0, _⟩ => rfl | ⟨1, _⟩ => rfl))
  unfold weights
  rw [shapeCast_apply _ _ (ix2 k n) (ix3 (⟨k.val / 32, by omega⟩ : Fin 90) (⟨k.val % 32, by omega⟩ : Fin 32) n) (by
      rw [Shape.rowMajor_val_three, Shape.rowMajor_val_two]
      show (k.val / 32 * 32 + k.val % 32) * 5120 + n.val = k.val * 5120 + n.val; omega),
    mulf_apply, subf_apply, hb, hb,
    shapeCast_apply _ _ (ix3 (⟨k.val / 32, by omega⟩ : Fin 90) (⟨k.val % 32, by omega⟩ : Fin 32) n) (ix3 (⟨k.val / 2, by omega⟩ : Fin 1440) (⟨k.val % 2, by omega⟩ : Fin 2) n) (by
      rw [Shape.rowMajor_val_three, Shape.rowMajor_val_three]
      show (k.val / 2 * 2 + k.val % 2) * 5120 + n.val = (k.val / 32 * 32 + k.val % 32) * 5120 + n.val; omega)]
  unfold Spec.weight
  rw [← codes_apply, ← byte_word (x3 _)]
  rfl

/-! ## The low-rank branch and the result -/

/-- The reference's group means. -/
def means (x0 : FVec Ideal S24x1024x2880 .bf16) : FVec Ideal S24x1024x90 .f32 :=
  mulf (Host.reduceAdd (shapeCast _ (extf .f32 x0 bitsLt_bf16_f32) shapeCasts_S24x1024x2880_S24x1024x90x32) (constant S_ .f32 0x00000000#32) reducesTo_S24x1024x90x32_S24x1024x90_d3 h_S_) (broadcastInDim S24x1024x90 ![] bcast_S_S24x1024x90 (constant S_ .f32 0x3D000000#32))

/-- One element of them is the problem's mean of the group. -/
theorem means_apply (x0 : FVec Ideal S24x1024x2880 .bf16) (b : Fin 24) (s : Fin 1024) (g : Fin 90) :
    means x0 (ix3 b s g) = Spec.mean (fun k => x0 (ix3 b s k)) g := by
  have h : S24x1024x90x32.Reduces [3] S24x1024x90 := by decide
  unfold means
  rw [mulf_apply, hostReduceAdd_apply, Ideal.hostReduceAdd_single _ h, constant_apply, Ideal.ofBits_zero_f32, zero_add, broadcastInDim_scalar_apply, constant_apply]
  unfold Spec.mean
  refine congrArg (fun t : EReal => t * _) (Finset.sum_congr rfl fun i _ => ?_)
  rw [shapeCast_apply _ _ _ (ix3 b s (⟨32 * g.val + i.val, by have : i.val < 32 := i.isLt; omega⟩ : Fin 2880)) (by
      rw [Shape.rowMajor_val_three, Shape.rowMajor_val_four]
      show (b.val * 1024 + s.val) * 2880 + (32 * g.val + i.val) = ((b.val * 1024 + s.val) * 90 + g.val) * 32 + i.val; omega),
    extf_apply]

/-- The reference's result. -/
def results (x0 : FVec Ideal S24x1024x2880 .bf16) (x1 : IVec S1440x5120 8) (x2 : FVec Ideal S90x5120 .bf16) (x3 : IVec S90x5120 8)
    (x4 : FVec Ideal S90x16 .bf16) (x5 : FVec Ideal S16x5120 .bf16) : FVec Ideal S24x1024x5120 .bf16 :=
  truncf .bf16 (addf (Host.dotGeneral dot_S24x1024x2880_S2880x5120_S24x1024x5120_2_0_01_1_n_n none x0 (weights x1 x2 x3)) (Host.dotGeneral dot_S24x1024x16_S16x5120_S24x1024x5120_2_0_01_1_n_n none (truncf .bf16 (mulf (Host.dotGeneral dot_S24x1024x90_S90x16_S24x1024x16_2_0_01_1_n_n none (truncf .bf16 (means x0) bitsLt_bf16_f32) x4) (broadcastInDim S24x1024x16 ![] bcast_S_S24x1024x16 (constant S_ .f32 0x3F800000#32))) bitsLt_bf16_f32) x5)) bitsLt_bf16_f32

/-- One element of it is the problem's result. -/
theorem results_apply (x0 : FVec Ideal S24x1024x2880 .bf16) (x1 : IVec S1440x5120 8) (x2 : FVec Ideal S90x5120 .bf16) (x3 : IVec S90x5120 8)
    (x4 : FVec Ideal S90x16 .bf16) (x5 : FVec Ideal S16x5120 .bf16) (b : Fin 24) (s : Fin 1024) (n : Fin 5120) :
    results x0 x1 x2 x3 x4 x5 (ix3 b s n) = Spec.result (fun k => x0 (ix3 b s k)) x1 x2 x3 x4 x5 n := by
  unfold results
  rw [truncf_apply, addf_apply, dot1, dot2, dot3]
  refine (congrArg₂ (fun u v : EReal => u + v) (stacked_apply x0 (weights x1 x2 x3) b s n) (stacked_apply _ x5 b s n)).trans ?_
  unfold Spec.result
  refine congrArg₂ (fun u v : EReal => u + v) (Finset.sum_congr rfl fun k _ => ?_) (Finset.sum_congr rfl fun r _ => ?_)
  · rw [weights_apply]
  · refine congrArg (fun t : EReal => t * _) ?_
    rw [truncf_apply, mulf_apply, broadcastInDim_scalar_apply, constant_apply, Ideal.ofBits_one_f32, mul_one]
    refine (stacked_apply _ x4 b s r).trans ?_
    unfold Spec.inner
    refine Finset.sum_congr rfl fun g _ => ?_
    rw [truncf_apply, means_apply]

/-- Every execution of the reference terminates with `results` of the arguments in its result. -/
theorem run_results (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v32) = results (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  run m ρ

end Cert.ReferenceIdeal.Value

end
-- ==== Proof.Bits.Weights.lean ====
module

public import proofs.«01_k».proof.Proof.Gen.Kernel.Loops
public import Idealize.ShloMosaic.Lib.Pipeline.ReadBack
public import Idealize.ShloMosaic.Lib.ValueIdxCore

@[expose] public section

set_option maxRecDepth 16384

noncomputable section

namespace Cert.Kernel.Value

open Cert.Kernel Cert.Kernel.Gen
open Idealize.ShloMosaic.ValueIdx
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## The two weight buffers as functions of the operands -/

/-- The dequantized weight tile of group `g` in column chunk `c`: the kernel's own tile expression on
    the group's sixteen rows of packed codes and on its row of zero points and of scales. -/
def deq (x1 : Vec F S1440x5120 .i8) (x2 : Vec F S90x5120 .bf16) (x3 : Vec F S90x5120 .i8) (g : Fin 90) (c : Fin 10) :
    Vec F S32x512 .bf16 :=
  k0_pay3 (fun z : S16x512.Idx => x1 (ix2 ⟨16 * g.val + (z 0).val, by have := idx2_lt0 z; omega⟩ ⟨512 * c.val + (z 1).val, by have := idx2_lt1 z; omega⟩))
    (fun z : S1x512.Idx => x3 (ix2 g ⟨512 * c.val + (z 1).val, by have := idx2_lt1 z; omega⟩))
    (fun z : S1x512.Idx => x2 (ix2 g ⟨512 * c.val + (z 1).val, by have := idx2_lt1 z; omega⟩))

/-- The column chunk of a column. -/
def chunk (y : Fin 5120) : Fin 10 := ⟨y.val / 512, by omega⟩
/-- The column inside its chunk. -/
def inChunk (y : Fin 5120) : Fin 512 := ⟨y.val % 512, by omega⟩

/-- The first weight buffer after the loop: the tiles of groups 0 to 87. -/
def WM (x1 : Vec F S1440x5120 .i8) (x2 : Vec F S90x5120 .bf16) (x3 : Vec F S90x5120 .i8) : Vec F S2816x5120 .bf16 :=
  fun y => deq x1 x2 x3 ⟨(y 0).val / 32, by have := idx2_lt0 y; omega⟩ (chunk (y 1)) (ix2 ⟨(y 0).val % 32, by omega⟩ (inChunk (y 1)))

/-- The tail weight buffer after the loop: the tiles of groups 88 and 89, then the second adapter factor, then zeros. -/
def WT (x1 : Vec F S1440x5120 .i8) (x2 : Vec F S90x5120 .bf16) (x3 : Vec F S90x5120 .i8) (x5 : Vec F S16x5120 .bf16) :
    Vec F S256x5120 .bf16 :=
  fun y =>
    if h : (y 0).val < 64 then
      deq x1 x2 x3 ⟨88 + (y 0).val / 32, by omega⟩ (chunk (y 1)) (ix2 ⟨(y 0).val % 32, by omega⟩ (inChunk (y 1)))
    else if h2 : (y 0).val < 80 then
      k0_pay243 (fun z : S16x512.Idx => x5 (ix2 (z 0) ⟨512 * (chunk (y 1)).val + (z 1).val, by have := idx2_lt1 z; omega⟩))
        (ix2 ⟨(y 0).val - 64, by omega⟩ (inChunk (y 1)))
    else k0_pay244 (ix2 ⟨(y 0).val - 80, by have := idx2_lt0 y; omega⟩ (inChunk (y 1)))

/-! ## Lists of stores that fill one column chunk from the bottom row up -/

/-- The stores of the list are blocks of `G` and together hold the rows below `n` of column chunk `c`. -/
def Fills {N : ℕ} (G : (⟨2, ![N, 5120]⟩ : Shape).Idx → Elt F .bf16) (c : ℕ) : ℕ → List (View.Piece (Elt F) (⟨2, ![N, 5120]⟩ : Shape) .bf16) → Prop
  | n, [] => n = 0
  | n, p :: L => ∃ n', (∀ x : p.1.shape.Idx, p.2 x = G (p.1.emb x))
      ∧ (∀ y : (⟨2, ![N, 5120]⟩ : Shape).Idx, n' ≤ (y 0).val → (y 0).val < n → 512 * c ≤ (y 1).val → (y 1).val < 512 * c + 512 → y ∈ p.1.set)
      ∧ Fills G c n' L

theorem Fills.mem {N : ℕ} {G : (⟨2, ![N, 5120]⟩ : Shape).Idx → Elt F .bf16} {c : ℕ} :
    ∀ {n : ℕ} {L : List (View.Piece (Elt F) (⟨2, ![N, 5120]⟩ : Shape) .bf16)}, Fills G c n L →
      ∀ p ∈ L, ∀ x : p.1.shape.Idx, p.2 x = G (p.1.emb x)
  | _, [], _, _, hp, _ => absurd hp List.not_mem_nil
  | _, _ :: _, ⟨_, h, _, h'⟩, p, hp, x => by
    rcases List.mem_cons.mp hp with rfl | hp
    · exact h x
    · exact h'.mem p hp x

theorem Fills.cover {N : ℕ} {G : (⟨2, ![N, 5120]⟩ : Shape).Idx → Elt F .bf16} {c : ℕ} :
    ∀ {n : ℕ} {L : List (View.Piece (Elt F) (⟨2, ![N, 5120]⟩ : Shape) .bf16)}, Fills G c n L →
      ∀ y : (⟨2, ![N, 5120]⟩ : Shape).Idx, (y 0).val < n → 512 * c ≤ (y 1).val → (y 1).val < 512 * c + 512 → ∃ p ∈ L, y ∈ p.1.set
  | n, [], h, y, hy, _, _ => by have : n = 0 := h; omega
  | _, p :: L, ⟨n', _, hc, h'⟩, y, hy, h1, h2 => by
    by_cases h : n' ≤ (y 0).val
    · exact ⟨p, List.mem_cons_self, hc y h hy h1 h2⟩
    · obtain ⟨q, hq, hy'⟩ := h'.cover y (by omega) h1 h2
      exact ⟨q, List.mem_cons_of_mem _ hq, hy'⟩

/-- One more store in front: a rectangle of `R` rows from `n'` in the chunk, whose payload is a block of `G`. -/
theorem Fills.cons {N R : ℕ} {G : (⟨2, ![N, 5120]⟩ : Shape).Idx → Elt F .bf16} {c n n' : ℕ}
    {L : List (View.Piece (Elt F) (⟨2, ![N, 5120]⟩ : Shape) .bf16)} {off : Fin 2 → ℕ}
    {inb : ∀ a, off a + (![R, 512] : Fin 2 → ℕ) a ≤ (⟨2, ![N, 5120]⟩ : Shape).size a}
    {P : (⟨2, ![R, 512]⟩ : Shape).Idx → Elt F .bf16}
    (hoff : off = ![n', 512 * c]) (hn : n' + R = n)
    (hP : ∀ (z : (⟨2, ![R, 512]⟩ : Shape).Idx) (y : (⟨2, ![N, 5120]⟩ : Shape).Idx), (y 0).val = n' + (z 0).val → (y 1).val = 512 * c + (z 1).val → P z = G y)
    (hL : Fills G c n' L) : Fills G c n (⟨Rect.unit (s := ⟨2, ![N, 5120]⟩) off ![R, 512] inb, P⟩ :: L) := by
  subst hoff
  refine ⟨n', fun x => hP x _ ?_ ?_, fun y h0 h1 h2 h3 => ?_, hL⟩
  · show n' + 1 * (x 0).val = n' + (x 0).val; omega
  · show 512 * c + 1 * (x 1).val = 512 * c + (x 1).val; omega
  · have h4 : (y 0).val < n' + R := by omega
    exact (Rect.mem_set_unit (inb := inb)).mpr (Fin.forall_fin_two.mpr ⟨⟨h0, h4⟩, ⟨h2, h3⟩⟩)

/-- A load of `R` rows from row `r` of column chunk `c`, read at an index. -/
theorem load_eq {N R : ℕ} {e : EltTy} (v : View sig .tc .vmem (⟨2, ![N, 5120]⟩ : Shape) e) (f : v.ty.Contents (Elt F)) {off : Fin 2 → ℕ}
    {inb : ∀ a, off a + (![R, 512] : Fin 2 → ℕ) a ≤ (⟨2, ![N, 5120]⟩ : Shape).size a} {r c : ℕ} (hoff : off = ![r, 512 * c])
    (hr : r + R ≤ N) (hc : c < 10) (z : (⟨2, ![R, 512]⟩ : Shape).Idx) :
    v.readAt (Elt F) (Rect.unit (s := ⟨2, ![N, 5120]⟩) off ![R, 512] inb).toLoadRect f z
      = v.read (Elt F) f (ix2 ⟨r + (z 0).val, by have := idx2_lt0 z; omega⟩ ⟨512 * c + (z 1).val, by have := idx2_lt1 z; omega⟩) := by
  subst hoff
  rw [View.readAt_apply]
  congr 1
  funext a
  match a with
  | ⟨0, _⟩ => exact Fin.ext (show r + 1 * (z 0).val = r + (z 0).val by omega)
  | ⟨1, _⟩ => exact Fin.ext (show 512 * c + 1 * (z 1).val = 512 * c + (z 1).val by omega)

/-- The kernel's tile expression on the loads of group `g` in chunk `c` is the group's tile. -/
theorem tile_eq (v2 : View sig .tc .vmem S1440x5120 .i8) (v3 : View sig .tc .vmem S90x5120 .bf16) (v4 : View sig .tc .vmem S90x5120 .i8)
    (X2 : v2.ty.Contents (Elt F)) (X3 : v3.ty.Contents (Elt F)) (X4 : v4.ty.Contents (Elt F)) {off2 off3 off4 : Fin 2 → ℕ}
    {inb2 : ∀ a, off2 a + (![16, 512] : Fin 2 → ℕ) a ≤ S1440x5120.size a} {inb3 : ∀ a, off3 a + (![1, 512] : Fin 2 → ℕ) a ≤ S90x5120.size a}
    {inb4 : ∀ a, off4 a + (![1, 512] : Fin 2 → ℕ) a ≤ S90x5120.size a} {g c : ℕ}
    (h2 : off2 = ![16 * g, 512 * c]) (h3 : off3 = ![g, 512 * c]) (h4 : off4 = ![g, 512 * c]) (hg : g < 90) (hc : c < 10) :
    k0_pay3 (v2.readAt (Elt F) (Rect.unit (s := S1440x5120) off2 ![16, 512] inb2).toLoadRect X2)
        (v4.readAt (Elt F) (Rect.unit (s := S90x5120) off4 ![1, 512] inb4).toLoadRect X4)
        (v3.readAt (Elt F) (Rect.unit (s := S90x5120) off3 ![1, 512] inb3).toLoadRect X3)
      = deq (v2.read (Elt F) X2) (v3.read (Elt F) X3) (v4.read (Elt F) X4) ⟨g, hg⟩ ⟨c, hc⟩ := by
  have e2 := funext fun z : S16x512.Idx => load_eq (inb := inb2) v2 X2 h2 (by omega) hc z
  have e3 := funext fun z : S1x512.Idx => load_eq (inb := inb3) v3 X3 h3 (by omega) hc z
  have e4 := funext fun z : S1x512.Idx => load_eq (inb := inb4) v4 X4 h4 (by omega) hc z
  unfold deq
  refine congr (congr (congrArg k0_pay3 (e2.trans rfl)) (e4.trans ?_)) (e3.trans ?_)
  all_goals
    funext z
    have hz : (z 0).val = 0 := by have := idx2_lt0 z; omega
    congr 1
    funext a
    match a with
    | ⟨0, _⟩ => exact Fin.ext (show g + (z 0).val = g by omega)
    | ⟨1, _⟩ => rfl

/-- A store of group `g`'s tile into the first weight buffer, in front of the stores of the groups before. -/
theorem Fills.consW (v2 : View sig .tc .vmem S1440x5120 .i8) (v3 : View sig .tc .vmem S90x5120 .bf16) (v4 : View sig .tc .vmem S90x5120 .i8)
    (X2 : v2.ty.Contents (Elt F)) (X3 : v3.ty.Contents (Elt F)) (X4 : v4.ty.Contents (Elt F)) {off2 off3 off4 off8 : Fin 2 → ℕ}
    {inb2 : ∀ a, off2 a + (![16, 512] : Fin 2 → ℕ) a ≤ S1440x5120.size a} {inb3 : ∀ a, off3 a + (![1, 512] : Fin 2 → ℕ) a ≤ S90x5120.size a}
    {inb4 : ∀ a, off4 a + (![1, 512] : Fin 2 → ℕ) a ≤ S90x5120.size a} {g c n n' : ℕ}
    {inb8 : ∀ a, off8 a + (![32, 512] : Fin 2 → ℕ) a ≤ S2816x5120.size a} {P : S32x512.Idx → Elt F .bf16}
    {L : List (View.Piece (Elt F) S2816x5120 .bf16)}
    (hP : P = k0_pay3 (v2.readAt (Elt F) (Rect.unit (s := S1440x5120) off2 ![16, 512] inb2).toLoadRect X2)
        (v4.readAt (Elt F) (Rect.unit (s := S90x5120) off4 ![1, 512] inb4).toLoadRect X4)
        (v3.readAt (Elt F) (Rect.unit (s := S90x5120) off3 ![1, 512] inb3).toLoadRect X3))
    (h8 : off8 = ![n', 512 * c]) (h3 : off3 = ![g, 512 * c]) (h4 : off4 = ![g, 512 * c]) (h2 : off2 = ![16 * g, 512 * c])
    (hn : n' + 32 = n) (hg' : n' = 32 * g) (hg : g < 88) (hc : c < 10)
    (hL : Fills (WM (v2.read (Elt F) X2) (v3.read (Elt F) X3) (v4.read (Elt F) X4)) c n' L) :
    Fills (WM (v2.read (Elt F) X2) (v3.read (Elt F) X3) (v4.read (Elt F) X4)) c n (⟨Rect.unit (s := S2816x5120) off8 ![32, 512] inb8, P⟩ :: L) := by
  refine Fills.cons h8 hn (fun z y h0 h1 => ?_) hL
  rw [hP, tile_eq v2 v3 v4 X2 X3 X4 h2 h3 h4 (by omega) hc]
  have z0 := idx2_lt0 z
  have z1 := idx2_lt1 z
  have eg : (⟨g, by omega⟩ : Fin 90) = ⟨(y 0).val / 32, by have := idx2_lt0 y; omega⟩ := Fin.ext (by show g = (y 0).val / 32; omega)
  have ec : (⟨c, hc⟩ : Fin 10) = chunk (y 1) := Fin.ext (by show c = (y 1).val / 512; omega)
  unfold WM
  rw [← eg, ← ec]
  congr 1
  funext a
  match a with
  | ⟨0, _⟩ => exact Fin.ext (show (z 0).val = (y 0).val % 32 by omega)
  | ⟨1, _⟩ => exact Fin.ext (show (z 1).val = (y 1).val % 512 by omega)

/-- A store of group `88 + n' / 32`'s tile into the tail weight buffer. -/
theorem Fills.consT (v2 : View sig .tc .vmem S1440x5120 .i8) (v3 : View sig .tc .vmem S90x5120 .bf16) (v4 : View sig .tc .vmem S90x5120 .i8)
    (X2 : v2.ty.Contents (Elt F)) (X3 : v3.ty.Contents (Elt F)) (X4 : v4.ty.Contents (Elt F)) (x5 : Vec F S16x5120 .bf16) {off2 off3 off4 off8 : Fin 2 → ℕ}
    {inb2 : ∀ a, off2 a + (![16, 512] : Fin 2 → ℕ) a ≤ S1440x5120.size a} {inb3 : ∀ a, off3 a + (![1, 512] : Fin 2 → ℕ) a ≤ S90x5120.size a}
    {inb4 : ∀ a, off4 a + (![1, 512] : Fin 2 → ℕ) a ≤ S90x5120.size a} {g c n n' : ℕ}
    {inb8 : ∀ a, off8 a + (![32, 512] : Fin 2 → ℕ) a ≤ S256x5120.size a} {P : S32x512.Idx → Elt F .bf16}
    {L : List (View.Piece (Elt F) S256x5120 .bf16)}
    (hP : P = k0_pay3 (v2.readAt (Elt F) (Rect.unit (s := S1440x5120) off2 ![16, 512] inb2).toLoadRect X2)
        (v4.readAt (Elt F) (Rect.unit (s := S90x5120) off4 ![1, 512] inb4).toLoadRect X4)
        (v3.readAt (Elt F) (Rect.unit (s := S90x5120) off3 ![1, 512] inb3).toLoadRect X3))
    (h8 : off8 = ![n', 512 * c]) (h3 : off3 = ![g, 512 * c]) (h4 : off4 = ![g, 512 * c]) (h2 : off2 = ![16 * g, 512 * c])
    (hn : n' + 32 = n) (hg' : n' + 32 * 88 = 32 * g) (hg : g < 90) (hc : c < 10)
    (hL : Fills (WT (v2.read (Elt F) X2) (v3.read (Elt F) X3) (v4.read (Elt F) X4) x5) c n' L) :
    Fills (WT (v2.read (Elt F) X2) (v3.read (Elt F) X3) (v4.read (Elt F) X4) x5) c n (⟨Rect.unit (s := S256x5120) off8 ![32, 512] inb8, P⟩ :: L) := by
  refine Fills.cons h8 hn (fun z y h0 h1 => ?_) hL
  rw [hP, tile_eq v2 v3 v4 X2 X3 X4 h2 h3 h4 (by omega) hc]
  have z0 := idx2_lt0 z
  have z1 := idx2_lt1 z
  have hy : (y 0).val < 64 := by omega
  have eg : (⟨g, by omega⟩ : Fin 90) = ⟨88 + (y 0).val / 32, by omega⟩ := Fin.ext (by show g = 88 + (y 0).val / 32; omega)
  have ec : (⟨c, hc⟩ : Fin 10) = chunk (y 1) := Fin.ext (by show c = (y 1).val / 512; omega)
  unfold WT
  rw [dif_pos hy, ← eg, ← ec]
  congr 1
  funext a
  match a with
  | ⟨0, _⟩ => exact Fin.ext (show (z 0).val = (y 0).val % 32 by omega)
  | ⟨1, _⟩ => exact Fin.ext (show (z 1).val = (y 1).val % 512 by omega)

set_option maxHeartbeats 4000000 in
/-- One trip's stores into the first weight buffer fill column chunk `k` with its tiles. -/
theorem trip_W (𝒱 : Variants) (c : Dev nD) (bd : Option 𝒱.V) (i : grid0.Coords) (arg1 : Memref sig .tc .vmem S1x2880x512 .bf16) (harg1 : arg1.IsWhole) (arg2 : Memref sig .tc .vmem S1440x5120 .i8) (harg2 : arg2.IsWhole) (arg3 : Memref sig .tc .vmem S90x5120 .bf16) (harg3 : arg3.IsWhole) (arg4 : Memref sig .tc .vmem S90x5120 .i8) (harg4 : arg4.IsWhole) (arg5 : Memref sig .tc .vmem S16x90 .bf16) (harg5 : arg5.IsWhole) (arg6 : Memref sig .tc .vmem S16x5120 .bf16) (harg6 : arg6.IsWhole) (arg7 : Memref sig .tc .vmem S512x5120 .bf16) (harg7 : arg7.IsWhole) (arg8 : Memref sig .tc .vmem S2816x5120 .bf16) (harg8 : arg8.IsWhole) (arg9 : Memref sig .tc .vmem S256x5120 .bf16) (harg9 : arg9.IsWhole) (arg10 : Memref sig .tc .vmem S2880x128 .bf16) (harg10 : arg10.IsWhole) (arg11 : Memref sig .tc .vmem S128x256 .bf16) (harg11 : arg11.IsWhole) (k0_h1 : k0_cond1 i = 1#1) (X_arg2 : BufTy.Contents (Elt F) arg2.view.ty) (X_arg3 : BufTy.Contents (Elt F) arg3.view.ty) (X_arg4 : BufTy.Contents (Elt F) arg4.view.ty) (X_arg6 : BufTy.Contents (Elt F) arg6.view.ty) (k : Fin k0_t1_loop.trips) :
    Fills (WM (arg2.view.read (Elt F) X_arg2) (arg3.view.read (Elt F) X_arg3) (arg4.view.read (Elt F) X_arg4)) k.val 2816
      (tripL_k0_t1 (F := F) 𝒱 c bd i arg1 harg1 arg2 harg2 arg3 harg3 arg4 harg4 arg5 harg5 arg6 harg6 arg7 harg7 arg8 harg8 arg9 harg9 arg10 harg10 arg11 harg11 k0_h1 X_arg2 X_arg3 X_arg4 X_arg6 k).1 := by
  have hk : k.val < 10 := Nat.lt_of_lt_of_le k.isLt k0_t1_abs.2.1
  unfold tripL_k0_t1 trip_k0_t1
  dsimp only
  repeat
    refine Fills.consW arg2.view arg3.view arg4.view X_arg2 X_arg3 X_arg4 (by exact rfl) (by exact ClosedOff.eq) (by exact ClosedOff.eq)
      (by exact ClosedOff.eq) (by exact ClosedOff.eq) (by exact rfl) (by exact rfl) (by decide) hk ?_
  exact rfl

set_option maxHeartbeats 4000000 in
/-- One trip's stores into the tail weight buffer fill column chunk `k`. -/
theorem trip_T (𝒱 : Variants) (c : Dev nD) (bd : Option 𝒱.V) (i : grid0.Coords) (arg1 : Memref sig .tc .vmem S1x2880x512 .bf16) (harg1 : arg1.IsWhole) (arg2 : Memref sig .tc .vmem S1440x5120 .i8) (harg2 : arg2.IsWhole) (arg3 : Memref sig .tc .vmem S90x5120 .bf16) (harg3 : arg3.IsWhole) (arg4 : Memref sig .tc .vmem S90x5120 .i8) (harg4 : arg4.IsWhole) (arg5 : Memref sig .tc .vmem S16x90 .bf16) (harg5 : arg5.IsWhole) (arg6 : Memref sig .tc .vmem S16x5120 .bf16) (harg6 : arg6.IsWhole) (arg7 : Memref sig .tc .vmem S512x5120 .bf16) (harg7 : arg7.IsWhole) (arg8 : Memref sig .tc .vmem S2816x5120 .bf16) (harg8 : arg8.IsWhole) (arg9 : Memref sig .tc .vmem S256x5120 .bf16) (harg9 : arg9.IsWhole) (arg10 : Memref sig .tc .vmem S2880x128 .bf16) (harg10 : arg10.IsWhole) (arg11 : Memref sig .tc .vmem S128x256 .bf16) (harg11 : arg11.IsWhole) (k0_h1 : k0_cond1 i = 1#1) (X_arg2 : BufTy.Contents (Elt F) arg2.view.ty) (X_arg3 : BufTy.Contents (Elt F) arg3.view.ty) (X_arg4 : BufTy.Contents (Elt F) arg4.view.ty) (X_arg6 : BufTy.Contents (Elt F) arg6.view.ty) (k : Fin k0_t1_loop.trips) :
    Fills (WT (arg2.view.read (Elt F) X_arg2) (arg3.view.read (Elt F) X_arg3) (arg4.view.read (Elt F) X_arg4) (arg6.view.read (Elt F) X_arg6)) k.val 256
      (tripL_k0_t1 (F := F) 𝒱 c bd i arg1 harg1 arg2 harg2 arg3 harg3 arg4 harg4 arg5 harg5 arg6 harg6 arg7 harg7 arg8 harg8 arg9 harg9 arg10 harg10 arg11 harg11 k0_h1 X_arg2 X_arg3 X_arg4 X_arg6 k).2 := by
  have hk : k.val < 10 := Nat.lt_of_lt_of_le k.isLt k0_t1_abs.2.1
  unfold tripL_k0_t1 trip_k0_t1
  dsimp only
  refine Fills.cons (n' := 80) ClosedOff.eq rfl (fun z y h0 h1 => ?_) ?_
  · have z1 := idx2_lt1 z
    unfold WT
    rw [dif_neg (by omega), dif_neg (by omega)]
    rfl
  refine Fills.cons (n' := 64) ClosedOff.eq rfl (fun z y h0 h1 => ?_) ?_
  · have z0 := idx2_lt0 z
    have z1 := idx2_lt1 z
    have ec : chunk (y 1) = ⟨k.val, hk⟩ := Fin.ext (by show (y 1).val / 512 = k.val; omega)
    unfold WT
    rw [dif_neg (by omega), dif_pos (by omega)]
    refine congr (congrArg k0_pay243 ?_) ?_
    · funext z
      refine (load_eq (r := 0) (c := k.val) arg6.view X_arg6 ClosedOff.eq (by decide) hk z).trans ?_
      congr 1
      funext a
      match a with
      | ⟨0, _⟩ => exact Fin.ext (show 0 + (z 0).val = (z 0).val by omega)
      | ⟨1, _⟩ => exact Fin.ext (show 512 * k.val + (z 1).val = 512 * (chunk (y 1)).val + (z 1).val by rw [ec])
    · funext a
      match a with
      | ⟨0, _⟩ => exact Fin.ext (show (z 0).val = (y 0).val - 64 by omega)
      | ⟨1, _⟩ => exact Fin.ext (show (z 1).val = (y 1).val % 512 by omega)
  repeat
    refine Fills.consT arg2.view arg3.view arg4.view X_arg2 X_arg3 X_arg4 _ (by exact rfl) (by exact ClosedOff.eq) (by exact ClosedOff.eq)
      (by exact ClosedOff.eq) (by exact ClosedOff.eq) (by exact rfl) (by exact rfl) (by decide) hk ?_
  exact rfl

/-- The stores of the trips before `k` are blocks of the two weight buffers and hold every column below `512 k`. -/
theorem pb_ok (𝒱 : Variants) (c : Dev nD) (bd : Option 𝒱.V) (i : grid0.Coords) (arg1 : Memref sig .tc .vmem S1x2880x512 .bf16) (harg1 : arg1.IsWhole) (arg2 : Memref sig .tc .vmem S1440x5120 .i8) (harg2 : arg2.IsWhole) (arg3 : Memref sig .tc .vmem S90x5120 .bf16) (harg3 : arg3.IsWhole) (arg4 : Memref sig .tc .vmem S90x5120 .i8) (harg4 : arg4.IsWhole) (arg5 : Memref sig .tc .vmem S16x90 .bf16) (harg5 : arg5.IsWhole) (arg6 : Memref sig .tc .vmem S16x5120 .bf16) (harg6 : arg6.IsWhole) (arg7 : Memref sig .tc .vmem S512x5120 .bf16) (harg7 : arg7.IsWhole) (arg8 : Memref sig .tc .vmem S2816x5120 .bf16) (harg8 : arg8.IsWhole) (arg9 : Memref sig .tc .vmem S256x5120 .bf16) (harg9 : arg9.IsWhole) (arg10 : Memref sig .tc .vmem S2880x128 .bf16) (harg10 : arg10.IsWhole) (arg11 : Memref sig .tc .vmem S128x256 .bf16) (harg11 : arg11.IsWhole) (k0_h1 : k0_cond1 i = 1#1) (X_arg2 : BufTy.Contents (Elt F) arg2.view.ty) (X_arg3 : BufTy.Contents (Elt F) arg3.view.ty) (X_arg4 : BufTy.Contents (Elt F) arg4.view.ty) (X_arg6 : BufTy.Contents (Elt F) arg6.view.ty)  :
    ∀ k : ℕ, k ≤ k0_t1_loop.trips →
      ((∀ p ∈ (pb_k0_t1 (F := F) 𝒱 c bd i arg1 harg1 arg2 harg2 arg3 harg3 arg4 harg4 arg5 harg5 arg6 harg6 arg7 harg7 arg8 harg8 arg9 harg9 arg10 harg10 arg11 harg11 k0_h1 X_arg2 X_arg3 X_arg4 X_arg6 k).1, ∀ x : p.1.shape.Idx,
          p.2 x = WM (arg2.view.read (Elt F) X_arg2) (arg3.view.read (Elt F) X_arg3) (arg4.view.read (Elt F) X_arg4) (p.1.emb x))
        ∧ (∀ y : S2816x5120.Idx, (y 1).val < 512 * k → ∃ p ∈ (pb_k0_t1 (F := F) 𝒱 c bd i arg1 harg1 arg2 harg2 arg3 harg3 arg4 harg4 arg5 harg5 arg6 harg6 arg7 harg7 arg8 harg8 arg9 harg9 arg10 harg10 arg11 harg11 k0_h1 X_arg2 X_arg3 X_arg4 X_arg6 k).1, y ∈ p.1.set))
      ∧ (∀ p ∈ (pb_k0_t1 (F := F) 𝒱 c bd i arg1 harg1 arg2 harg2 arg3 harg3 arg4 harg4 arg5 harg5 arg6 harg6 arg7 harg7 arg8 harg8 arg9 harg9 arg10 harg10 arg11 harg11 k0_h1 X_arg2 X_arg3 X_arg4 X_arg6 k).2, ∀ x : p.1.shape.Idx,
          p.2 x = WT (arg2.view.read (Elt F) X_arg2) (arg3.view.read (Elt F) X_arg3) (arg4.view.read (Elt F) X_arg4) (arg6.view.read (Elt F) X_arg6) (p.1.emb x))
        ∧ (∀ y : S256x5120.Idx, (y 1).val < 512 * k → ∃ p ∈ (pb_k0_t1 (F := F) 𝒱 c bd i arg1 harg1 arg2 harg2 arg3 harg3 arg4 harg4 arg5 harg5 arg6 harg6 arg7 harg7 arg8 harg8 arg9 harg9 arg10 harg10 arg11 harg11 k0_h1 X_arg2 X_arg3 X_arg4 X_arg6 k).2, y ∈ p.1.set)
  | 0, _ => ⟨⟨fun p hp => absurd hp List.not_mem_nil, fun y hy => by omega⟩, fun p hp => absurd hp List.not_mem_nil, fun y hy => by omega⟩
  | k + 1, hk => by
    have ih := pb_ok 𝒱 c bd i arg1 harg1 arg2 harg2 arg3 harg3 arg4 harg4 arg5 harg5 arg6 harg6 arg7 harg7 arg8 harg8 arg9 harg9 arg10 harg10 arg11 harg11 k0_h1 X_arg2 X_arg3 X_arg4 X_arg6 k (by omega)
    have hW := trip_W (F := F) 𝒱 c bd i arg1 harg1 arg2 harg2 arg3 harg3 arg4 harg4 arg5 harg5 arg6 harg6 arg7 harg7 arg8 harg8 arg9 harg9 arg10 harg10 arg11 harg11 k0_h1 X_arg2 X_arg3 X_arg4 X_arg6 ⟨k, hk⟩
    have hT := trip_T (F := F) 𝒱 c bd i arg1 harg1 arg2 harg2 arg3 harg3 arg4 harg4 arg5 harg5 arg6 harg6 arg7 harg7 arg8 harg8 arg9 harg9 arg10 harg10 arg11 harg11 k0_h1 X_arg2 X_arg3 X_arg4 X_arg6 ⟨k, hk⟩
    rw [pb_k0_t1_succ (F := F) 𝒱 c bd i arg1 harg1 arg2 harg2 arg3 harg3 arg4 harg4 arg5 harg5 arg6 harg6 arg7 harg7 arg8 harg8 arg9 harg9 arg10 harg10 arg11 harg11 k0_h1 X_arg2 X_arg3 X_arg4 X_arg6 ⟨k, hk⟩]
    refine ⟨⟨fun p hp x => ?_, fun y hy => ?_⟩, fun p hp x => ?_, fun y hy => ?_⟩
    · rcases List.mem_append.mp hp with hp | hp
      · exact hW.mem p hp x
      · exact ih.1.1 p hp x
    · by_cases h : (y 1).val < 512 * k
      · obtain ⟨p, hp, hy'⟩ := ih.1.2 y h
        exact ⟨p, List.mem_append_right _ hp, hy'⟩
      · obtain ⟨p, hp, hy'⟩ := hW.cover y (idx2_lt0 y) (by show 512 * k ≤ _; omega) (by show _ < 512 * k + 512; omega)
        exact ⟨p, List.mem_append_left _ hp, hy'⟩
    · rcases List.mem_append.mp hp with hp | hp
      · exact hT.mem p hp x
      · exact ih.2.1 p hp x
    · by_cases h : (y 1).val < 512 * k
      · obtain ⟨p, hp, hy'⟩ := ih.2.2 y h
        exact ⟨p, List.mem_append_right _ hp, hy'⟩
      · obtain ⟨p, hp, hy'⟩ := hT.cover y (idx2_lt0 y) (by show 512 * k ≤ _; omega) (by show _ < 512 * k + 512; omega)
        exact ⟨p, List.mem_append_left _ hp, hy'⟩

/-- After the loop the first weight buffer reads `WM`, whatever it held. -/
theorem read_W (𝒱 : Variants) (c : Dev nD) (bd : Option 𝒱.V) (i : grid0.Coords) (arg1 : Memref sig .tc .vmem S1x2880x512 .bf16) (harg1 : arg1.IsWhole) (arg2 : Memref sig .tc .vmem S1440x5120 .i8) (harg2 : arg2.IsWhole) (arg3 : Memref sig .tc .vmem S90x5120 .bf16) (harg3 : arg3.IsWhole) (arg4 : Memref sig .tc .vmem S90x5120 .i8) (harg4 : arg4.IsWhole) (arg5 : Memref sig .tc .vmem S16x90 .bf16) (harg5 : arg5.IsWhole) (arg6 : Memref sig .tc .vmem S16x5120 .bf16) (harg6 : arg6.IsWhole) (arg7 : Memref sig .tc .vmem S512x5120 .bf16) (harg7 : arg7.IsWhole) (arg8 : Memref sig .tc .vmem S2816x5120 .bf16) (harg8 : arg8.IsWhole) (arg9 : Memref sig .tc .vmem S256x5120 .bf16) (harg9 : arg9.IsWhole) (arg10 : Memref sig .tc .vmem S2880x128 .bf16) (harg10 : arg10.IsWhole) (arg11 : Memref sig .tc .vmem S128x256 .bf16) (harg11 : arg11.IsWhole) (k0_h1 : k0_cond1 i = 1#1) (X_arg2 : BufTy.Contents (Elt F) arg2.view.ty) (X_arg3 : BufTy.Contents (Elt F) arg3.view.ty) (X_arg4 : BufTy.Contents (Elt F) arg4.view.ty) (X_arg6 : BufTy.Contents (Elt F) arg6.view.ty)  (f : arg8.view.ty.Contents (Elt F)) :
    arg8.view.read (Elt F) (arg8.view.writes (Elt F) f (pb_k0_t1 (F := F) 𝒱 c bd i arg1 harg1 arg2 harg2 arg3 harg3 arg4 harg4 arg5 harg5 arg6 harg6 arg7 harg7 arg8 harg8 arg9 harg9 arg10 harg10 arg11 harg11 k0_h1 X_arg2 X_arg3 X_arg4 X_arg6 k0_t1_loop.trips).1)
      = WM (arg2.view.read (Elt F) X_arg2) (arg3.view.read (Elt F) X_arg3) (arg4.view.read (Elt F) X_arg4) :=
  funext fun y => View.read_writes_apply_of_pieces arg8.view f _ _ (pb_ok 𝒱 c bd i arg1 harg1 arg2 harg2 arg3 harg3 arg4 harg4 arg5 harg5 arg6 harg6 arg7 harg7 arg8 harg8 arg9 harg9 arg10 harg10 arg11 harg11 k0_h1 X_arg2 X_arg3 X_arg4 X_arg6 _ le_rfl).1.1 y
    ((pb_ok 𝒱 c bd i arg1 harg1 arg2 harg2 arg3 harg3 arg4 harg4 arg5 harg5 arg6 harg6 arg7 harg7 arg8 harg8 arg9 harg9 arg10 harg10 arg11 harg11 k0_h1 X_arg2 X_arg3 X_arg4 X_arg6 _ le_rfl).1.2 y (by have := idx2_lt1 y; have : k0_t1_loop.trips = 10 := rfl; omega))

/-- After the loop the tail weight buffer reads `WT`, whatever it held. -/
theorem read_T (𝒱 : Variants) (c : Dev nD) (bd : Option 𝒱.V) (i : grid0.Coords) (arg1 : Memref sig .tc .vmem S1x2880x512 .bf16) (harg1 : arg1.IsWhole) (arg2 : Memref sig .tc .vmem S1440x5120 .i8) (harg2 : arg2.IsWhole) (arg3 : Memref sig .tc .vmem S90x5120 .bf16) (harg3 : arg3.IsWhole) (arg4 : Memref sig .tc .vmem S90x5120 .i8) (harg4 : arg4.IsWhole) (arg5 : Memref sig .tc .vmem S16x90 .bf16) (harg5 : arg5.IsWhole) (arg6 : Memref sig .tc .vmem S16x5120 .bf16) (harg6 : arg6.IsWhole) (arg7 : Memref sig .tc .vmem S512x5120 .bf16) (harg7 : arg7.IsWhole) (arg8 : Memref sig .tc .vmem S2816x5120 .bf16) (harg8 : arg8.IsWhole) (arg9 : Memref sig .tc .vmem S256x5120 .bf16) (harg9 : arg9.IsWhole) (arg10 : Memref sig .tc .vmem S2880x128 .bf16) (harg10 : arg10.IsWhole) (arg11 : Memref sig .tc .vmem S128x256 .bf16) (harg11 : arg11.IsWhole) (k0_h1 : k0_cond1 i = 1#1) (X_arg2 : BufTy.Contents (Elt F) arg2.view.ty) (X_arg3 : BufTy.Contents (Elt F) arg3.view.ty) (X_arg4 : BufTy.Contents (Elt F) arg4.view.ty) (X_arg6 : BufTy.Contents (Elt F) arg6.view.ty)  (f : arg9.view.ty.Contents (Elt F)) :
    arg9.view.read (Elt F) (arg9.view.writes (Elt F) f (pb_k0_t1 (F := F) 𝒱 c bd i arg1 harg1 arg2 harg2 arg3 harg3 arg4 harg4 arg5 harg5 arg6 harg6 arg7 harg7 arg8 harg8 arg9 harg9 arg10 harg10 arg11 harg11 k0_h1 X_arg2 X_arg3 X_arg4 X_arg6 k0_t1_loop.trips).2)
      = WT (arg2.view.read (Elt F) X_arg2) (arg3.view.read (Elt F) X_arg3) (arg4.view.read (Elt F) X_arg4) (arg6.view.read (Elt F) X_arg6) :=
  funext fun y => View.read_writes_apply_of_pieces arg9.view f _ _ (pb_ok 𝒱 c bd i arg1 harg1 arg2 harg2 arg3 harg3 arg4 harg4 arg5 harg5 arg6 harg6 arg7 harg7 arg8 harg8 arg9 harg9 arg10 harg10 arg11 harg11 k0_h1 X_arg2 X_arg3 X_arg4 X_arg6 _ le_rfl).2.1 y
    ((pb_ok 𝒱 c bd i arg1 harg1 arg2 harg2 arg3 harg3 arg4 harg4 arg5 harg5 arg6 harg6 arg7 harg7 arg8 harg8 arg9 harg9 arg10 harg10 arg11 harg11 k0_h1 X_arg2 X_arg3 X_arg4 X_arg6 _ le_rfl).2.2 y (by have := idx2_lt1 y; have : k0_t1_loop.trips = 10 := rfl; omega))

end Cert.Kernel.Value

end
-- ==== Proof.Bits.Runs.lean ====
module

public import proofs.«01_k».proof.Proof.Gen.Kernel.Frame
public import proofs.«01_k».proof.Proof.Gen.Kernel.Loops
public import Idealize.ShloMosaic.Lib.ValueIdxCore
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.VecWindow
public import Idealize.ShloMosaic.Lib.WholeRead
public import proofs.«01_k».proof.Proof.Bits.Weights

@[expose] public section

-- membership in a rectangle of production extents (`View.cover_of_tiled`): the elaborator's structural look
-- recurses once per coordinate of the long axes
set_option maxRecDepth 16384

noncomputable section

namespace Cert.Kernel.Value

open Cert.Kernel Cert.Kernel.Gen
open Idealize.ShloMosaic.ValueIdx
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- All rows of one column chunk. -/
def colsOf {N : ℕ} (w : (⟨2, ![N, 5120]⟩ : Shape).Idx → Elt F .bf16) (c : Fin 10) : (⟨2, ![N, 512]⟩ : Shape).Idx → Elt F .bf16 :=
  fun z => w (ix2 (z 0) ⟨512 * c.val + (z 1).val, by have := idx2_lt1 z; omega⟩)

/-- What a grid point writes into the result block from its block of activations and the four scratch buffers: column
    chunk by column chunk the kernel's own expression of the two products' sum. -/
def OUT (x0 : Vec F S1x2880x512 .bf16) (w : Vec F S2816x5120 .bf16) (wt : Vec F S256x5120 .bf16) (p : Vec F S2880x128 .bf16)
    (a : Vec F S128x256 .bf16) : Vec F S512x5120 .bf16 :=
  fun y => k0_pay250 x0 p a (colsOf w (chunk (y 1))) (colsOf wt (chunk (y 1))) (ix2 (y 0) (inChunk (y 1)))

/-- The padded first adapter factor: its transpose in the corner of a zero buffer. -/
def AP (x4 : Vec F S16x90 .bf16) : Vec F S128x256 .bf16 :=
  fun y => if h : (y 0).val < 90 ∧ (y 1).val < 16 then k0_pay247 x4 (ix2 ⟨(y 0).val, h.1⟩ ⟨(y 1).val, h.2⟩) else k0_pay246 y

/-! ## The result block's ten stores -/

/-- The stores of the list are column blocks of `G` and together hold the columns below `n`. -/
def FillsO (G : S512x5120.Idx → Elt F .bf16) : ℕ → List (View.Piece (Elt F) S512x5120 .bf16) → Prop
  | n, [] => n = 0
  | n, p :: L => ∃ n', (∀ x : p.1.shape.Idx, p.2 x = G (p.1.emb x))
      ∧ (∀ y : S512x5120.Idx, n' ≤ (y 1).val → (y 1).val < n → y ∈ p.1.set)
      ∧ FillsO G n' L

theorem FillsO.read {G : S512x5120.Idx → Elt F .bf16} (v : View sig .tc .vmem S512x5120 .bf16) (f : v.ty.Contents (Elt F)) :
    ∀ {n : ℕ} {L : List (View.Piece (Elt F) S512x5120 .bf16)}, FillsO G n L →
      ∀ y : S512x5120.Idx, (y 1).val < n → v.read (Elt F) (v.writes (Elt F) f L) y = G y
  | n, [], h, y, hy => by have : n = 0 := h; omega
  | _, ⟨r, w⟩ :: L, ⟨n', hG, hc, h'⟩, y, hy => by
    by_cases hm : y ∈ r.set
    · obtain ⟨x, rfl⟩ : ∃ x, r.emb x = y := r.exists_idx_of_mem hm
      rw [View.read_writes_cons_emb]
      exact hG x
    · rw [View.read_writes_cons_miss _ _ _ _ _ hm]
      refine h'.read v f y ?_
      by_contra hn
      exact hm (hc y (by omega) hy)

/-- One more store in front: column chunk `c`, the kernel's expression on the loads of the two weight buffers' chunk. -/
theorem FillsO.cons {x0 X0 : Vec F S1x2880x512 .bf16} {w : Vec F S2816x5120 .bf16} {wt : Vec F S256x5120 .bf16} {p P0 : Vec F S2880x128 .bf16}
    {a A0 : Vec F S128x256 .bf16} {W : Vec F S2816x512 .bf16} {T : Vec F S256x512 .bf16} {n n' c : ℕ}
    {L : List (View.Piece (Elt F) S512x5120 .bf16)} {off : Fin 2 → ℕ}
    {inb : ∀ a, off a + (![512, 512] : Fin 2 → ℕ) a ≤ S512x5120.size a} {P : S512x512.Idx → Elt F .bf16}
    (hP : P = k0_pay250 X0 P0 A0 W T) (hoff : off = ![0, n']) (hn : n' + 512 = n) (hc : n' = 512 * c) (hlt : c < 10)
    (hx : X0 = x0) (hp : P0 = p) (ha : A0 = a)
    (hw : ∀ z : S2816x512.Idx, W z = w (ix2 (z 0) ⟨512 * c + (z 1).val, by have := idx2_lt1 z; omega⟩))
    (ht : ∀ z : S256x512.Idx, T z = wt (ix2 (z 0) ⟨512 * c + (z 1).val, by have := idx2_lt1 z; omega⟩))
    (hL : FillsO (OUT x0 w wt p a) n' L) : FillsO (OUT x0 w wt p a) n (⟨Rect.unit (s := S512x5120) off ![512, 512] inb, P⟩ :: L) := by
  subst hoff hx hp ha hP hc
  refine ⟨512 * c, fun z => ?_, fun y h0 h1 => ?_, hL⟩
  · have z0 : (z 0).val < 512 := idx2_lt0 (n0 := 512) (n1 := 512) z
    have z1 : (z 1).val < 512 := idx2_lt1 (n0 := 512) (n1 := 512) z
    have e0 : (Rect.unit (s := S512x5120) ![0, 512 * c] ![512, 512] inb).emb z 0 = ⟨(z 0).val, z0⟩ :=
      Fin.ext (show 0 + 1 * (z 0).val = (z 0).val by omega)
    have e1 : ((Rect.unit (s := S512x5120) ![0, 512 * c] ![512, 512] inb).emb z 1).val = 512 * c + (z 1).val :=
      show 512 * c + 1 * (z 1).val = 512 * c + (z 1).val by omega
    have ec : chunk ((Rect.unit (s := S512x5120) ![0, 512 * c] ![512, 512] inb).emb z 1) = ⟨c, hlt⟩ :=
      Fin.ext (by show ((Rect.unit (s := S512x5120) ![0, 512 * c] ![512, 512] inb).emb z 1).val / 512 = c; rw [e1]; omega)
    have ei : inChunk ((Rect.unit (s := S512x5120) ![0, 512 * c] ![512, 512] inb).emb z 1) = ⟨(z 1).val, z1⟩ :=
      Fin.ext (by show ((Rect.unit (s := S512x5120) ![0, 512 * c] ![512, 512] inb).emb z 1).val % 512 = (z 1).val; rw [e1]; omega)
    have eW : W = colsOf w ⟨c, hlt⟩ := funext hw
    have eT : T = colsOf wt ⟨c, hlt⟩ := funext ht
    show k0_pay250 X0 P0 A0 W T z = k0_pay250 X0 P0 A0 (colsOf w (chunk ((Rect.unit (s := S512x5120) ![0, 512 * c] ![512, 512] inb).emb z 1)))
      (colsOf wt (chunk ((Rect.unit (s := S512x5120) ![0, 512 * c] ![512, 512] inb).emb z 1)))
      (ix2 ((Rect.unit (s := S512x5120) ![0, 512 * c] ![512, 512] inb).emb z 0) (inChunk ((Rect.unit (s := S512x5120) ![0, 512 * c] ![512, 512] inb).emb z 1)))
    rw [ec, ei, e0, eW, eT]
    exact congrArg _ (eq_ix2 (n0 := 512) (n1 := 512) z)
  · have h4 : (y 1).val < 512 * c + 512 := by omega
    exact (Rect.mem_set_unit (inb := inb)).mpr (Fin.forall_fin_two.mpr ⟨⟨Nat.zero_le _, by show (y 0).val < 0 + 512; have := idx2_lt0 y; omega⟩, ⟨h0, h4⟩⟩)

/-- The same with the chunk number read off the column offset. -/
theorem FillsO.step {x0 X0 : Vec F S1x2880x512 .bf16} {w : Vec F S2816x5120 .bf16} {wt : Vec F S256x5120 .bf16} {p P0 : Vec F S2880x128 .bf16}
    {a A0 : Vec F S128x256 .bf16} {W : Vec F S2816x512 .bf16} {T : Vec F S256x512 .bf16} {n n' : ℕ}
    {L : List (View.Piece (Elt F) S512x5120 .bf16)} {off : Fin 2 → ℕ}
    {inb : ∀ a, off a + (![512, 512] : Fin 2 → ℕ) a ≤ S512x5120.size a} {P : S512x512.Idx → Elt F .bf16}
    (hP : P = k0_pay250 X0 P0 A0 W T) (hoff : off = ![0, n']) (hn : n' + 512 = n) (hc : n' = 512 * (n' / 512)) (hlt : n' / 512 < 10)
    (hx : X0 = x0) (hp : P0 = p) (ha : A0 = a)
    (hw : ∀ z : S2816x512.Idx, W z = w (ix2 (z 0) ⟨512 * (n' / 512) + (z 1).val, by have := idx2_lt1 z; omega⟩))
    (ht : ∀ z : S256x512.Idx, T z = wt (ix2 (z 0) ⟨512 * (n' / 512) + (z 1).val, by have := idx2_lt1 z; omega⟩))
    (hL : FillsO (OUT x0 w wt p a) n' L) : FillsO (OUT x0 w wt p a) n (⟨Rect.unit (s := S512x5120) off ![512, 512] inb, P⟩ :: L) :=
  FillsO.cons (c := n' / 512) hP hoff hn hc hlt hx hp ha hw ht hL

/-- A load of all rows of column chunk `c`, of contents that the view reads as `x`. -/
theorem loadCols {N c : ℕ} (v : View sig .tc .vmem (⟨2, ![N, 5120]⟩ : Shape) .bf16) (f : v.ty.Contents (Elt F))
    (x : (⟨2, ![N, 5120]⟩ : Shape).Idx → Elt F .bf16) (hf : v.read (Elt F) f = x) {off : Fin 2 → ℕ}
    {inb : ∀ a, off a + (![N, 512] : Fin 2 → ℕ) a ≤ (⟨2, ![N, 5120]⟩ : Shape).size a} (hoff : off = ![0, 512 * c]) (hc : c < 10)
    (z : (⟨2, ![N, 512]⟩ : Shape).Idx) :
    v.readAt (Elt F) (Rect.unit (s := ⟨2, ![N, 5120]⟩) off ![N, 512] inb).toLoadRect f z
      = x (ix2 (z 0) ⟨512 * c + (z 1).val, by have := idx2_lt1 z; omega⟩) := by
  refine (load_eq (r := 0) v f hoff (by omega) hc z).trans ?_
  rw [hf]
  congr 1
  funext a
  match a with
  | ⟨0, _⟩ => exact Fin.ext (show 0 + (z 0).val = (z 0).val by omega)
  | ⟨1, _⟩ => rfl

/-- One store of a whole buffer leaves its payload. -/
theorem read_whole {s : Shape} {e : EltTy} (v : View sig .tc .vmem s e) (f : v.ty.Contents (Elt F)) {off : Fin s.rank → ℕ}
    {inb : ∀ a, off a + s.size a ≤ s.size a} (w : s.Idx → Elt F e) (L : List (View.Piece (Elt F) s e)) :
    v.read (Elt F) (v.writes (Elt F) f (⟨Rect.unit off s.size inb, w⟩ :: L)) = w := by
  funext y
  have e : (Rect.unit off s.size inb).emb y = y :=
    Rect.emb_eq_of_coords _ _ _ fun a => by show (y a).val = off a + 1 * (y a).val; have := inb a; omega
  have h := View.read_writes_cons_emb v f (Rect.unit off s.size inb) w L y
  rwa [e] at h

/-- The zero fill and the corner store leave the padded first adapter factor. -/
theorem read_AP (v : View sig .tc .vmem S128x256 .bf16) (f : v.ty.Contents (Elt F)) (x4 : Vec F S16x90 .bf16)
    {inb : ∀ a, (![0, 0] : Fin 2 → ℕ) a + S90x16.size a ≤ S128x256.size a} {inb' : ∀ a, (![0, 0] : Fin 2 → ℕ) a + S128x256.size a ≤ S128x256.size a} :
    v.read (Elt F) (v.writes (Elt F) f [⟨Rect.unit (s := S128x256) ![0, 0] S90x16.size inb, k0_pay247 x4⟩,
      ⟨Rect.unit (s := S128x256) ![0, 0] S128x256.size inb', k0_pay246⟩]) = AP x4 := by
  funext y
  unfold AP
  by_cases h : (y 0).val < 90 ∧ (y 1).val < 16
  · rw [dif_pos h]
    have e : (Rect.unit (s := S128x256) ![0, 0] S90x16.size inb).emb (ix2 ⟨(y 0).val, h.1⟩ ⟨(y 1).val, h.2⟩ : S90x16.Idx) = y :=
      Rect.emb_eq_of_coords _ _ _ (Fin.forall_fin_two.mpr ⟨show (y 0).val = 0 + 1 * (y 0).val by omega, show (y 1).val = 0 + 1 * (y 1).val by omega⟩)
    have h' := View.read_writes_cons_emb v f (Rect.unit (s := S128x256) ![0, 0] S90x16.size inb) (k0_pay247 x4)
      [⟨Rect.unit (s := S128x256) ![0, 0] S128x256.size inb', k0_pay246⟩] (ix2 ⟨(y 0).val, h.1⟩ ⟨(y 1).val, h.2⟩ : S90x16.Idx)
    rwa [e] at h'
  · rw [dif_neg h, View.read_writes_cons_miss, read_whole]
    intro hm
    have := (Rect.mem_set_unit (inb := inb)).mp hm
    exact h ⟨by have := (this 0).2; show (y 0).val < 90; exact (Nat.zero_add 90) ▸ this, by have := (this 1).2; show (y 1).val < 16; exact (Nat.zero_add 16) ▸ this⟩

end Cert.Kernel.Value

end
-- ==== Proof.Bits.RunA.lean ====
module

public import proofs.«01_k».proof.Proof.Gen.Kernel.Frame
public import proofs.«01_k».proof.Proof.Gen.Kernel.Loops
public import Idealize.ShloMosaic.Lib.ValueIdxCore
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.VecWindow
public import Idealize.ShloMosaic.Lib.WholeRead
public import proofs.«01_k».proof.Proof.Bits.Runs

@[expose] public section

-- membership in a rectangle of production extents (`View.cover_of_tiled`): the elaborator's structural look
-- recurses once per coordinate of the long axes
set_option maxRecDepth 16384

noncomputable section

namespace Cert.Kernel.Value

open Cert.Kernel Cert.Kernel.Gen
open Idealize.ShloMosaic.ValueIdx
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at the first point: it fills the scratch buffers with the weights, the group indicator and the padded factor, and the result block. -/
theorem runA (c : Dev nD) (i : grid0.Coords) (arg1 : Memref sig .tc .vmem S1x2880x512 .bf16) (harg1 : arg1.IsWhole) (arg2 : Memref sig .tc .vmem S1440x5120 .i8) (harg2 : arg2.IsWhole) (arg3 : Memref sig .tc .vmem S90x5120 .bf16) (harg3 : arg3.IsWhole) (arg4 : Memref sig .tc .vmem S90x5120 .i8) (harg4 : arg4.IsWhole) (arg5 : Memref sig .tc .vmem S16x90 .bf16) (harg5 : arg5.IsWhole) (arg6 : Memref sig .tc .vmem S16x5120 .bf16) (harg6 : arg6.IsWhole) (arg7 : Memref sig .tc .vmem S512x5120 .bf16) (harg7 : arg7.IsWhole) (arg8 : Memref sig .tc .vmem S2816x5120 .bf16) (harg8 : arg8.IsWhole) (arg9 : Memref sig .tc .vmem S256x5120 .bf16) (harg9 : arg9.IsWhole) (arg10 : Memref sig .tc .vmem S2880x128 .bf16) (harg10 : arg10.IsWhole) (arg11 : Memref sig .tc .vmem S128x256 .bf16) (harg11 : arg11.IsWhole) (hc0 : k0_cond1 i = 1#1)
    (x0 : Vec F S1x2880x512 .bf16) (x1 : Vec F S1440x5120 .i8) (x2 : Vec F S90x5120 .bf16) (x3 : Vec F S90x5120 .i8) (x4 : Vec F S16x90 .bf16) (x5 : Vec F S16x5120 .bf16)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (OUT x0 (WM x1 x2 x3) (WT x1 x2 x3 x5) k0_pay245 (AP x4)) ∗ owns (c : Thread nD τ) arg8 fullShare (WM x1 x2 x3) ∗ owns (c : Thread nD τ) arg9 fullShare (WT x1 x2 x3 x5) ∗ owns (c : Thread nD τ) arg10 fullShare k0_pay245 ∗ owns (c : Thread nD τ) arg11 fullShare (AP x4)) -∗ K ⟨⟩))
      ⊢ wp frame (wpE (defs₀ (F := F)) Variants.none c none) E (cc0_qalora i arg1 harg1 arg2 harg2 arg3 harg3 arg4 harg4 arg5 harg5 arg6 harg6 arg7 harg7 arg8 harg8 arg9 harg9 arg10 harg10 arg11 harg11) K := by
  simp only [cc0_qalora_eq_skeleton]; unfold cc0_qalora_skel
  simp only [k0_part63_eq_skeleton, k0_part62_eq_skeleton, k0_part64_eq_skeleton, k0_part65_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%ds0, %fs0, -, HS0⟩, ⟨%ds1, %fs1, -, HS1⟩, ⟨%ds2, %fs2, -, HS2⟩, ⟨%ds3, %fs3, -, HS3⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5
  sl_exec (disch := first | sl_exact hc0)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  have eW := congr (congr (congrArg (WM (F := F)) (harg2.read_unread (Val := Elt F) x1)) (harg3.read_unread (Val := Elt F) x2)) (harg4.read_unread (Val := Elt F) x3)
  have eT := congr (congr (congr (congrArg (WT (F := F)) (harg2.read_unread (Val := Elt F) x1)) (harg3.read_unread (Val := Elt F) x2)) (harg4.read_unread (Val := Elt F) x3)) (harg6.read_unread (Val := Elt F) x5)
  have hW := fun f => (read_W (F := F) Variants.none c none i arg1 harg1 arg2 harg2 arg3 harg3 arg4 harg4 arg5 harg5 arg6 harg6 arg7 harg7 arg8 harg8 arg9 harg9 arg10 harg10 arg11 harg11 hc0 (harg2.unread x1) (harg3.unread x2) (harg4.unread x3) (harg6.unread x5) f).trans eW
  have hT := fun f => (read_T (F := F) Variants.none c none i arg1 harg1 arg2 harg2 arg3 harg3 arg4 harg4 arg5 harg5 arg6 harg6 arg7 harg7 arg8 harg8 arg9 harg9 arg10 harg10 arg11 harg11 hc0 (harg2.unread x1) (harg3.unread x2) (harg4.unread x3) (harg6.unread x5) f).trans eT
  have hA : ∀ f, arg11.view.read (Elt F) (arg11.view.writes (Elt F) f [⟨Rect.unit (s := S128x256) ![0, 0] S90x16.size inb_S128x256_S90x16_0_0, k0_pay247 (arg5.view.readAt (Elt F) (Rect.unit (s := S16x90) ![0, 0] S16x90.size inb_S16x90_S16x90_0_0).toLoadRect (harg5.unread x4))⟩,
      ⟨Rect.unit (s := S128x256) ![0, 0] S128x256.size inb_S128x256_S128x256_0_0, k0_pay246⟩]) = AP x4 := fun f => by
    have e : arg5.view.readAt (Elt F) (Rect.unit (s := S16x90) ![0, 0] S16x90.size inb_S16x90_S16x90_0_0).toLoadRect (harg5.unread x4) = x4 :=
      (View.readAt_full _ _ _).trans (harg5.read_unread _)
    rw [e]
    exact read_AP arg11.view f x4
  isplitl [H6]
  · iexists _; isplitr
    swap
    · iexact H6
    · ipureintro
      refine funext fun y => FillsO.read (n := 5120) arg7.view f6 ?_ y (idx2_lt1 y)
      iterate 10
        refine FillsO.step (by exact rfl) (by exact rfl) (by exact rfl) (by exact rfl) (by decide)
          ((View.readAt_full _ _ _).trans (harg1.read_unread _)) ((View.readAt_full arg10.view _ _).trans (read_whole arg10.view _ _ _))
          ((View.readAt_full arg11.view _ _).trans (hA _))
          (fun z => loadCols arg8.view _ _ (hW _) (by exact rfl) (by decide) z)
          (fun z => loadCols arg9.view _ _ (hT _) (by exact rfl) (by decide) z) ?_
      exact rfl
  isplitl [HS0]
  · iexists _; isplitr
    swap
    · iexact HS0
    · ipureintro; exact hW _
  isplitl [HS1]
  · iexists _; isplitr
    swap
    · iexact HS1
    · ipureintro; exact hT _
  isplitl [HS2]
  · iexists _; isplitr
    swap
    · iexact HS2
    · ipureintro; exact read_whole arg10.view _ _ _
  iexists _; isplitr
  swap
  · iexact HS3
  · ipureintro; exact hA _

end Cert.Kernel.Value

end
-- ==== Proof.Bits.RunB.lean ====
module

public import proofs.«01_k».proof.Proof.Gen.Kernel.Frame
public import proofs.«01_k».proof.Proof.Gen.Kernel.Loops
public import Idealize.ShloMosaic.Lib.ValueIdxCore
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.VecWindow
public import Idealize.ShloMosaic.Lib.WholeRead
public import proofs.«01_k».proof.Proof.Bits.Runs

@[expose] public section

-- membership in a rectangle of production extents (`View.cover_of_tiled`): the elaborator's structural look
-- recurses once per coordinate of the long axes
set_option maxRecDepth 16384

noncomputable section

namespace Cert.Kernel.Value

open Cert.Kernel Cert.Kernel.Gen
open Idealize.ShloMosaic.ValueIdx
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at any later point: the scratch buffers are kept, the result block is computed from them. -/
theorem runB (c : Dev nD) (i : grid0.Coords) (arg1 : Memref sig .tc .vmem S1x2880x512 .bf16) (harg1 : arg1.IsWhole) (arg2 : Memref sig .tc .vmem S1440x5120 .i8) (harg2 : arg2.IsWhole) (arg3 : Memref sig .tc .vmem S90x5120 .bf16) (harg3 : arg3.IsWhole) (arg4 : Memref sig .tc .vmem S90x5120 .i8) (harg4 : arg4.IsWhole) (arg5 : Memref sig .tc .vmem S16x90 .bf16) (harg5 : arg5.IsWhole) (arg6 : Memref sig .tc .vmem S16x5120 .bf16) (harg6 : arg6.IsWhole) (arg7 : Memref sig .tc .vmem S512x5120 .bf16) (harg7 : arg7.IsWhole) (arg8 : Memref sig .tc .vmem S2816x5120 .bf16) (harg8 : arg8.IsWhole) (arg9 : Memref sig .tc .vmem S256x5120 .bf16) (harg9 : arg9.IsWhole) (arg10 : Memref sig .tc .vmem S2880x128 .bf16) (harg10 : arg10.IsWhole) (arg11 : Memref sig .tc .vmem S128x256 .bf16) (harg11 : arg11.IsWhole) (hc0 : ¬ k0_cond1 i = 1#1)
    (x0 : Vec F S1x2880x512 .bf16) (x1 : Vec F S1440x5120 .i8) (x2 : Vec F S90x5120 .bf16) (x3 : Vec F S90x5120 .i8) (x4 : Vec F S16x90 .bf16) (x5 : Vec F S16x5120 .bf16) (w : Vec F S2816x5120 .bf16) (wt : Vec F S256x5120 .bf16) (p : Vec F S2880x128 .bf16) (a : Vec F S128x256 .bf16)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare w ∗ owns (c : Thread nD τ) arg9 fullShare wt ∗ owns (c : Thread nD τ) arg10 fullShare p ∗ owns (c : Thread nD τ) arg11 fullShare a
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (OUT x0 w wt p a) ∗ owns (c : Thread nD τ) arg8 fullShare w ∗ owns (c : Thread nD τ) arg9 fullShare wt ∗ owns (c : Thread nD τ) arg10 fullShare p ∗ owns (c : Thread nD τ) arg11 fullShare a) -∗ K ⟨⟩))
      ⊢ wp frame (wpE (defs₀ (F := F)) Variants.none c none) E (cc0_qalora i arg1 harg1 arg2 harg2 arg3 harg3 arg4 harg4 arg5 harg5 arg6 harg6 arg7 harg7 arg8 harg8 arg9 harg9 arg10 harg10 arg11 harg11) K := by
  simp only [cc0_qalora_eq_skeleton]; unfold cc0_qalora_skel
  simp only [k0_part63_eq_skeleton, k0_part64_eq_skeleton, k0_part65_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, ⟨%fs1, %hfs1, HS1⟩, ⟨%fs2, %hfs2, HS2⟩, ⟨%fs3, %hfs3, HS3⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5
  obtain rfl := harg8.eq_unread hfs0
  obtain rfl := harg9.eq_unread hfs1
  obtain rfl := harg10.eq_unread hfs2
  obtain rfl := harg11.eq_unread hfs3
  sl_exec (disch := first | sl_exact hc0)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr
    swap
    · iexact H6
    · ipureintro
      refine funext fun y => FillsO.read (n := 5120) arg7.view f6 ?_ y (idx2_lt1 y)
      iterate 10
        refine FillsO.step (by exact rfl) (by exact rfl) (by exact rfl) (by exact rfl) (by decide)
          ((View.readAt_full _ _ _).trans (harg1.read_unread _)) ((View.readAt_full _ _ _).trans (harg10.read_unread _))
          ((View.readAt_full _ _ _).trans (harg11.read_unread _))
          (fun z => loadCols arg8.view _ _ (harg8.read_unread _) (by exact rfl) (by decide) z)
          (fun z => loadCols arg9.view _ _ (harg9.read_unread _) (by exact rfl) (by decide) z) ?_
      exact rfl
  isplitl [HS0]
  · iexists _; isplitr; · ipureintro; exact harg8.read_unread _
    iexact HS0
  isplitl [HS1]
  · iexists _; isplitr; · ipureintro; exact harg9.read_unread _
    iexact HS1
  isplitl [HS2]
  · iexists _; isplitr; · ipureintro; exact harg10.read_unread _
    iexact HS2
  iexists _; isplitr; · ipureintro; exact harg11.read_unread _
  iexact HS3

end Cert.Kernel.Value

end
-- ==== Proof.Bits.Frame.lean ====
module

public import proofs.«01_k».proof.Proof.Gen.Kernel.Frame
public import proofs.«01_k».proof.Proof.Gen.Kernel.Loops
public import Idealize.ShloMosaic.Lib.ValueIdxCore
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.VecWindow
public import Idealize.ShloMosaic.Lib.WholeRead
public import Idealize.ShloMosaic.Lib.Claim
public import proofs.«01_k».proof.Proof.Bits.RunA
public import proofs.«01_k».proof.Proof.Bits.RunB

@[expose] public section

-- membership in a rectangle of production extents (`View.cover_of_tiled`): the elaborator's structural look
-- recurses once per coordinate of the long axes
set_option maxRecDepth 16384

noncomputable section

namespace Cert.Kernel.Value

open Cert.Kernel Cert.Kernel.Gen
open Idealize.ShloMosaic.ValueIdx
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 48 = 0 :=
  (fun t => by
    have ht : t.val < 48 := Nat.lt_of_lt_of_eq t.isLt N_0
    have e0 : (grid0.coords t 0).val = t.val / 1 % 48 := Pipeline.Grid.coords_val t 0 (by decide) rfl
    simp only [cond0_0, k0_cond1, e0]
    word_cmp
   : ∀ t : Fin grid0.N, cond0_0 (grid0.coords t) ↔ t.val % 48 = 0)

/-! ## The kernel body on any staging memrefs: a subtype the run finds -/

/-- One staging buffer of output window 6, through which its contents are stated (`View.read_writes_of_cover`: the
    choice does not matter). -/
abbrev VO0_6 : View sig .tc .vmem S512x5120 .bf16 := (Memref.whole cc0_stg6_0 : Memref sig .tc .vmem S512x5120 .bf16).view
/-- Each window's current staging memref at point `t`, spelled as the pipeline passes it (`bodyAt0`), and its wholeness. -/
abbrev ms0_0 (t : Fin cfg0.N) : Memref sig .tc .vmem S1x2880x512 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1440x5120 .i8 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S90x5120 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S90x5120 .i8 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S16x90 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S16x5120 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S512x5120 .bf16 := win0_6.stage (cfg0.slots t 6)
abbrev hs0_6 (t : Fin cfg0.N) : (ms0_6 t).IsWhole := hstage0_6 ((cfg0.slots t 6).cast nbuf0_6)
/-- The scratch operands: whole scoped buffers of the kernel's own, passed beside the windows. -/
abbrev scM0_0 : Memref sig .tc .vmem S2816x5120 .bf16 := Memref.whole cc0_scratch0
abbrev scM0_1 : Memref sig .tc .vmem S256x5120 .bf16 := Memref.whole cc0_scratch1
abbrev scM0_2 : Memref sig .tc .vmem S2880x128 .bf16 := Memref.whole cc0_scratch2
abbrev scM0_3 : Memref sig .tc .vmem S128x256 .bf16 := Memref.whole cc0_scratch3
/-- The scratch `arg8` the kernel carries between points, as a view: what it holds is stated through it. -/
abbrev VS0_0 : View sig .tc .vmem S2816x5120 .bf16 := scM0_0.view
/-- The scratch `arg9` the kernel carries between points, as a view: what it holds is stated through it. -/
abbrev VS0_1 : View sig .tc .vmem S256x5120 .bf16 := scM0_1.view
/-- The scratch `arg10` the kernel carries between points, as a view: what it holds is stated through it. -/
abbrev VS0_2 : View sig .tc .vmem S2880x128 .bf16 := scM0_2.view
/-- The scratch `arg11` the kernel carries between points, as a view: what it holds is stated through it. -/
abbrev VS0_3 : View sig .tc .vmem S128x256 .bf16 := scM0_3.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

/-- The grid's first point. -/
def p0 : Fin cfg0.N := ⟨0, by rw [show cfg0.N = 48 from N_0]; decide⟩

/-- The dequantized weight the first point leaves in the kernel's weight buffers: the rows below 2816, -/
def WMs (c : Dev nD) : Vec F S2816x5120 .bf16 := WM (iblk m c 1 p0) (iblk m c 2 p0) (iblk m c 3 p0)
/-- the last 64 rows with the second adapter factor below them, -/
def WTs (c : Dev nD) : Vec F S256x5120 .bf16 := WT (iblk m c 1 p0) (iblk m c 2 p0) (iblk m c 3 p0) (iblk m c 5 p0)
/-- and the padded first adapter factor. -/
def APs (c : Dev nD) : Vec F S128x256 .bf16 := AP (iblk m c 4 p0)

/-- The invariant: before the first point anything in the kernel's own buffers, afterwards what the first point left. -/
def PhiS (c : Dev nD) : (n : ℕ) → n ≤ cfg0.N → sProp 𝕄
  | 0, _ => Pipeline.ΦA spec0 c
  | n + 1, hn => iprop(iprop(owns (c : Thread nD τ) scM0_0 fullShare (WMs m c) ∗ owns (c : Thread nD τ) scM0_1 fullShare (WTs m c) ∗ owns (c : Thread nD τ) scM0_2 fullShare k0_pay245 ∗ owns (c : Thread nD τ) scM0_3 fullShare (APs m c)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare (WMs m c) ∗ owns (c : Thread nD τ) scM0_1 fullShare (WTs m c) ∗ owns (c : Thread nD τ) scM0_2 fullShare k0_pay245 ∗ owns (c : Thread nD τ) scM0_3 fullShare (APs m c)) ∗ (∃ r, prngReg c r)) := rfl

theorem PhiS_pos (c : Dev nD) (n : ℕ) (h : n ≤ cfg0.N) (hz : n ≠ 0) :
    PhiS m c n h = iprop(iprop(owns (c : Thread nD τ) scM0_0 fullShare (WMs m c) ∗ owns (c : Thread nD τ) scM0_1 fullShare (WTs m c) ∗ owns (c : Thread nD τ) scM0_2 fullShare k0_pay245 ∗ owns (c : Thread nD τ) scM0_3 fullShare (APs m c)) ∗ (∃ r, prngReg c r)) := by
  cases n with
  | zero => exact absurd rfl hz
  | succ n => rfl

/-! ## The pipeline's proof data -/

/-- The pipeline's proof data: after the body at a point each input's buffer holds its block, the output's the product. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => OUT (iblk m c 0 t) (WMs m c) (WTs m c) k0_pay245 (APs m c)
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = OUT (iblk m c 0 t) (WMs m c) (WTs m c) k0_pay245 (APs m c) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t))

set_option maxHeartbeats 6400000 in
/-- The body at any point: the first point fills the kernel's buffers, every later one keeps them. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl,
    after0_0, after0_1, after0_2, after0_3, after0_4, after0_5, after0_6]
  rw [show (dats m 0 c).Φ t.succ = PhiS m c (t.val + 1) t.isLt from rfl, PhiS_succ]
  have hN : t.val < 48 := lt_of_lt_of_eq t.isLt (show cfg0.N = 48 from N_0)
  by_cases hz : t.val = 0
  · obtain rfl : t = p0 := Fin.ext hz
    rw [PhiS_castSucc m c p0, PhiS_zero m c p0.val _ rfl, PhiA0_eq]
    iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩⟩
    iapply (runA c (grid0.coords p0) (ms0_0 p0) (hs0_0 p0) (ms0_1 p0) (hs0_1 p0) (ms0_2 p0) (hs0_2 p0) (ms0_3 p0) (hs0_3 p0) (ms0_4 p0) (hs0_4 p0) (ms0_5 p0) (hs0_5 p0) (ms0_6 p0) (hs0_6 p0) scM0_0 (Memref.isWhole_whole _) scM0_1 (Memref.isWhole_whole _) scM0_2 (Memref.isWhole_whole _) scM0_3 (Memref.isWhole_whole _) ((hcond0_0 p0).mpr rfl) (iblk m c 0 p0) (iblk m c 1 p0) (iblk m c 2 p0) (iblk m c 3 p0) (iblk m c 4 p0) (iblk m c 5 p0) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS0]; · iexact HS0
    isplitl [HS1]; · iexact HS1
    isplitl [HS2]; · iexact HS2
    isplitl [HS3]; · iexact HS3
    iintro ⟨H0, H1, H2, H3, H4, H5, H6, HS0, HS1, HS2, HS3⟩
    isplitl [HS0 HS1 HS2 HS3 Hg]
    · isplitl [HS0 HS1 HS2 HS3]
      · isplitl [HS0]; · iexact HS0
        isplitl [HS1]; · iexact HS1
        isplitl [HS2]; · iexact HS2
        iexact HS3
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · have h0 : ¬ t.val % 48 = 0 := by omega
    rw [PhiS_castSucc m c t, PhiS_pos m c _ _ hz]
    iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩⟩
    iapply (runB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (fun h => h0 ((hcond0_0 t).mp h)) (iblk m c 0 t) (iblk m c 1 t) (iblk m c 2 t) (iblk m c 3 t) (iblk m c 4 t) (iblk m c 5 t) (WMs m c) (WTs m c) k0_pay245 (APs m c) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS0]; · iexact HS0
    isplitl [HS1]; · iexact HS1
    isplitl [HS2]; · iexact HS2
    isplitl [HS3]; · iexact HS3
    iintro ⟨H0, H1, H2, H3, H4, H5, H6, HS0, HS1, HS2, HS3⟩
    isplitl [HS0 HS1 HS2 HS3 Hg]
    · isplitl [HS0 HS1 HS2 HS3]
      · isplitl [HS0]; · iexact HS0
        isplitl [HS1]; · iexact HS1
        isplitl [HS2]; · iexact HS2
        iexact HS3
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, HS3⟩, Hg⟩
  isplitl [HS0 HS1 HS2 HS3]
  · isplitl [HS0]
    · iexists _; iexact HS0
    isplitl [HS1]
    · iexists _; iexact HS1
    isplitl [HS2]
    · iexists _; iexact HS2
    iexists _; iexact HS3
  iexact Hg

/-- The same after the last point. -/
theorem hout (c : Dev nD) : (dats m 0 c).Φ (Fin.last cfg0.N) ⊢ Pipeline.ΦA spec0 c :=
  Phi_out m c _ (by rw [Fin.val_last]; have : cfg0.N = 48 := N_0; omega)

/-! ## The run and the frame -/

-- `θ_run_frame_around_track`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the lines after the region leave it (Lib/Pipeline/Frame.lean `FramePost`). -/
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

/-- Every execution of the kernel terminates with its arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.Kernel.Value

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.FrameKI
public import proofs.«01_k».proof.Proof.KernelRun
public import proofs.«01_k».proof.Proof.RefElem
public import proofs.«01_k».proof.Proof.Bits.Frame
public import Idealize.ShloMosaic.Lib.Quiescent
public import Idealize.ShloMosaic.Adequacy
public import Idealize.ShloMosaic.Init

@[expose] public section

noncomputable section

namespace Cert.Proof

open Idealize.ShloMosaic Idealize.SL.Sem

/-- The reference's run ends with its arguments unchanged; it has no semaphore. -/
theorem frame_r : Cert.quiescent_ReferenceIdeal (hReferenceIdeal := Cert.ReferenceIdeal.Gen.facts) := fun m g _ =>
  (θ_run (Cert.ReferenceIdeal.defs (F := Ideal)) _ _).mono
    (fun r h => And.intro (fun c => (h c).2) (sem_eq_zero_of_no_sems (by decide) r.2))
    (Cert.ReferenceIdeal.Value.run (F := Ideal) m g)

/-- Every execution of the kernel ends with its arguments unchanged and every semaphore at zero. -/
theorem frame_k : Cert.quiescent_Kernel (hKernel := Cert.Kernel.Gen.facts) := fun m ρ _ =>
  Cert.Kernel.Value.frame (F := Bits) m ρ

/-- The kernel's ideal program and the reference's, from equal arguments, end with the same result: both hold
    `Cert.Spec.result` of the arguments at every element. -/
theorem algebraic : Cert.algebraic_KernelIdeal_ReferenceIdeal (hKernelIdeal := Cert.KernelIdeal.Gen.facts) (hReferenceIdeal := Cert.ReferenceIdeal.Gen.facts) := by
  intro m g m' g' _ hm
  refine ⟨fun c => Cert.KernelIdeal.Value.out m c, Cert.KernelIdeal.Value.run_out m g, ?_⟩
  refine (θ_run (Cert.ReferenceIdeal.defs (F := Ideal)) _ _).mono (fun r h c => ⟨(h c).1.trans ?_, (h c).2⟩) (Cert.ReferenceIdeal.Value.run_results m' g')
  obtain ⟨h0, h1, h2, h3, h4, h5⟩ := hm c
  rw [h0, h1, h2, h3, h4, h5]
  funext j
  have e : j = ValueIdx.ix3 (j 0 : Fin 24) (j 1 : Fin 1024) (j 2 : Fin 5120) := by
    funext a; match a with | ⟨0, _⟩ => rfl | ⟨1, _⟩ => rfl | ⟨2, _⟩ => rfl
  exact (congrArg _ e).trans (Cert.ReferenceIdeal.Value.results_apply _ _ _ _ _ _ (j 0) (j 1) (j 2))

/-- All the claims. -/
theorem claim : Cert.Claim :=
  ⟨Cert.Kernel.Gen.facts, Cert.KernelIdeal.Gen.facts, Cert.ReferenceIdeal.Gen.facts,
    frame_k, fun m ρ _ => Cert.KernelIdeal.Value.frame m ρ, frame_r, trivial, algebraic⟩

end Cert.Proof

end
